-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v148)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v148) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)) (v1 : (c : Dev Cert.Kernel2Ideal.nD) → Buf (Elt Ideal) ((c.tc : Thread Cert.Kernel2Ideal.nD Cert.Kernel2Ideal.τ).loc Cert.Kernel2Ideal.main_v7)) (v2 : (c : Dev Cert.Kernel2Ideal.nD) → Buf (Elt Ideal) ((c.tc : Thread Cert.Kernel2Ideal.nD Cert.Kernel2Ideal.τ).loc Cert.Kernel2Ideal.main_v10)) (v3 : (c : Dev Cert.Kernel2Ideal.nD) → Buf (Elt Ideal) ((c.tc : Thread Cert.Kernel2Ideal.nD Cert.Kernel2Ideal.τ).loc Cert.Kernel2Ideal.main_v13)) (v4 : (c : Dev Cert.Kernel2Ideal.nD) → Buf (Elt Ideal) ((c.tc : Thread Cert.Kernel2Ideal.nD Cert.Kernel2Ideal.τ).loc Cert.Kernel2Ideal.main_v16)) (v5 : (c : Dev Cert.Kernel2Ideal.nD) → Buf (Elt Ideal) ((c.tc : Thread Cert.Kernel2Ideal.nD Cert.Kernel2Ideal.τ).loc Cert.Kernel2Ideal.main_v19)) (v6 : (c : Dev Cert.Kernel2Ideal.nD) → Buf (Elt Ideal) ((c.tc : Thread Cert.Kernel2Ideal.nD Cert.Kernel2Ideal.τ).loc Cert.Kernel2Ideal.main_v22)) (v7 : (c : Dev Cert.Kernel2Ideal.nD) → Buf (Elt Ideal) ((c.tc : Thread Cert.Kernel2Ideal.nD Cert.Kernel2Ideal.τ).loc Cert.Kernel2Ideal.main_v25)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_v7) = v1 c
          ∧ r.2.mem ((c.tc : Thread Cert.Kernel2Ideal.nD Cert.Kernel2Ideal.τ).loc Cert.Kernel2Ideal.main_v10) = v2 c
          ∧ r.2.mem ((c.tc : Thread Cert.Kernel2Ideal.nD Cert.Kernel2Ideal.τ).loc Cert.Kernel2Ideal.main_v13) = v3 c
          ∧ r.2.mem ((c.tc : Thread Cert.Kernel2Ideal.nD Cert.Kernel2Ideal.τ).loc Cert.Kernel2Ideal.main_v16) = v4 c
          ∧ r.2.mem ((c.tc : Thread Cert.Kernel2Ideal.nD Cert.Kernel2Ideal.τ).loc Cert.Kernel2Ideal.main_v19) = v5 c
          ∧ r.2.mem ((c.tc : Thread Cert.Kernel2Ideal.nD Cert.Kernel2Ideal.τ).loc Cert.Kernel2Ideal.main_v22) = v6 c
          ∧ r.2.mem ((c.tc : Thread Cert.Kernel2Ideal.nD Cert.Kernel2Ideal.τ).loc Cert.Kernel2Ideal.main_v25) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_v68) = v1 c
          ∧ r.2.mem ((c.tc : Thread Cert.Reference2Ideal.nD Cert.Reference2Ideal.τ).loc Cert.Reference2Ideal.main_v69) = v2 c
          ∧ r.2.mem ((c.tc : Thread Cert.Reference2Ideal.nD Cert.Reference2Ideal.τ).loc Cert.Reference2Ideal.main_v64) = v3 c
          ∧ r.2.mem ((c.tc : Thread Cert.Reference2Ideal.nD Cert.Reference2Ideal.τ).loc Cert.Reference2Ideal.main_v70) = v4 c
          ∧ r.2.mem ((c.tc : Thread Cert.Reference2Ideal.nD Cert.Reference2Ideal.τ).loc Cert.Reference2Ideal.main_v71) = v5 c
          ∧ r.2.mem ((c.tc : Thread Cert.Reference2Ideal.nD Cert.Reference2Ideal.τ).loc Cert.Reference2Ideal.main_v72) = v6 c
          ∧ r.2.mem ((c.tc : Thread Cert.Reference2Ideal.nD Cert.Reference2Ideal.τ).loc Cert.Reference2Ideal.main_v73) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v70) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v60) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v5)) (v1 : (c : Dev Cert.Kernel5Ideal.nD) → Buf (Elt Ideal) ((c.tc : Thread Cert.Kernel5Ideal.nD Cert.Kernel5Ideal.τ).loc Cert.Kernel5Ideal.main_v10)) (v2 : (c : Dev Cert.Kernel5Ideal.nD) → Buf (Elt Ideal) ((c.tc : Thread Cert.Kernel5Ideal.nD Cert.Kernel5Ideal.τ).loc Cert.Kernel5Ideal.main_v14)) (v3 : (c : Dev Cert.Kernel5Ideal.nD) → Buf (Elt Ideal) ((c.tc : Thread Cert.Kernel5Ideal.nD Cert.Kernel5Ideal.τ).loc Cert.Kernel5Ideal.main_v17)) (v4 : (c : Dev Cert.Kernel5Ideal.nD) → Buf (Elt Ideal) ((c.tc : Thread Cert.Kernel5Ideal.nD Cert.Kernel5Ideal.τ).loc Cert.Kernel5Ideal.main_v20)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_v10) = v1 c
          ∧ r.2.mem ((c.tc : Thread Cert.Kernel5Ideal.nD Cert.Kernel5Ideal.τ).loc Cert.Kernel5Ideal.main_v14) = v2 c
          ∧ r.2.mem ((c.tc : Thread Cert.Kernel5Ideal.nD Cert.Kernel5Ideal.τ).loc Cert.Kernel5Ideal.main_v17) = v3 c
          ∧ r.2.mem ((c.tc : Thread Cert.Kernel5Ideal.nD Cert.Kernel5Ideal.τ).loc Cert.Kernel5Ideal.main_v20) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_v34) = v2 c
          ∧ r.2.mem ((c.tc : Thread Cert.Reference5Ideal.nD Cert.Reference5Ideal.τ).loc Cert.Reference5Ideal.main_v39) = v3 c
          ∧ r.2.mem ((c.tc : Thread Cert.Reference5Ideal.nD Cert.Reference5Ideal.τ).loc Cert.Reference5Ideal.main_v40) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)) (v1 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_v3) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S12288x1024 : Shape := ⟨2, ![12288, 1024]⟩
abbrev S12288x512 : Shape := ⟨2, ![12288, 512]⟩
abbrev S12288x2048 : Shape := ⟨2, ![12288, 2048]⟩
abbrev S12288x64 : Shape := ⟨2, ![12288, 64]⟩
abbrev S2048x2048 : Shape := ⟨2, ![2048, 2048]⟩
abbrev S4x512x64 : Shape := ⟨3, ![4, 512, 64]⟩
abbrev S_ : Shape := ⟨0, ![]⟩

class Facts : Prop where
  bcast_S_S12288x1024 : S_.BroadcastsInDim S12288x1024 (![] : Fin 0 → Fin S12288x1024.rank)
  bcast_S_S12288x512 : S_.BroadcastsInDim S12288x512 (![] : Fin 0 → Fin S12288x512.rank)
  bcast_S_S12288x2048 : S_.BroadcastsInDim S12288x2048 (![] : Fin 0 → Fin S12288x2048.rank)
  bcast_S_S12288x64 : S_.BroadcastsInDim S12288x64 (![] : Fin 0 → Fin S12288x64.rank)
  bcast_S_S2048x2048 : S_.BroadcastsInDim S2048x2048 (![] : Fin 0 → Fin S2048x2048.rank)
  bcast_S_S4x512x64 : S_.BroadcastsInDim S4x512x64 (![] : Fin 0 → Fin S4x512x64.rank)

variable [Facts]

def fn {F : FTy → Type} [FloatOps F] (main_arg0 : FVec F S12288x1024 .bf16) (main_arg1 : FVec F S12288x512 .f32) (main_arg2 : FVec F S12288x2048 .bf16) (main_arg3 : FVec F S12288x64 .f32) (main_arg4 : FVec F S2048x2048 .bf16) (main_arg5 : FVec F S4x512x64 .f32) : IVec S12288x1024 1 × IVec S12288x512 1 × IVec S12288x2048 1 × IVec S12288x64 1 × IVec S2048x2048 1 × IVec S4x512x64 1 :=
  let main_v0 : FVec F S12288x1024 .bf16 := Host.absf main_arg0
  let main_cst : FVec F S_ .bf16 := constant S_ .bf16 0x7F80#16
  let main_v1 : FVec F S12288x1024 .bf16 := broadcastInDim S12288x1024 ![] bcast_S_S12288x1024 main_cst
  let main_v2 : IVec S12288x1024 1 := cmpf .olt main_v0 main_v1
  let main_v3 : FVec F S12288x512 .f32 := Host.absf main_arg1
  let main_cst_0 : FVec F S_ .f32 := constant S_ .f32 0x7F800000#32
  let main_v4 : FVec F S12288x512 .f32 := broadcastInDim S12288x512 ![] bcast_S_S12288x512 main_cst_0
  let main_v5 : IVec S12288x512 1 := cmpf .olt main_v3 main_v4
  let main_v6 : FVec F S12288x2048 .bf16 := Host.absf main_arg2
  let main_cst_1 : FVec F S_ .bf16 := constant S_ .bf16 0x7F80#16
  let main_v7 : FVec F S12288x2048 .bf16 := broadcastInDim S12288x2048 ![] bcast_S_S12288x2048 main_cst_1
  let main_v8 : IVec S12288x2048 1 := cmpf .olt main_v6 main_v7
  let main_v9 : FVec F S12288x64 .f32 := Host.absf main_arg3
  let main_cst_2 : FVec F S_ .f32 := constant S_ .f32 0x7F800000#32
  let main_v10 : FVec F S12288x64 .f32 := broadcastInDim S12288x64 ![] bcast_S_S12288x64 main_cst_2
  let main_v11 : IVec S12288x64 1 := cmpf .olt main_v9 main_v10
  let main_v12 : FVec F S2048x2048 .bf16 := Host.absf main_arg4
  let main_cst_3 : FVec F S_ .bf16 := constant S_ .bf16 0x7F80#16
  let main_v13 : FVec F S2048x2048 .bf16 := broadcastInDim S2048x2048 ![] bcast_S_S2048x2048 main_cst_3
  let main_v14 : IVec S2048x2048 1 := cmpf .olt main_v12 main_v13
  let main_v15 : FVec F S4x512x64 .f32 := Host.absf main_arg5
  let main_cst_4 : FVec F S_ .f32 := constant S_ .f32 0x7F800000#32
  let main_v16 : FVec F S4x512x64 .f32 := broadcastInDim S4x512x64 ![] bcast_S_S4x512x64 main_cst_4
  let main_v17 : IVec S4x512x64 1 := cmpf .olt main_v15 main_v16
  (main_v2, main_v5, main_v8, main_v11, main_v14, main_v17)
-- ==== Kernel.lean ====
abbrev S12288x1024 : Shape := ⟨2, ![12288, 1024]⟩
abbrev S12288x512 : Shape := ⟨2, ![12288, 512]⟩
abbrev S12288x2048 : Shape := ⟨2, ![12288, 2048]⟩
abbrev S12288x64 : Shape := ⟨2, ![12288, 64]⟩
abbrev S2048x2048 : Shape := ⟨2, ![2048, 2048]⟩
abbrev S4x512x64 : Shape := ⟨3, ![4, 512, 64]⟩
abbrev S6x2048x1024 : Shape := ⟨3, ![6, 2048, 1024]⟩
abbrev S8192x512 : Shape := ⟨2, ![8192, 512]⟩
abbrev S4x2048x8x64 : Shape := ⟨4, ![4, 2048, 8, 64]⟩
abbrev S2048 : Shape := ⟨1, ![2048]⟩
abbrev S16 : Shape := ⟨1, ![16]⟩
abbrev S_ : Shape := ⟨0, ![]⟩
abbrev S4x2048x8x32 : Shape := ⟨4, ![4, 2048, 8, 32]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S4x2048x8x16 : Shape := ⟨4, ![4, 2048, 8, 16]⟩
abbrev S1x2048x1x16 : Shape := ⟨4, ![1, 2048, 1, 16]⟩
abbrev S4x8x2048x64 : Shape := ⟨4, ![4, 8, 2048, 64]⟩
abbrev S8192x64 : Shape := ⟨2, ![8192, 64]⟩
abbrev S4x2048x1x64 : Shape := ⟨4, ![4, 2048, 1, 64]⟩
abbrev S4x2048x1x32 : Shape := ⟨4, ![4, 2048, 1, 32]⟩
abbrev S4x2048x1x16 : Shape := ⟨4, ![4, 2048, 1, 16]⟩
abbrev S4x2048x64 : Shape := ⟨3, ![4, 2048, 64]⟩
abbrev S6x2048x2048 : Shape := ⟨3, ![6, 2048, 2048]⟩
abbrev S4x512x2048 : Shape := ⟨3, ![4, 512, 2048]⟩
abbrev S4x2048x1024 : Shape := ⟨3, ![4, 2048, 1024]⟩
abbrev S1x256x128 : Shape := ⟨3, ![1, 256, 128]⟩
abbrev S1x1x256x64 : Shape := ⟨4, ![1, 1, 256, 64]⟩
abbrev S1x2048x128 : Shape := ⟨3, ![1, 2048, 128]⟩
abbrev S1x2048x64 : Shape := ⟨3, ![1, 2048, 64]⟩
abbrev S1x512x128 : Shape := ⟨3, ![1, 512, 128]⟩
abbrev S1x512x64 : Shape := ⟨3, ![1, 512, 64]⟩
abbrev S256x128 : Shape := ⟨2, ![256, 128]⟩
abbrev S256x64 : Shape := ⟨2, ![256, 64]⟩
abbrev S256x192 : Shape := ⟨2, ![256, 192]⟩
abbrev S2048x128 : Shape := ⟨2, ![2048, 128]⟩
abbrev S2048x64 : Shape := ⟨2, ![2048, 64]⟩
abbrev S2048x192 : Shape := ⟨2, ![2048, 192]⟩
abbrev S512x128 : Shape := ⟨2, ![512, 128]⟩
abbrev S512x64 : Shape := ⟨2, ![512, 64]⟩
abbrev S512x192 : Shape := ⟨2, ![512, 192]⟩
abbrev S2560x192 : Shape := ⟨2, ![2560, 192]⟩
abbrev S2560x128 : Shape := ⟨2, ![2560, 128]⟩
abbrev S256x2560 : Shape := ⟨2, ![256, 2560]⟩
abbrev S256 : Shape := ⟨1, ![256]⟩
abbrev S256x1 : Shape := ⟨2, ![256, 1]⟩

abbrev nBuf : Space → Nat
  | .hbm => 239
  | .vmem => 18
  | .smem => 0
  | _ => 0

abbrev hbmTy0_0 (i : Nat) : BufTy := match i % 128 with
  | 0 => ⟨S12288x1024, .bf16⟩
  | 1 => ⟨S12288x512, .f32⟩
  | 2 => ⟨S12288x2048, .bf16⟩
  | 3 => ⟨S12288x64, .f32⟩
  | 4 => ⟨S2048x2048, .bf16⟩
  | 5 => ⟨S4x512x64, .f32⟩
  | 6 => ⟨S6x2048x1024, .bf16⟩
  | 7 => ⟨S8192x512, .f32⟩
  | 8 => ⟨S4x2048x8x64, .f32⟩
  | 9 => ⟨S2048, .i32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S_, .i32⟩
  | 25 => ⟨S_, .i32⟩
  | 26 => ⟨S2048, .i32⟩
  | 27 => ⟨S2048, .i32⟩
  | 28 => ⟨S2048, .i32⟩
  | 29 => ⟨S_, .i32⟩
  | 30 => ⟨S2048, .i32⟩
  | 31 => ⟨S2048, .i1⟩
  | 32 => ⟨S2048, .i32⟩
  | 33 => ⟨S2048, .i32⟩
  | 34 => ⟨S_, .i32⟩
  | 35 => ⟨S2048, .i32⟩
  | 36 => ⟨S2048, .i1⟩
  | 37 => ⟨S2048, .i1⟩
  | 38 => ⟨S_, .i32⟩
  | 39 => ⟨S2048, .i32⟩
  | 40 => ⟨S2048, .i32⟩
  | 41 => ⟨S2048, .i32⟩
  | 42 => ⟨S4x2048x8x32, .f32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S2048, .i32⟩
  | 50 => ⟨S2048, .i32⟩
  | 51 => ⟨S_, .i32⟩
  | 52 => ⟨S2048, .i32⟩
  | 53 => ⟨S2048, .i1⟩
  | 54 => ⟨S_, .i32⟩
  | 55 => ⟨S2048, .i32⟩
  | 56 => ⟨S2048, .i1⟩
  | 57 => ⟨S_, .i32⟩
  | 58 => ⟨S_, .i1⟩
  | 59 => ⟨S2048, .i1⟩
  | 60 => ⟨S2048, .i1⟩
  | 61 => ⟨S2048, .i1⟩
  | 62 => ⟨S2048, .i32⟩
  | 63 => ⟨S2048, .i32⟩
  | 64 => ⟨S2048, .i32⟩
  | 65 => ⟨S4x2048x8x32, .f32⟩
  | 66 => ⟨S2048, .f32⟩
  | 67 => ⟨S2048x1, .f32⟩
  | 68 => ⟨S1x16, .f32⟩
  | 69 => ⟨S2048x16, .f32⟩
  | 70 => ⟨S2048x16, .f32⟩
  | 71 => ⟨S2048x16, .f32⟩
  | 72 => ⟨S2048x16, .f32⟩
  | 73 => ⟨S2048x1x16, .f32⟩
  | 74 => ⟨S2048x16, .f32⟩
  | 75 => ⟨S2048x1x16, .f32⟩
  | 76 => ⟨S4x2048x8x16, .f32⟩
  | 77 => ⟨S4x2048x8x16, .f32⟩
  | 78 => ⟨S1x2048x1x16, .f32⟩
  | 79 => ⟨S4x2048x8x16, .f32⟩
  | 80 => ⟨S4x2048x8x16, .f32⟩
  | 81 => ⟨S1x2048x1x16, .f32⟩
  | 82 => ⟨S4x2048x8x16, .f32⟩
  | 83 => ⟨S4x2048x8x16, .f32⟩
  | 84 => ⟨S4x2048x8x16, .f32⟩
  | 85 => ⟨S1x2048x1x16, .f32⟩
  | 86 => ⟨S4x2048x8x16, .f32⟩
  | 87 => ⟨S4x2048x8x16, .f32⟩
  | 88 => ⟨S1x2048x1x16, .f32⟩
  | 89 => ⟨S4x2048x8x16, .f32⟩
  | 90 => ⟨S4x2048x8x16, .f32⟩
  | 91 => ⟨S4x2048x8x16, .f32⟩
  | 92 => ⟨S2048, .f32⟩
  | 93 => ⟨S2048x1, .f32⟩
  | 94 => ⟨S1x16, .f32⟩
  | 95 => ⟨S2048x16, .f32⟩
  | 96 => ⟨S2048x16, .f32⟩
  | 97 => ⟨S2048x16, .f32⟩
  | 98 => ⟨S2048x16, .f32⟩
  | 99 => ⟨S2048x1x16, .f32⟩
  | 100 => ⟨S2048x16, .f32⟩
  | 101 => ⟨S2048x1x16, .f32⟩
  | 102 => ⟨S4x2048x8x16, .f32⟩
  | 103 => ⟨S4x2048x8x16, .f32⟩
  | 104 => ⟨S1x2048x1x16, .f32⟩
  | 105 => ⟨S4x2048x8x16, .f32⟩
  | 106 => ⟨S4x2048x8x16, .f32⟩
  | 107 => ⟨S1x2048x1x16, .f32⟩
  | 108 => ⟨S4x2048x8x16, .f32⟩
  | 109 => ⟨S4x2048x8x16, .f32⟩
  | 110 => ⟨S4x2048x8x16, .f32⟩
  | 111 => ⟨S1x2048x1x16, .f32⟩
  | 112 => ⟨S4x2048x8x16, .f32⟩
  | 113 => ⟨S4x2048x8x16, .f32⟩
  | 114 => ⟨S1x2048x1x16, .f32⟩
  | 115 => ⟨S4x2048x8x16, .f32⟩
  | 116 => ⟨S4x2048x8x16, .f32⟩
  | 117 => ⟨S4x2048x8x16, .f32⟩
  | 118 => ⟨S4x2048x8x64, .f32⟩
  | 119 => ⟨S4x8x2048x64, .f32⟩
  | 120 => ⟨S4x8x2048x64, .bf16⟩
  | 121 => ⟨S8192x64, .f32⟩
  | 122 => ⟨S4x2048x1x64, .f32⟩
  | 123 => ⟨S2048, .i32⟩
  | 124 => ⟨S16, .f32⟩
  | 125 => ⟨S_, .f32⟩
  | 126 => ⟨S16, .f32⟩
  | 127 => ⟨S16, .f32⟩
  | _ => ⟨S12288x1024, .bf16⟩

abbrev hbmTy0_1 (i : Nat) : BufTy := match i % 128 with
  | 0 => ⟨S_, .f32⟩
  | 1 => ⟨S16, .f32⟩
  | 2 => ⟨S16, .f32⟩
  | 3 => ⟨S16, .f32⟩
  | 4 => ⟨S_, .f32⟩
  | 5 => ⟨S16, .f32⟩
  | 6 => ⟨S16, .f32⟩
  | 7 => ⟨S_, .f32⟩
  | 8 => ⟨S16, .f32⟩
  | 9 => ⟨S16, .f32⟩
  | 10 => ⟨S_, .i32⟩
  | 11 => ⟨S_, .i32⟩
  | 12 => ⟨S2048, .i32⟩
  | 13 => ⟨S2048, .i32⟩
  | 14 => ⟨S2048, .i32⟩
  | 15 => ⟨S_, .i32⟩
  | 16 => ⟨S2048, .i32⟩
  | 17 => ⟨S2048, .i1⟩
  | 18 => ⟨S2048, .i32⟩
  | 19 => ⟨S2048, .i32⟩
  | 20 => ⟨S_, .i32⟩
  | 21 => ⟨S2048, .i32⟩
  | 22 => ⟨S2048, .i1⟩
  | 23 => ⟨S2048, .i1⟩
  | 24 => ⟨S_, .i32⟩
  | 25 => ⟨S2048, .i32⟩
  | 26 => ⟨S2048, .i32⟩
  | 27 => ⟨S2048, .i32⟩
  | 28 => ⟨S4x2048x1x32, .f32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S2048, .i32⟩
  | 36 => ⟨S2048, .i32⟩
  | 37 => ⟨S_, .i32⟩
  | 38 => ⟨S2048, .i32⟩
  | 39 => ⟨S2048, .i1⟩
  | 40 => ⟨S_, .i32⟩
  | 41 => ⟨S2048, .i32⟩
  | 42 => ⟨S2048, .i1⟩
  | 43 => ⟨S_, .i32⟩
  | 44 => ⟨S_, .i1⟩
  | 45 => ⟨S2048, .i1⟩
  | 46 => ⟨S2048, .i1⟩
  | 47 => ⟨S2048, .i1⟩
  | 48 => ⟨S2048, .i32⟩
  | 49 => ⟨S2048, .i32⟩
  | 50 => ⟨S2048, .i32⟩
  | 51 => ⟨S4x2048x1x32, .f32⟩
  | 52 => ⟨S2048, .f32⟩
  | 53 => ⟨S2048x1, .f32⟩
  | 54 => ⟨S1x16, .f32⟩
  | 55 => ⟨S2048x16, .f32⟩
  | 56 => ⟨S2048x16, .f32⟩
  | 57 => ⟨S2048x16, .f32⟩
  | 58 => ⟨S2048x16, .f32⟩
  | 59 => ⟨S2048x1x16, .f32⟩
  | 60 => ⟨S2048x16, .f32⟩
  | 61 => ⟨S2048x1x16, .f32⟩
  | 62 => ⟨S4x2048x1x16, .f32⟩
  | 63 => ⟨S4x2048x1x16, .f32⟩
  | 64 => ⟨S1x2048x1x16, .f32⟩
  | 65 => ⟨S4x2048x1x16, .f32⟩
  | 66 => ⟨S4x2048x1x16, .f32⟩
  | 67 => ⟨S1x2048x1x16, .f32⟩
  | 68 => ⟨S4x2048x1x16, .f32⟩
  | 69 => ⟨S4x2048x1x16, .f32⟩
  | 70 => ⟨S4x2048x1x16, .f32⟩
  | 71 => ⟨S1x2048x1x16, .f32⟩
  | 72 => ⟨S4x2048x1x16, .f32⟩
  | 73 => ⟨S4x2048x1x16, .f32⟩
  | 74 => ⟨S1x2048x1x16, .f32⟩
  | 75 => ⟨S4x2048x1x16, .f32⟩
  | 76 => ⟨S4x2048x1x16, .f32⟩
  | 77 => ⟨S4x2048x1x16, .f32⟩
  | 78 => ⟨S2048, .f32⟩
  | 79 => ⟨S2048x1, .f32⟩
  | 80 => ⟨S1x16, .f32⟩
  | 81 => ⟨S2048x16, .f32⟩
  | 82 => ⟨S2048x16, .f32⟩
  | 83 => ⟨S2048x16, .f32⟩
  | 84 => ⟨S2048x16, .f32⟩
  | 85 => ⟨S2048x1x16, .f32⟩
  | 86 => ⟨S2048x16, .f32⟩
  | 87 => ⟨S2048x1x16, .f32⟩
  | 88 => ⟨S4x2048x1x16, .f32⟩
  | 89 => ⟨S4x2048x1x16, .f32⟩
  | 90 => ⟨S1x2048x1x16, .f32⟩
  | 91 => ⟨S4x2048x1x16, .f32⟩
  | 92 => ⟨S4x2048x1x16, .f32⟩
  | 93 => ⟨S1x2048x1x16, .f32⟩
  | 94 => ⟨S4x2048x1x16, .f32⟩
  | 95 => ⟨S4x2048x1x16, .f32⟩
  | 96 => ⟨S4x2048x1x16, .f32⟩
  | 97 => ⟨S1x2048x1x16, .f32⟩
  | 98 => ⟨S4x2048x1x16, .f32⟩
  | 99 => ⟨S4x2048x1x16, .f32⟩
  | 100 => ⟨S1x2048x1x16, .f32⟩
  | 101 => ⟨S4x2048x1x16, .f32⟩
  | 102 => ⟨S4x2048x1x16, .f32⟩
  | 103 => ⟨S4x2048x1x16, .f32⟩
  | 104 => ⟨S4x2048x1x64, .f32⟩
  | 105 => ⟨S4x2048x64, .f32⟩
  | 106 => ⟨S4x2048x64, .bf16⟩
  | 107 => ⟨S6x2048x2048, .bf16⟩
  | 108 => ⟨S4x512x2048, .bf16⟩
  | 109 => ⟨S4x512x64, .bf16⟩
  | 110 => ⟨S4x2048x1024, .bf16⟩
  | _ => ⟨S12288x1024, .bf16⟩

abbrev hbmTy (i : Nat) : BufTy := match i / 128 with
  | 0 => hbmTy0_0 i
  | 1 => hbmTy0_1 i
  | _ => ⟨S12288x1024, .bf16⟩

abbrev bufTy : (tb : Table) → Fin (tcTables nBuf tb) → BufTy
  | .hbm, ⟨i, _⟩ => hbmTy i
  | .local _ .vmem, ⟨0, _⟩ => ⟨S1x256x128, .bf16⟩
  | .local _ .vmem, ⟨1, _⟩ => ⟨S1x256x128, .bf16⟩
  | .local _ .vmem, ⟨2, _⟩ => ⟨S1x1x256x64, .bf16⟩
  | .local _ .vmem, ⟨3, _⟩ => ⟨S1x1x256x64, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x64, .bf16⟩
  | .local _ .vmem, ⟨7, _⟩ => ⟨S1x2048x64, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x512x128, .bf16⟩
  | .local _ .vmem, ⟨11, _⟩ => ⟨S1x512x128, .bf16⟩
  | .local _ .vmem, ⟨12, _⟩ => ⟨S1x512x64, .bf16⟩
  | .local _ .vmem, ⟨13, _⟩ => ⟨S1x512x64, .bf16⟩
  | .local _ .vmem, ⟨14, _⟩ => ⟨S1x512x128, .bf16⟩
  | .local _ .vmem, ⟨15, _⟩ => ⟨S1x512x128, .bf16⟩
  | .local _ .vmem, ⟨16, _⟩ => ⟨S1x256x128, .bf16⟩
  | .local _ .vmem, ⟨17, _⟩ => ⟨S1x256x128, .bf16⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v14 : Ref sig .tc := ⟨.hbm, 41, rfl⟩
abbrev main_v15 : Ref sig .tc := ⟨.hbm, 42, rfl⟩
abbrev main_c_3 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_cst_4 : Ref sig .tc := ⟨.hbm, 125, rfl⟩
abbrev main_v77 : Ref sig .tc := ⟨.hbm, 126, rfl⟩
abbrev main_v78 : Ref sig .tc := ⟨.hbm, 127, rfl⟩
abbrev main_cst_5 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_cst_6 : Ref sig .tc := ⟨.hbm, 132, rfl⟩
abbrev main_v82 : Ref sig .tc := ⟨.hbm, 133, rfl⟩
abbrev main_v83 : Ref sig .tc := ⟨.hbm, 134, rfl⟩
abbrev main_cst_7 : Ref sig .tc := ⟨.hbm, 135, rfl⟩
abbrev main_v84 : Ref sig .tc := ⟨.hbm, 136, rfl⟩
abbrev main_v85 : Ref sig .tc := ⟨.hbm, 137, rfl⟩
abbrev main_c_8 : Ref sig .tc := ⟨.hbm, 138, rfl⟩
abbrev main_call2_v0 : Ref sig .tc := ⟨.hbm, 139, rfl⟩
abbrev main_call2_v1 : Ref sig .tc := ⟨.hbm, 140, rfl⟩
abbrev main_call2_v2 : Ref sig .tc := ⟨.hbm, 141, rfl⟩
abbrev main_call2_v3 : Ref sig .tc := ⟨.hbm, 142, rfl⟩
abbrev main_call2_v4 : Ref sig .tc := ⟨.hbm, 143, rfl⟩
abbrev main_call2_v5 : Ref sig .tc := ⟨.hbm, 144, rfl⟩
abbrev main_call2_v6 : Ref sig .tc := ⟨.hbm, 145, rfl⟩
abbrev main_call2_v7 : Ref sig .tc := ⟨.hbm, 146, rfl⟩
abbrev main_call2_v8 : Ref sig .tc := ⟨.hbm, 147, rfl⟩
abbrev main_call2_c : Ref sig .tc := ⟨.hbm, 148, rfl⟩
abbrev main_call2_v9 : Ref sig .tc := ⟨.hbm, 149, rfl⟩
abbrev main_call2_v10 : Ref sig .tc := ⟨.hbm, 150, rfl⟩
abbrev main_call2_v11 : Ref sig .tc := ⟨.hbm, 151, rfl⟩
abbrev main_call2_c_0 : Ref sig .tc := ⟨.hbm, 152, rfl⟩
abbrev main_call2_v12 : Ref sig .tc := ⟨.hbm, 153, rfl⟩
abbrev main_call2_v13 : Ref sig .tc := ⟨.hbm, 154, rfl⟩
abbrev main_v86 : Ref sig .tc := ⟨.hbm, 155, rfl⟩
abbrev main_v87 : Ref sig .tc := ⟨.hbm, 156, rfl⟩
abbrev main_c_9 : Ref sig .tc := ⟨.hbm, 157, rfl⟩
abbrev main_call3_v0 : Ref sig .tc := ⟨.hbm, 158, rfl⟩
abbrev main_call3_c : Ref sig .tc := ⟨.hbm, 159, rfl⟩
abbrev main_call3_v1 : Ref sig .tc := ⟨.hbm, 160, rfl⟩
abbrev main_call3_c_0 : Ref sig .tc := ⟨.hbm, 161, rfl⟩
abbrev main_call3_v2 : Ref sig .tc := ⟨.hbm, 162, rfl⟩
abbrev main_call3_v3 : Ref sig .tc := ⟨.hbm, 163, rfl⟩
abbrev main_call3_v4 : Ref sig .tc := ⟨.hbm, 164, rfl⟩
abbrev main_call3_c_1 : Ref sig .tc := ⟨.hbm, 165, rfl⟩
abbrev main_call3_v5 : Ref sig .tc := ⟨.hbm, 166, rfl⟩
abbrev main_call3_v6 : Ref sig .tc := ⟨.hbm, 167, rfl⟩
abbrev main_call3_c_2 : Ref sig .tc := ⟨.hbm, 168, rfl⟩
abbrev main_call3_v7 : Ref sig .tc := ⟨.hbm, 169, rfl⟩
abbrev main_call3_v8 : Ref sig .tc := ⟨.hbm, 170, rfl⟩
abbrev main_call3_c_3 : Ref sig .tc := ⟨.hbm, 171, rfl⟩
abbrev main_call3_v9 : Ref sig .tc := ⟨.hbm, 172, rfl⟩
abbrev main_call3_v10 : Ref sig .tc := ⟨.hbm, 173, rfl⟩
abbrev main_call3_v11 : Ref sig .tc := ⟨.hbm, 174, rfl⟩
abbrev main_call3_v12 : Ref sig .tc := ⟨.hbm, 175, rfl⟩
abbrev main_call3_v13 : Ref sig .tc := ⟨.hbm, 176, rfl⟩
abbrev main_call3_v14 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c2_i32_0 : BitVec 32 := 2#32
  let v1 : BitVec 32 := Scalar.muli c2_i32_0 arg1
  let c0_i32 : BitVec 32 := 0#32
  let c0_i32_1 : BitVec 32 := 0#32
  ![v0.toNat, c0_i32.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c2_i32_0 : BitVec 32 := 2#32
  let v1 : BitVec 32 := Scalar.muli c2_i32_0 arg1
  let c1_i32 : BitVec 32 := 1#32
  let v2 : BitVec 32 := Scalar.addi v1 c1_i32
  let c0_i32 : BitVec 32 := 0#32
  let c0_i32_1 : BitVec 32 := 0#32
  ![v0.toNat, c0_i32.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c2_i32 : BitVec 32 := 2#32
  let v1 : BitVec 32 := Scalar.muli c2_i32 arg1
  let c0_i32_0 : BitVec 32 := 0#32
  let c0_i32_1 : BitVec 32 := 0#32
  ![v0.toNat, c0_i32_0.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c2_i32 : BitVec 32 := 2#32
  let v1 : BitVec 32 := Scalar.muli c2_i32 arg1
  let c1_i32 : BitVec 32 := 1#32
  let v2 : BitVec 32 := Scalar.addi v1 c1_i32
  let c0_i32_0 : BitVec 32 := 0#32
  let c0_i32_1 : BitVec 32 := 0#32
  ![v0.toNat, c0_i32_0.toNat, v2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S12288x1024 : Shape := ⟨2, ![12288, 1024]⟩
abbrev S12288x512 : Shape := ⟨2, ![12288, 512]⟩
abbrev S12288x2048 : Shape := ⟨2, ![12288, 2048]⟩
abbrev S12288x64 : Shape := ⟨2, ![12288, 64]⟩
abbrev S2048x2048 : Shape := ⟨2, ![2048, 2048]⟩
abbrev S4x512x64 : Shape := ⟨3, ![4, 512, 64]⟩
abbrev S8192x1024 : Shape := ⟨2, ![8192, 1024]⟩
abbrev S4x2048x8x128 : Shape := ⟨4, ![4, 2048, 8, 128]⟩
abbrev S8192x512 : Shape := ⟨2, ![8192, 512]⟩
abbrev S4x2048x8x64 : Shape := ⟨4, ![4, 2048, 8, 64]⟩
abbrev S8192x2048 : Shape := ⟨2, ![8192, 2048]⟩
abbrev S4x2048x2048 : Shape := ⟨3, ![4, 2048, 2048]⟩
abbrev S4x512x2048 : Shape := ⟨3, ![4, 512, 2048]⟩
abbrev S8192x64 : Shape := ⟨2, ![8192, 64]⟩
abbrev S4x2048x64 : Shape := ⟨3, ![4, 2048, 64]⟩
abbrev S2048 : Shape := ⟨1, ![2048]⟩
abbrev S16 : Shape := ⟨1, ![16]⟩
abbrev S_ : Shape := ⟨0, ![]⟩
abbrev S4x2048x8x32 : Shape := ⟨4, ![4, 2048, 8, 32]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S4x2048x8x16 : Shape := ⟨4, ![4, 2048, 8, 16]⟩
abbrev S1x2048x1x16 : Shape := ⟨4, ![1, 2048, 1, 16]⟩
abbrev S4x2048x8x192 : Shape := ⟨4, ![4, 2048, 8, 192]⟩
abbrev S4x2048x1x64 : Shape := ⟨4, ![4, 2048, 1, 64]⟩
abbrev S4x2048x1x32 : Shape := ⟨4, ![4, 2048, 1, 32]⟩
abbrev S4x2048x1x16 : Shape := ⟨4, ![4, 2048, 1, 16]⟩
abbrev S4x2048x8x256 : Shape := ⟨4, ![4, 2048, 8, 256]⟩
abbrev S4x512x8x256 : Shape := ⟨4, ![4, 512, 8, 256]⟩
abbrev S4x512x8x128 : Shape := ⟨4, ![4, 512, 8, 128]⟩
abbrev S4x512x1x64 : Shape := ⟨4, ![4, 512, 1, 64]⟩
abbrev S4x512x8x64 : Shape := ⟨4, ![4, 512, 8, 64]⟩
abbrev S4x512x8x192 : Shape := ⟨4, ![4, 512, 8, 192]⟩
abbrev S4x2560x8x192 : Shape := ⟨4, ![4, 2560, 8, 192]⟩
abbrev S4x2560x8x128 : Shape := ⟨4, ![4, 2560, 8, 128]⟩
abbrev S4x8x2048x2560 : Shape := ⟨4, ![4, 8, 2048, 2560]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S4x2048x1024 : Shape := ⟨3, ![4, 2048, 1024]⟩

abbrev nBuf : Space → Nat
  | .hbm => 277
  | .vmem => 0
  | .smem => 0
  | _ => 0

abbrev hbmTy0_0 (i : Nat) : BufTy := match i % 128 with
  | 0 => ⟨S12288x1024, .bf16⟩
  | 1 => ⟨S12288x512, .f32⟩
  | 2 => ⟨S12288x2048, .bf16⟩
  | 3 => ⟨S12288x64, .f32⟩
  | 4 => ⟨S2048x2048, .bf16⟩
  | 5 => ⟨S4x512x64, .f32⟩
  | 6 => ⟨S12288x1024, .f32⟩
  | 7 => ⟨S8192x1024, .f32⟩
  | 8 => ⟨S4x2048x8x128, .f32⟩
  | 9 => ⟨S8192x512, .f32⟩
  | 10 => ⟨S4x2048x8x64, .f32⟩
  | 11 => ⟨S12288x2048, .f32⟩
  | 12 => ⟨S8192x2048, .f32⟩
  | 13 => ⟨S4x2048x2048, .f32⟩
  | 14 => ⟨S2048x2048, .f32⟩
  | 15 => ⟨S4x512x2048, .f32⟩
  | 16 => ⟨S8192x64, .f32⟩
  | 17 => ⟨S4x2048x64, .f32⟩
  | 18 => ⟨S2048, .i32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S16, .f32⟩
  | 27 => ⟨S_, .f32⟩
  | 28 => ⟨S16, .f32⟩
  | 29 => ⟨S16, .f32⟩
  | 30 => ⟨S_, .f32⟩
  | 31 => ⟨S16, .f32⟩
  | 32 => ⟨S16, .f32⟩
  | 33 => ⟨S_, .i32⟩
  | 34 => ⟨S_, .i32⟩
  | 35 => ⟨S2048, .i32⟩
  | 36 => ⟨S2048, .i32⟩
  | 37 => ⟨S2048, .i32⟩
  | 38 => ⟨S_, .i32⟩
  | 39 => ⟨S2048, .i32⟩
  | 40 => ⟨S2048, .i1⟩
  | 41 => ⟨S2048, .i32⟩
  | 42 => ⟨S2048, .i32⟩
  | 43 => ⟨S_, .i32⟩
  | 44 => ⟨S2048, .i32⟩
  | 45 => ⟨S2048, .i1⟩
  | 46 => ⟨S2048, .i1⟩
  | 47 => ⟨S_, .i32⟩
  | 48 => ⟨S2048, .i32⟩
  | 49 => ⟨S2048, .i32⟩
  | 50 => ⟨S2048, .i32⟩
  | 51 => ⟨S4x2048x8x32, .f32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S2048, .i32⟩
  | 59 => ⟨S2048, .i32⟩
  | 60 => ⟨S_, .i32⟩
  | 61 => ⟨S2048, .i32⟩
  | 62 => ⟨S2048, .i1⟩
  | 63 => ⟨S_, .i32⟩
  | 64 => ⟨S2048, .i32⟩
  | 65 => ⟨S2048, .i1⟩
  | 66 => ⟨S_, .i32⟩
  | 67 => ⟨S_, .i1⟩
  | 68 => ⟨S2048, .i1⟩
  | 69 => ⟨S2048, .i1⟩
  | 70 => ⟨S2048, .i1⟩
  | 71 => ⟨S2048, .i32⟩
  | 72 => ⟨S2048, .i32⟩
  | 73 => ⟨S2048, .i32⟩
  | 74 => ⟨S4x2048x8x32, .f32⟩
  | 75 => ⟨S2048, .f32⟩
  | 76 => ⟨S2048x1, .f32⟩
  | 77 => ⟨S1x16, .f32⟩
  | 78 => ⟨S2048x16, .f32⟩
  | 79 => ⟨S2048x16, .f32⟩
  | 80 => ⟨S2048x16, .f32⟩
  | 81 => ⟨S2048x16, .f32⟩
  | 82 => ⟨S2048x1x16, .f32⟩
  | 83 => ⟨S2048x16, .f32⟩
  | 84 => ⟨S2048x1x16, .f32⟩
  | 85 => ⟨S4x2048x8x16, .f32⟩
  | 86 => ⟨S4x2048x8x16, .f32⟩
  | 87 => ⟨S1x2048x1x16, .f32⟩
  | 88 => ⟨S4x2048x8x16, .f32⟩
  | 89 => ⟨S4x2048x8x16, .f32⟩
  | 90 => ⟨S1x2048x1x16, .f32⟩
  | 91 => ⟨S4x2048x8x16, .f32⟩
  | 92 => ⟨S4x2048x8x16, .f32⟩
  | 93 => ⟨S4x2048x8x16, .f32⟩
  | 94 => ⟨S1x2048x1x16, .f32⟩
  | 95 => ⟨S4x2048x8x16, .f32⟩
  | 96 => ⟨S4x2048x8x16, .f32⟩
  | 97 => ⟨S1x2048x1x16, .f32⟩
  | 98 => ⟨S4x2048x8x16, .f32⟩
  | 99 => ⟨S4x2048x8x16, .f32⟩
  | 100 => ⟨S4x2048x8x16, .f32⟩
  | 101 => ⟨S2048, .f32⟩
  | 102 => ⟨S2048x1, .f32⟩
  | 103 => ⟨S1x16, .f32⟩
  | 104 => ⟨S2048x16, .f32⟩
  | 105 => ⟨S2048x16, .f32⟩
  | 106 => ⟨S2048x16, .f32⟩
  | 107 => ⟨S2048x16, .f32⟩
  | 108 => ⟨S2048x1x16, .f32⟩
  | 109 => ⟨S2048x16, .f32⟩
  | 110 => ⟨S2048x1x16, .f32⟩
  | 111 => ⟨S4x2048x8x16, .f32⟩
  | 112 => ⟨S4x2048x8x16, .f32⟩
  | 113 => ⟨S1x2048x1x16, .f32⟩
  | 114 => ⟨S4x2048x8x16, .f32⟩
  | 115 => ⟨S4x2048x8x16, .f32⟩
  | 116 => ⟨S1x2048x1x16, .f32⟩
  | 117 => ⟨S4x2048x8x16, .f32⟩
  | 118 => ⟨S4x2048x8x16, .f32⟩
  | 119 => ⟨S4x2048x8x16, .f32⟩
  | 120 => ⟨S1x2048x1x16, .f32⟩
  | 121 => ⟨S4x2048x8x16, .f32⟩
  | 122 => ⟨S4x2048x8x16, .f32⟩
  | 123 => ⟨S1x2048x1x16, .f32⟩
  | 124 => ⟨S4x2048x8x16, .f32⟩
  | 125 => ⟨S4x2048x8x16, .f32⟩
  | 126 => ⟨S4x2048x8x16, .f32⟩
  | 127 => ⟨S4x2048x8x64, .f32⟩
  | _ => ⟨S12288x1024, .bf16⟩

abbrev hbmTy0_1 (i : Nat) : BufTy := match i % 128 with
  | 0 => ⟨S4x2048x8x192, .f32⟩
  | 1 => ⟨S4x2048x1x64, .f32⟩
  | 2 => ⟨S2048, .i32⟩
  | 3 => ⟨S16, .f32⟩
  | 4 => ⟨S_, .f32⟩
  | 5 => ⟨S16, .f32⟩
  | 6 => ⟨S16, .f32⟩
  | 7 => ⟨S_, .f32⟩
  | 8 => ⟨S16, .f32⟩
  | 9 => ⟨S16, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S_, .i32⟩
  | 18 => ⟨S_, .i32⟩
  | 19 => ⟨S2048, .i32⟩
  | 20 => ⟨S2048, .i32⟩
  | 21 => ⟨S2048, .i32⟩
  | 22 => ⟨S_, .i32⟩
  | 23 => ⟨S2048, .i32⟩
  | 24 => ⟨S2048, .i1⟩
  | 25 => ⟨S2048, .i32⟩
  | 26 => ⟨S2048, .i32⟩
  | 27 => ⟨S_, .i32⟩
  | 28 => ⟨S2048, .i32⟩
  | 29 => ⟨S2048, .i1⟩
  | 30 => ⟨S2048, .i1⟩
  | 31 => ⟨S_, .i32⟩
  | 32 => ⟨S2048, .i32⟩
  | 33 => ⟨S2048, .i32⟩
  | 34 => ⟨S2048, .i32⟩
  | 35 => ⟨S4x2048x1x32, .f32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S2048, .i32⟩
  | 43 => ⟨S2048, .i32⟩
  | 44 => ⟨S_, .i32⟩
  | 45 => ⟨S2048, .i32⟩
  | 46 => ⟨S2048, .i1⟩
  | 47 => ⟨S_, .i32⟩
  | 48 => ⟨S2048, .i32⟩
  | 49 => ⟨S2048, .i1⟩
  | 50 => ⟨S_, .i32⟩
  | 51 => ⟨S_, .i1⟩
  | 52 => ⟨S2048, .i1⟩
  | 53 => ⟨S2048, .i1⟩
  | 54 => ⟨S2048, .i1⟩
  | 55 => ⟨S2048, .i32⟩
  | 56 => ⟨S2048, .i32⟩
  | 57 => ⟨S2048, .i32⟩
  | 58 => ⟨S4x2048x1x32, .f32⟩
  | 59 => ⟨S2048, .f32⟩
  | 60 => ⟨S2048x1, .f32⟩
  | 61 => ⟨S1x16, .f32⟩
  | 62 => ⟨S2048x16, .f32⟩
  | 63 => ⟨S2048x16, .f32⟩
  | 64 => ⟨S2048x16, .f32⟩
  | 65 => ⟨S2048x16, .f32⟩
  | 66 => ⟨S2048x1x16, .f32⟩
  | 67 => ⟨S2048x16, .f32⟩
  | 68 => ⟨S2048x1x16, .f32⟩
  | 69 => ⟨S4x2048x1x16, .f32⟩
  | 70 => ⟨S4x2048x1x16, .f32⟩
  | 71 => ⟨S1x2048x1x16, .f32⟩
  | 72 => ⟨S4x2048x1x16, .f32⟩
  | 73 => ⟨S4x2048x1x16, .f32⟩
  | 74 => ⟨S1x2048x1x16, .f32⟩
  | 75 => ⟨S4x2048x1x16, .f32⟩
  | 76 => ⟨S4x2048x1x16, .f32⟩
  | 77 => ⟨S4x2048x1x16, .f32⟩
  | 78 => ⟨S1x2048x1x16, .f32⟩
  | 79 => ⟨S4x2048x1x16, .f32⟩
  | 80 => ⟨S4x2048x1x16, .f32⟩
  | 81 => ⟨S1x2048x1x16, .f32⟩
  | 82 => ⟨S4x2048x1x16, .f32⟩
  | 83 => ⟨S4x2048x1x16, .f32⟩
  | 84 => ⟨S4x2048x1x16, .f32⟩
  | 85 => ⟨S2048, .f32⟩
  | 86 => ⟨S2048x1, .f32⟩
  | 87 => ⟨S1x16, .f32⟩
  | 88 => ⟨S2048x16, .f32⟩
  | 89 => ⟨S2048x16, .f32⟩
  | 90 => ⟨S2048x16, .f32⟩
  | 91 => ⟨S2048x16, .f32⟩
  | 92 => ⟨S2048x1x16, .f32⟩
  | 93 => ⟨S2048x16, .f32⟩
  | 94 => ⟨S2048x1x16, .f32⟩
  | 95 => ⟨S4x2048x1x16, .f32⟩
  | 96 => ⟨S4x2048x1x16, .f32⟩
  | 97 => ⟨S1x2048x1x16, .f32⟩
  | 98 => ⟨S4x2048x1x16, .f32⟩
  | 99 => ⟨S4x2048x1x16, .f32⟩
  | 100 => ⟨S1x2048x1x16, .f32⟩
  | 101 => ⟨S4x2048x1x16, .f32⟩
  | 102 => ⟨S4x2048x1x16, .f32⟩
  | 103 => ⟨S4x2048x1x16, .f32⟩
  | 104 => ⟨S1x2048x1x16, .f32⟩
  | 105 => ⟨S4x2048x1x16, .f32⟩
  | 106 => ⟨S4x2048x1x16, .f32⟩
  | 107 => ⟨S1x2048x1x16, .f32⟩
  | 108 => ⟨S4x2048x1x16, .f32⟩
  | 109 => ⟨S4x2048x1x16, .f32⟩
  | 110 => ⟨S4x2048x1x16, .f32⟩
  | 111 => ⟨S4x2048x1x64, .f32⟩
  | 112 => ⟨S4x2048x64, .f32⟩
  | 113 => ⟨S4x2048x8x256, .f32⟩
  | 114 => ⟨S4x2048x8x128, .f32⟩
  | 115 => ⟨S4x2048x1x64, .f32⟩
  | 116 => ⟨S4x2048x8x64, .f32⟩
  | 117 => ⟨S4x2048x8x192, .f32⟩
  | 118 => ⟨S4x2048x8x128, .f32⟩
  | 119 => ⟨S4x512x8x256, .f32⟩
  | 120 => ⟨S4x512x8x128, .f32⟩
  | 121 => ⟨S4x512x1x64, .f32⟩
  | 122 => ⟨S4x512x8x64, .f32⟩
  | 123 => ⟨S4x512x8x192, .f32⟩
  | 124 => ⟨S4x512x8x128, .f32⟩
  | 125 => ⟨S4x2560x8x192, .f32⟩
  | 126 => ⟨S4x2560x8x128, .f32⟩
  | 127 => ⟨S4x8x2048x2560, .f32⟩
  | _ => ⟨S12288x1024, .bf16⟩

abbrev hbmTy0_2 (i : Nat) : BufTy := match i % 128 with
  | 0 => ⟨S_, .f32⟩
  | 1 => ⟨S4x8x2048x2560, .f32⟩
  | 2 => ⟨S4x8x2048x2560, .f32⟩
  | 3 => ⟨S_, .f32⟩
  | 4 => ⟨S4x8x2048, .f32⟩
  | 5 => ⟨S_, .f32⟩
  | 6 => ⟨S4x8x2048, .f32⟩
  | 7 => ⟨S4x8x2048, .f32⟩
  | 8 => ⟨S4x8x2048x1, .f32⟩
  | 9 => ⟨S4x8x2048x2560, .f32⟩
  | 10 => ⟨S4x8x2048x2560, .f32⟩
  | 11 => ⟨S4x8x2048x2560, .f32⟩
  | 12 => ⟨S_, .f32⟩
  | 13 => ⟨S4x8x2048, .f32⟩
  | 14 => ⟨S4x8x2048x1, .f32⟩
  | 15 => ⟨S4x8x2048x2560, .f32⟩
  | 16 => ⟨S4x8x2048x2560, .f32⟩
  | 17 => ⟨S4x8x128x2048, .f32⟩
  | 18 => ⟨S4x2048x8x128, .f32⟩
  | 19 => ⟨S4x2048x1024, .f32⟩
  | 20 => ⟨S4x2048x1024, .bf16⟩
  | _ => ⟨S12288x1024, .bf16⟩

abbrev hbmTy (i : Nat) : BufTy := match i / 128 with
  | 0 => hbmTy0_0 i
  | 1 => hbmTy0_1 i
  | 2 => hbmTy0_2 i
  | _ => ⟨S12288x1024, .bf16⟩

abbrev bufTy : (tb : Table) → Fin (tcTables nBuf tb) → BufTy
  | .hbm, ⟨i, _⟩ => hbmTy i
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v23 : Ref sig .tc := ⟨.hbm, 50, rfl⟩
abbrev main_v24 : Ref sig .tc := ⟨.hbm, 51, rfl⟩
abbrev main_c_3 : Ref sig .tc := ⟨.hbm, 52, rfl⟩
abbrev main_call1_v0 : Ref sig .tc := ⟨.hbm, 53, rfl⟩
abbrev main_call1_c : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_c_1 : Ref sig .tc := ⟨.hbm, 60, rfl⟩
abbrev main_call1_v5 : Ref sig .tc := ⟨.hbm, 61, rfl⟩
abbrev main_call1_v6 : Ref sig .tc := ⟨.hbm, 62, rfl⟩
abbrev main_call1_c_2 : Ref sig .tc := ⟨.hbm, 63, rfl⟩
abbrev main_call1_v7 : Ref sig .tc := ⟨.hbm, 64, rfl⟩
abbrev main_call1_v8 : Ref sig .tc := ⟨.hbm, 65, rfl⟩
abbrev main_call1_c_3 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_cst_4 : Ref sig .tc := ⟨.hbm, 132, rfl⟩
abbrev main_v84 : Ref sig .tc := ⟨.hbm, 133, rfl⟩
abbrev main_v85 : Ref sig .tc := ⟨.hbm, 134, rfl⟩
abbrev main_cst_5 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_cst_6 : Ref sig .tc := ⟨.hbm, 139, rfl⟩
abbrev main_v89 : Ref sig .tc := ⟨.hbm, 140, rfl⟩
abbrev main_v90 : Ref sig .tc := ⟨.hbm, 141, rfl⟩
abbrev main_cst_7 : Ref sig .tc := ⟨.hbm, 142, rfl⟩
abbrev main_v91 : Ref sig .tc := ⟨.hbm, 143, rfl⟩
abbrev main_v92 : Ref sig .tc := ⟨.hbm, 144, rfl⟩
abbrev main_c_8 : Ref sig .tc := ⟨.hbm, 145, rfl⟩
abbrev main_call2_v0 : Ref sig .tc := ⟨.hbm, 146, rfl⟩
abbrev main_call2_v1 : Ref sig .tc := ⟨.hbm, 147, rfl⟩
abbrev main_call2_v2 : Ref sig .tc := ⟨.hbm, 148, rfl⟩
abbrev main_call2_v3 : Ref sig .tc := ⟨.hbm, 149, rfl⟩
abbrev main_call2_v4 : Ref sig .tc := ⟨.hbm, 150, rfl⟩
abbrev main_call2_v5 : Ref sig .tc := ⟨.hbm, 151, rfl⟩
abbrev main_call2_v6 : Ref sig .tc := ⟨.hbm, 152, rfl⟩
abbrev main_call2_v7 : Ref sig .tc := ⟨.hbm, 153, rfl⟩
abbrev main_call2_v8 : Ref sig .tc := ⟨.hbm, 154, rfl⟩
abbrev main_call2_c : Ref sig .tc := ⟨.hbm, 155, rfl⟩
abbrev main_call2_v9 : Ref sig .tc := ⟨.hbm, 156, rfl⟩
abbrev main_call2_v10 : Ref sig .tc := ⟨.hbm, 157, rfl⟩
abbrev main_call2_v11 : Ref sig .tc := ⟨.hbm, 158, rfl⟩
abbrev main_call2_c_0 : Ref sig .tc := ⟨.hbm, 159, rfl⟩
abbrev main_call2_v12 : Ref sig .tc := ⟨.hbm, 160, rfl⟩
abbrev main_call2_v13 : Ref sig .tc := ⟨.hbm, 161, rfl⟩
abbrev main_v93 : Ref sig .tc := ⟨.hbm, 162, rfl⟩
abbrev main_v94 : Ref sig .tc := ⟨.hbm, 163, rfl⟩
abbrev main_c_9 : Ref sig .tc := ⟨.hbm, 164, rfl⟩
abbrev main_call3_v0 : Ref sig .tc := ⟨.hbm, 165, rfl⟩
abbrev main_call3_c : Ref sig .tc := ⟨.hbm, 166, rfl⟩
abbrev main_call3_v1 : Ref sig .tc := ⟨.hbm, 167, rfl⟩
abbrev main_call3_c_0 : Ref sig .tc := ⟨.hbm, 168, rfl⟩
abbrev main_call3_v2 : Ref sig .tc := ⟨.hbm, 169, rfl⟩
abbrev main_call3_v3 : Ref sig .tc := ⟨.hbm, 170, rfl⟩
abbrev main_call3_v4 : Ref sig .tc := ⟨.hbm, 171, rfl⟩
abbrev main_call3_c_1 : Ref sig .tc := ⟨.hbm, 172, rfl⟩
abbrev main_call3_v5 : Ref sig .tc := ⟨.hbm, 173, rfl⟩
abbrev main_call3_v6 : Ref sig .tc := ⟨.hbm, 174, rfl⟩
abbrev main_call3_c_2 : Ref sig .tc := ⟨.hbm, 175, rfl⟩
abbrev main_call3_v7 : Ref sig .tc := ⟨.hbm, 176, rfl⟩
abbrev main_call3_v8 : Ref sig .tc := ⟨.hbm, 177, rfl⟩
abbrev main_call3_c_3 : Ref sig .tc := ⟨.hbm, 178, rfl⟩
abbrev main_call3_v9 : Ref sig .tc := ⟨.hbm, 179, rfl⟩
abbrev main_call3_v10 : Ref sig .tc := ⟨.hbm, 180, rfl⟩
abbrev main_call3_v11 : Ref sig .tc := ⟨.hbm, 181, rfl⟩
abbrev main_call3_v12 : Ref sig .tc := ⟨.hbm, 182, rfl⟩
abbrev main_call3_v13 : Ref sig .tc := ⟨.hbm, 183, rfl⟩
abbrev main_call3_v14 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_10 : Ref sig .tc := ⟨.hbm, 256, rfl⟩
abbrev main_v166 : Ref sig .tc := ⟨.hbm, 257, rfl⟩
abbrev main_v167 : Ref sig .tc := ⟨.hbm, 258, rfl⟩
abbrev main_cst_11 : Ref sig .tc := ⟨.hbm, 259, rfl⟩
abbrev main_v168 : Ref sig .tc := ⟨.hbm, 260, rfl⟩
abbrev main_cst_12 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_cst_13 : Ref sig .tc := ⟨.hbm, 268, rfl⟩
abbrev main_v175 : Ref sig .tc := ⟨.hbm, 269, rfl⟩
abbrev main_v176 : Ref sig .tc := ⟨.hbm, 270, rfl⟩
abbrev main_v177 : Ref sig .tc := ⟨.hbm, 271, rfl⟩
abbrev main_v178 : Ref sig .tc := ⟨.hbm, 272, rfl⟩
abbrev main_v179 : Ref sig .tc := ⟨.hbm, 273, rfl⟩
abbrev main_v180 : Ref sig .tc := ⟨.hbm, 274, rfl⟩
abbrev main_v181 : Ref sig .tc := ⟨.hbm, 275, rfl⟩
abbrev main_v182 : Ref sig .tc := ⟨.hbm, 276, rfl⟩

abbrev nD : Nat := 1
abbrev τ : Topo := Topo.v7x

variable {F : FTy → Type} [FloatOps F]
-- ==== Kernel2.lean ====
abbrev S12288x2048 : Shape := ⟨2, ![12288, 2048]⟩
abbrev S2048 : Shape := ⟨1, ![2048]⟩
abbrev S48x1x2048 : Shape := ⟨3, ![48, 1, 2048]⟩
abbrev S2048x19296 : Shape := ⟨2, ![2048, 19296]⟩
abbrev S1x2048 : Shape := ⟨2, ![1, 2048]⟩
abbrev S1024x2048 : Shape := ⟨2, ![1024, 2048]⟩
abbrev S1x1x2048 : Shape := ⟨3, ![1, 1, 2048]⟩
abbrev S1024 : Shape := ⟨1, ![1024]⟩
abbrev S1024x1 : Shape := ⟨2, ![1024, 1]⟩
abbrev S2048x832 : Shape := ⟨2, ![2048, 832]⟩
abbrev S12288x832 : Shape := ⟨2, ![12288, 832]⟩
abbrev S1024x832 : Shape := ⟨2, ![1024, 832]⟩
abbrev S2048x3072 : Shape := ⟨2, ![2048, 3072]⟩
abbrev S12288x3072 : Shape := ⟨2, ![12288, 3072]⟩
abbrev S2048x512 : Shape := ⟨2, ![2048, 512]⟩
abbrev S1024x512 : Shape := ⟨2, ![1024, 512]⟩
abbrev S2048x1024 : Shape := ⟨2, ![2048, 1024]⟩
abbrev S12288x1024 : Shape := ⟨2, ![12288, 1024]⟩
abbrev S2048x32 : Shape := ⟨2, ![2048, 32]⟩
abbrev S12288x32 : Shape := ⟨2, ![12288, 32]⟩
abbrev S1024x32 : Shape := ⟨2, ![1024, 32]⟩
abbrev S2048x2048 : Shape := ⟨2, ![2048, 2048]⟩
abbrev S4096x2048 : Shape := ⟨2, ![4096, 2048]⟩
abbrev S2048x8192 : Shape := ⟨2, ![2048, 8192]⟩
abbrev S12288x8192 : Shape := ⟨2, ![12288, 8192]⟩

abbrev nBuf : Space → Nat
  | .hbm => 30
  | .vmem => 55
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S48x1x2048, .f32⟩
  | .hbm, ⟨3, _⟩ => ⟨S2048x19296, .f32⟩
  | .hbm, ⟨4, _⟩ => ⟨S1x2048, .f32⟩
  | .hbm, ⟨5, _⟩ => ⟨S12288x2048, .bf16⟩
  | .hbm, ⟨6, _⟩ => ⟨S2048x832, .f32⟩
  | .hbm, ⟨7, _⟩ => ⟨S2048x832, .bf16⟩
  | .hbm, ⟨8, _⟩ => ⟨S12288x832, .f32⟩
  | .hbm, ⟨9, _⟩ => ⟨S2048x3072, .f32⟩
  | .hbm, ⟨10, _⟩ => ⟨S2048x3072, .bf16⟩
  | .hbm, ⟨11, _⟩ => ⟨S12288x3072, .bf16⟩
  | .hbm, ⟨12, _⟩ => ⟨S2048x1024, .f32⟩
  | .hbm, ⟨13, _⟩ => ⟨S2048x1024, .bf16⟩
  | .hbm, ⟨14, _⟩ => ⟨S12288x1024, .bf16⟩
  | .hbm, ⟨15, _⟩ => ⟨S2048x32, .f32⟩
  | .hbm, ⟨16, _⟩ => ⟨S2048x32, .bf16⟩
  | .hbm, ⟨17, _⟩ => ⟨S12288x32, .f32⟩
  | .hbm, ⟨18, _⟩ => ⟨S2048x3072, .f32⟩
  | .hbm, ⟨19, _⟩ => ⟨S2048x3072, .bf16⟩
  | .hbm, ⟨20, _⟩ => ⟨S12288x3072, .bf16⟩
  | .hbm, ⟨21, _⟩ => ⟨S2048x3072, .f32⟩
  | .hbm, ⟨22, _⟩ => ⟨S2048x3072, .bf16⟩
  | .hbm, ⟨23, _⟩ => ⟨S12288x3072, .bf16⟩
  | .hbm, ⟨24, _⟩ => ⟨S2048x2048, .f32⟩
  | .hbm, ⟨25, _⟩ => ⟨S2048x2048, .bf16⟩
  | .hbm, ⟨26, _⟩ => ⟨S4096x2048, .f32⟩
  | .hbm, ⟨27, _⟩ => ⟨S2048x8192, .f32⟩
  | .hbm, ⟨28, _⟩ => ⟨S2048x8192, .bf16⟩
  | .hbm, ⟨29, _⟩ => ⟨S12288x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S2048x832, .bf16⟩
  | .local _ .vmem, ⟨12, _⟩ => ⟨S1024x832, .f32⟩
  | .local _ .vmem, ⟨13, _⟩ => ⟨S1024x832, .f32⟩
  | .local _ .vmem, ⟨14, _⟩ => ⟨S1024x2048, .bf16⟩
  | .local _ .vmem, ⟨15, _⟩ => ⟨S1024x2048, .bf16⟩
  | .local _ .vmem, ⟨16, _⟩ => ⟨S2048x512, .bf16⟩
  | .local _ .vmem, ⟨17, _⟩ => ⟨S2048x512, .bf16⟩
  | .local _ .vmem, ⟨18, _⟩ => ⟨S1024x512, .bf16⟩
  | .local _ .vmem, ⟨19, _⟩ => ⟨S1024x512, .bf16⟩
  | .local _ .vmem, ⟨20, _⟩ => ⟨S1024x2048, .bf16⟩
  | .local _ .vmem, ⟨21, _⟩ => ⟨S1024x2048, .bf16⟩
  | .local _ .vmem, ⟨22, _⟩ => ⟨S2048x512, .bf16⟩
  | .local _ .vmem, ⟨23, _⟩ => ⟨S2048x512, .bf16⟩
  | .local _ .vmem, ⟨24, _⟩ => ⟨S1024x512, .bf16⟩
  | .local _ .vmem, ⟨25, _⟩ => ⟨S1024x512, .bf16⟩
  | .local _ .vmem, ⟨26, _⟩ => ⟨S1024x2048, .bf16⟩
  | .local _ .vmem, ⟨27, _⟩ => ⟨S1024x2048, .bf16⟩
  | .local _ .vmem, ⟨28, _⟩ => ⟨S2048x32, .bf16⟩
  | .local _ .vmem, ⟨29, _⟩ => ⟨S1024x32, .f32⟩
  | .local _ .vmem, ⟨30, _⟩ => ⟨S1024x32, .f32⟩
  | .local _ .vmem, ⟨31, _⟩ => ⟨S1024x2048, .bf16⟩
  | .local _ .vmem, ⟨32, _⟩ => ⟨S1024x2048, .bf16⟩
  | .local _ .vmem, ⟨33, _⟩ => ⟨S2048x512, .bf16⟩
  | .local _ .vmem, ⟨34, _⟩ => ⟨S2048x512, .bf16⟩
  | .local _ .vmem, ⟨35, _⟩ => ⟨S1024x512, .bf16⟩
  | .local _ .vmem, ⟨36, _⟩ => ⟨S1024x512, .bf16⟩
  | .local _ .vmem, ⟨37, _⟩ => ⟨S1024x2048, .bf16⟩
  | .local _ .vmem, ⟨38, _⟩ => ⟨S1024x2048, .bf16⟩
  | .local _ .vmem, ⟨39, _⟩ => ⟨S2048x512, .bf16⟩
  | .local _ .vmem, ⟨40, _⟩ => ⟨S2048x512, .bf16⟩
  | .local _ .vmem, ⟨41, _⟩ => ⟨S1024x512, .bf16⟩
  | .local _ .vmem, ⟨42, _⟩ => ⟨S1024x512, .bf16⟩
  | .local _ .vmem, ⟨43, _⟩ => ⟨S1024x2048, .bf16⟩
  | .local _ .vmem, ⟨44, _⟩ => ⟨S1024x2048, .bf16⟩
  | .local _ .vmem, ⟨45, _⟩ => ⟨S2048x512, .bf16⟩
  | .local _ .vmem, ⟨46, _⟩ => ⟨S2048x512, .bf16⟩
  | .local _ .vmem, ⟨47, _⟩ => ⟨S1024x512, .f32⟩
  | .local _ .vmem, ⟨48, _⟩ => ⟨S1024x512, .f32⟩
  | .local _ .vmem, ⟨49, _⟩ => ⟨S1024x2048, .bf16⟩
  | .local _ .vmem, ⟨50, _⟩ => ⟨S1024x2048, .bf16⟩
  | .local _ .vmem, ⟨51, _⟩ => ⟨S2048x512, .bf16⟩
  | .local _ .vmem, ⟨52, _⟩ => ⟨S2048x512, .bf16⟩
  | .local _ .vmem, ⟨53, _⟩ => ⟨S1024x512, .bf16⟩
  | .local _ .vmem, ⟨54, _⟩ => ⟨S1024x512, .bf16⟩
  | _, _ => ⟨S12288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg1_1 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg1_1 : Ref sig .tc := ⟨.vmem, 46, rfl⟩
abbrev cc7_stg2_0 : Ref sig .tc := ⟨.vmem, 47, rfl⟩
abbrev cc7_stg2_1 : Ref sig .tc := ⟨.vmem, 48, rfl⟩
abbrev cc8_stg0_0 : Ref sig .tc := ⟨.vmem, 49, rfl⟩
abbrev cc8_stg0_1 : Ref sig .tc := ⟨.vmem, 50, rfl⟩
abbrev cc8_stg1_0 : Ref sig .tc := ⟨.vmem, 51, rfl⟩
abbrev cc8_stg1_1 : Ref sig .tc := ⟨.vmem, 52, rfl⟩
abbrev cc8_stg2_0 : Ref sig .tc := ⟨.vmem, 53, rfl⟩
abbrev cc8_stg2_1 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc6_sem0_0 : DmaSem sig := 37
abbrev cc6_sem0_1 : DmaSem sig := 38
abbrev cc6_sem1_0 : DmaSem sig := 39
abbrev cc6_sem1_1 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem1_1 : DmaSem sig := 46
abbrev cc7_sem2_0 : DmaSem sig := 47
abbrev cc7_sem2_1 : DmaSem sig := 48
abbrev cc8_sem0_0 : DmaSem sig := 49
abbrev cc8_sem0_1 : DmaSem sig := 50
abbrev cc8_sem1_0 : DmaSem sig := 51
abbrev cc8_sem1_1 : DmaSem sig := 52
abbrev cc8_sem2_0 : DmaSem sig := 53
abbrev cc8_sem2_1 : DmaSem sig := 54

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c6_i32 : BitVec 32 := 6#32
  let v21 : BitVec 32 := Scalar.muli v20 c6_i32
  let c0_i32_7 : BitVec 32 := 0#32
  let v22 : BitVec 32 := Scalar.addi v21 c0_i32_7
  let c0_i32_8 : BitVec 32 := 0#32
  let c0_i32_9 : BitVec 32 := 0#32
  let c0_i32_10 : BitVec 32 := 0#32
  ![v22.toNat, c0_i32_8.toNat, c0_i32_9.toNat]

def cc0_transform_3 (i : grid0.Coords) : Fin 3 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c6_i32 : BitVec 32 := 6#32
  let v21 : BitVec 32 := Scalar.muli v20 c6_i32
  let c1_i32_7 : BitVec 32 := 1#32
  let v22 : BitVec 32 := Scalar.addi v21 c1_i32_7
  let c0_i32_8 : BitVec 32 := 0#32
  let c0_i32_9 : BitVec 32 := 0#32
  let c0_i32_10 : BitVec 32 := 0#32
  ![v22.toNat, c0_i32_8.toNat, c0_i32_9.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![12, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x832 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x832 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![12, 6], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![12, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![12, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S2048x32 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S1024x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![12, 6], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2048x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![12, 6], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S1024x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S2048x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![4, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1024x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S2048x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![12, 16], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S1024x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S2048x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1024x512 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]
-- ==== Reference2Ideal.lean ====
abbrev S12288x2048 : Shape := ⟨2, ![12288, 2048]⟩
abbrev S2048 : Shape := ⟨1, ![2048]⟩
abbrev S48x1x2048 : Shape := ⟨3, ![48, 1, 2048]⟩
abbrev S2048x19296 : Shape := ⟨2, ![2048, 19296]⟩
abbrev S8x6x2048 : Shape := ⟨3, ![8, 6, 2048]⟩
abbrev S8x1x2048 : Shape := ⟨3, ![8, 1, 2048]⟩
abbrev S8x2048 : Shape := ⟨2, ![8, 2048]⟩
abbrev S4096x2048 : Shape := ⟨2, ![4096, 2048]⟩
abbrev S16x256x2048 : Shape := ⟨3, ![16, 256, 2048]⟩
abbrev S_ : Shape := ⟨0, ![]⟩
abbrev S16x256 : Shape := ⟨2, ![16, 256]⟩
abbrev S16x256x1 : Shape := ⟨3, ![16, 256, 1]⟩
abbrev S1x1x2048 : Shape := ⟨3, ![1, 1, 2048]⟩
abbrev S1x2048 : Shape := ⟨2, ![1, 2048]⟩
abbrev S8192x2048 : Shape := ⟨2, ![8192, 2048]⟩
abbrev S4x2048x2048 : Shape := ⟨3, ![4, 2048, 2048]⟩
abbrev S4x2048 : Shape := ⟨2, ![4, 2048]⟩
abbrev S4x2048x1 : Shape := ⟨3, ![4, 2048, 1]⟩
abbrev S4x1x2048 : Shape := ⟨3, ![4, 1, 2048]⟩
abbrev S12288x19296 : Shape := ⟨2, ![12288, 19296]⟩
abbrev S12288x832 : Shape := ⟨2, ![12288, 832]⟩
abbrev S12288x3072 : Shape := ⟨2, ![12288, 3072]⟩
abbrev S12288x1024 : Shape := ⟨2, ![12288, 1024]⟩
abbrev S12288x32 : Shape := ⟨2, ![12288, 32]⟩
abbrev S12288x8192 : Shape := ⟨2, ![12288, 8192]⟩

abbrev nBuf : Space → Nat
  | .hbm => 86
  | .vmem => 0
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S48x1x2048, .f32⟩
  | .hbm, ⟨3, _⟩ => ⟨S2048x19296, .f32⟩
  | .hbm, ⟨4, _⟩ => ⟨S8x6x2048, .f32⟩
  | .hbm, ⟨5, _⟩ => ⟨S8x1x2048, .f32⟩
  | .hbm, ⟨6, _⟩ => ⟨S8x2048, .f32⟩
  | .hbm, ⟨7, _⟩ => ⟨S8x1x2048, .f32⟩
  | .hbm, ⟨8, _⟩ => ⟨S8x2048, .f32⟩
  | .hbm, ⟨9, _⟩ => ⟨S4096x2048, .f32⟩
  | .hbm, ⟨10, _⟩ => ⟨S16x256x2048, .f32⟩
  | .hbm, ⟨11, _⟩ => ⟨S16x256x2048, .f32⟩
  | .hbm, ⟨12, _⟩ => ⟨S_, .f32⟩
  | .hbm, ⟨13, _⟩ => ⟨S16x256, .f32⟩
  | .hbm, ⟨14, _⟩ => ⟨S16x256x1, .f32⟩
  | .hbm, ⟨15, _⟩ => ⟨S_, .f32⟩
  | .hbm, ⟨16, _⟩ => ⟨S16x256x1, .f32⟩
  | .hbm, ⟨17, _⟩ => ⟨S16x256x1, .f32⟩
  | .hbm, ⟨18, _⟩ => ⟨S_, .f32⟩
  | .hbm, ⟨19, _⟩ => ⟨S16x256x1, .f32⟩
  | .hbm, ⟨20, _⟩ => ⟨S16x256x1, .f32⟩
  | .hbm, ⟨21, _⟩ => ⟨S16x256x1, .f32⟩
  | .hbm, ⟨22, _⟩ => ⟨S16x256x2048, .f32⟩
  | .hbm, ⟨23, _⟩ => ⟨S16x256x2048, .f32⟩
  | .hbm, ⟨24, _⟩ => ⟨S1x1x2048, .f32⟩
  | .hbm, ⟨25, _⟩ => ⟨S16x256x2048, .f32⟩
  | .hbm, ⟨26, _⟩ => ⟨S16x256x2048, .f32⟩
  | .hbm, ⟨27, _⟩ => ⟨S1x2048, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S1x1x2048, .f32⟩
  | .hbm, ⟨33, _⟩ => ⟨S16x256x2048, .f32⟩
  | .hbm, ⟨34, _⟩ => ⟨S16x256x2048, .f32⟩
  | .hbm, ⟨35, _⟩ => ⟨S1x2048, .f32⟩
  | .hbm, ⟨36, _⟩ => ⟨S2048, .f32⟩
  | .hbm, ⟨37, _⟩ => ⟨S1x1x2048, .f32⟩
  | .hbm, ⟨38, _⟩ => ⟨S16x256x2048, .f32⟩
  | .hbm, ⟨39, _⟩ => ⟨S16x256x2048, .f32⟩
  | .hbm, ⟨40, _⟩ => ⟨S8192x2048, .f32⟩
  | .hbm, ⟨41, _⟩ => ⟨S4x2048x2048, .f32⟩
  | .hbm, ⟨42, _⟩ => ⟨S4x2048x2048, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x2048x1, .f32⟩
  | .hbm, ⟨53, _⟩ => ⟨S4x2048x2048, .f32⟩
  | .hbm, ⟨54, _⟩ => ⟨S4x2048x2048, .f32⟩
  | .hbm, ⟨55, _⟩ => ⟨S1x1x2048, .f32⟩
  | .hbm, ⟨56, _⟩ => ⟨S4x2048x2048, .f32⟩
  | .hbm, ⟨57, _⟩ => ⟨S4x2048x2048, .f32⟩
  | .hbm, ⟨58, _⟩ => ⟨S4x2048, .f32⟩
  | .hbm, ⟨59, _⟩ => ⟨S4x1x2048, .f32⟩
  | .hbm, ⟨60, _⟩ => ⟨S_, .f32⟩
  | .hbm, ⟨61, _⟩ => ⟨S4x1x2048, .f32⟩
  | .hbm, ⟨62, _⟩ => ⟨S4x1x2048, .f32⟩
  | .hbm, ⟨63, _⟩ => ⟨S4x2048x2048, .f32⟩
  | .hbm, ⟨64, _⟩ => ⟨S4x2048x2048, .f32⟩
  | .hbm, ⟨65, _⟩ => ⟨S4x2048, .f32⟩
  | .hbm, ⟨66, _⟩ => ⟨S4x1x2048, .f32⟩
  | .hbm, ⟨67, _⟩ => ⟨S4x2048x2048, .f32⟩
  | .hbm, ⟨68, _⟩ => ⟨S4x2048x2048, .f32⟩
  | .hbm, ⟨69, _⟩ => ⟨S4096x2048, .f32⟩
  | .hbm, ⟨70, _⟩ => ⟨S8192x2048, .f32⟩
  | .hbm, ⟨71, _⟩ => ⟨S12288x2048, .f32⟩
  | .hbm, ⟨72, _⟩ => ⟨S12288x19296, .f32⟩
  | .hbm, ⟨73, _⟩ => ⟨S12288x832, .f32⟩
  | .hbm, ⟨74, _⟩ => ⟨S12288x3072, .f32⟩
  | .hbm, ⟨75, _⟩ => ⟨S12288x1024, .f32⟩
  | .hbm, ⟨76, _⟩ => ⟨S12288x32, .f32⟩
  | .hbm, ⟨77, _⟩ => ⟨S12288x3072, .f32⟩
  | .hbm, ⟨78, _⟩ => ⟨S12288x3072, .f32⟩
  | .hbm, ⟨79, _⟩ => ⟨S12288x8192, .f32⟩
  | .hbm, ⟨80, _⟩ => ⟨S12288x3072, .bf16⟩
  | .hbm, ⟨81, _⟩ => ⟨S12288x1024, .bf16⟩
  | .hbm, ⟨82, _⟩ => ⟨S12288x3072, .bf16⟩
  | .hbm, ⟨83, _⟩ => ⟨S12288x3072, .bf16⟩
  | .hbm, ⟨84, _⟩ => ⟨S4096x2048, .f32⟩
  | .hbm, ⟨85, _⟩ => ⟨S12288x8192, .bf16⟩
  | _, _ => ⟨S12288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩

abbrev nD : Nat := 1
abbrev τ : Topo := Topo.v7x

variable {F : FTy → Type} [FloatOps F]
-- ==== Kernel3.lean ====
abbrev S4096x1024 : Shape := ⟨2, ![4096, 1024]⟩
abbrev S8192x1024 : Shape := ⟨2, ![8192, 1024]⟩
abbrev S12288x8192 : Shape := ⟨2, ![12288, 8192]⟩
abbrev S4x1024x2048 : Shape := ⟨3, ![4, 1024, 2048]⟩
abbrev S2048x2048 : Shape := ⟨2, ![2048, 2048]⟩
abbrev S12288x2048 : Shape := ⟨2, ![12288, 2048]⟩
abbrev S48x1x2048 : Shape := ⟨3, ![48, 1, 2048]⟩
abbrev S1024x1024 : Shape := ⟨2, ![1024, 1024]⟩
abbrev S1024x512 : Shape := ⟨2, ![1024, 512]⟩
abbrev S4x1024x512 : Shape := ⟨3, ![4, 1024, 512]⟩
abbrev S1x1024x512 : Shape := ⟨3, ![1, 1024, 512]⟩
abbrev S1024x2048 : Shape := ⟨2, ![1024, 2048]⟩
abbrev S2048x512 : Shape := ⟨2, ![2048, 512]⟩
abbrev S1x1x512 : Shape := ⟨3, ![1, 1, 512]⟩
abbrev S1x512 : Shape := ⟨2, ![1, 512]⟩

abbrev nBuf : Space → Nat
  | .hbm => 17
  | .vmem => 38
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S12288x8192, .bf16⟩
  | .hbm, ⟨9, _⟩ => ⟨S4x1024x2048, .f32⟩
  | .hbm, ⟨10, _⟩ => ⟨S2048x2048, .f32⟩
  | .hbm, ⟨11, _⟩ => ⟨S12288x2048, .f32⟩
  | .hbm, ⟨12, _⟩ => ⟨S48x1x2048, .f32⟩
  | .hbm, ⟨13, _⟩ => ⟨S4x1024x2048, .bf16⟩
  | .hbm, ⟨14, _⟩ => ⟨S12288x2048, .bf16⟩
  | .hbm, ⟨15, _⟩ => ⟨S2048x2048, .bf16⟩
  | .hbm, ⟨16, _⟩ => ⟨S12288x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S4x1024x512, .bf16⟩
  | .local _ .vmem, ⟨25, _⟩ => ⟨S4x1024x512, .bf16⟩
  | .local _ .vmem, ⟨26, _⟩ => ⟨S1024x512, .bf16⟩
  | .local _ .vmem, ⟨27, _⟩ => ⟨S1024x512, .bf16⟩
  | .local _ .vmem, ⟨28, _⟩ => ⟨S1024x2048, .bf16⟩
  | .local _ .vmem, ⟨29, _⟩ => ⟨S1024x2048, .bf16⟩
  | .local _ .vmem, ⟨30, _⟩ => ⟨S2048x512, .bf16⟩
  | .local _ .vmem, ⟨31, _⟩ => ⟨S2048x512, .bf16⟩
  | .local _ .vmem, ⟨32, _⟩ => ⟨S1024x512, .f32⟩
  | .local _ .vmem, ⟨33, _⟩ => ⟨S1024x512, .f32⟩
  | .local _ .vmem, ⟨34, _⟩ => ⟨S1x1x512, .f32⟩
  | .local _ .vmem, ⟨35, _⟩ => ⟨S1x1x512, .f32⟩
  | .local _ .vmem, ⟨36, _⟩ => ⟨S1024x512, .f32⟩
  | .local _ .vmem, ⟨37, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc1_stg0_0 : Ref sig .tc := ⟨.vmem, 28, rfl⟩
abbrev cc1_stg0_1 : Ref sig .tc := ⟨.vmem, 29, rfl⟩
abbrev cc1_stg1_0 : Ref sig .tc := ⟨.vmem, 30, rfl⟩
abbrev cc1_stg1_1 : Ref sig .tc := ⟨.vmem, 31, rfl⟩
abbrev cc1_stg2_0 : Ref sig .tc := ⟨.vmem, 32, rfl⟩
abbrev cc1_stg2_1 : Ref sig .tc := ⟨.vmem, 33, rfl⟩
abbrev cc1_stg3_0 : Ref sig .tc := ⟨.vmem, 34, rfl⟩
abbrev cc1_stg3_1 : Ref sig .tc := ⟨.vmem, 35, rfl⟩
abbrev cc1_stg4_0 : Ref sig .tc := ⟨.vmem, 36, rfl⟩
abbrev cc1_stg4_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc1_sem0_0 : DmaSem sig := 28
abbrev cc1_sem0_1 : DmaSem sig := 29
abbrev cc1_sem1_0 : DmaSem sig := 30
abbrev cc1_sem1_1 : DmaSem sig := 31
abbrev cc1_sem2_0 : DmaSem sig := 32
abbrev cc1_sem2_1 : DmaSem sig := 33
abbrev cc1_sem3_0 : DmaSem sig := 34
abbrev cc1_sem3_1 : DmaSem sig := 35
abbrev cc1_sem4_0 : DmaSem sig := 36
abbrev cc1_sem4_1 : DmaSem sig := 37

abbrev nD : Nat := 1
abbrev τ : Topo := Topo.v7x

variable {F : FTy → Type} [FloatOps F]

abbrev grid0 : Pipeline.Grid := ⟨2, ![12, 4], ![false, false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c4_i32 : BitVec 32 := 4#32
  let v0 : BitVec 1 := Scalar.cmpi .slt arg0 c4_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev grid1 : Pipeline.Grid := ⟨2, ![12, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c6_i32 : BitVec 32 := 6#32
  let v21 : BitVec 32 := Scalar.muli v20 c6_i32
  let c2_i32_7 : BitVec 32 := 2#32
  let v22 : BitVec 32 := Scalar.addi v21 c2_i32_7
  let c0_i32_8 : BitVec 32 := 0#32
  let c0_i32_9 : BitVec 32 := 0#32
  ![v22.toNat, c0_i32_8.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== Reference3Ideal.lean ====
abbrev S4096x1024 : Shape := ⟨2, ![4096, 1024]⟩
abbrev S8192x1024 : Shape := ⟨2, ![8192, 1024]⟩
abbrev S12288x8192 : Shape := ⟨2, ![12288, 8192]⟩
abbrev S4x1024x2048 : Shape := ⟨3, ![4, 1024, 2048]⟩
abbrev S2048x2048 : Shape := ⟨2, ![2048, 2048]⟩
abbrev S12288x2048 : Shape := ⟨2, ![12288, 2048]⟩
abbrev S48x1x2048 : Shape := ⟨3, ![48, 1, 2048]⟩
abbrev S8x6x2048 : Shape := ⟨3, ![8, 6, 2048]⟩
abbrev S8x1x2048 : Shape := ⟨3, ![8, 1, 2048]⟩
abbrev S8x2048 : Shape := ⟨2, ![8, 2048]⟩
abbrev S4096x2048 : Shape := ⟨2, ![4096, 2048]⟩
abbrev S16x256x2048 : Shape := ⟨3, ![16, 256, 2048]⟩
abbrev S1x2048 : Shape := ⟨2, ![1, 2048]⟩
abbrev S2048 : Shape := ⟨1, ![2048]⟩
abbrev S16x256x1024 : Shape := ⟨3, ![16, 256, 1024]⟩
abbrev S4096x8192 : Shape := ⟨2, ![4096, 8192]⟩
abbrev S16x256x8192 : Shape := ⟨3, ![16, 256, 8192]⟩
abbrev S16x256x1x1024 : Shape := ⟨4, ![16, 256, 1, 1024]⟩
abbrev S16x256x4x1024 : Shape := ⟨4, ![16, 256, 4, 1024]⟩
abbrev S4x2048x16x256 : Shape := ⟨4, ![4, 2048, 16, 256]⟩
abbrev S16x256x4x2048 : Shape := ⟨4, ![16, 256, 4, 2048]⟩
abbrev S_ : Shape := ⟨0, ![]⟩
abbrev S1x1x2048 : Shape := ⟨3, ![1, 1, 2048]⟩
abbrev S8192x2048 : Shape := ⟨2, ![8192, 2048]⟩
abbrev S4x2048x2048 : Shape := ⟨3, ![4, 2048, 2048]⟩
abbrev S4x2048 : Shape := ⟨2, ![4, 2048]⟩
abbrev S4x1x2048 : Shape := ⟨3, ![4, 1, 2048]⟩
abbrev S4x2048x1024 : Shape := ⟨3, ![4, 2048, 1024]⟩
abbrev S8192x8192 : Shape := ⟨2, ![8192, 8192]⟩
abbrev S4x2048x8192 : Shape := ⟨3, ![4, 2048, 8192]⟩
abbrev S4x2048x1x1024 : Shape := ⟨4, ![4, 2048, 1, 1024]⟩
abbrev S4x2048x4x1024 : Shape := ⟨4, ![4, 2048, 4, 1024]⟩
abbrev S4x2048x4x2048 : Shape := ⟨4, ![4, 2048, 4, 2048]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S12288x8192, .bf16⟩
  | .hbm, ⟨9, _⟩ => ⟨S4x1024x2048, .f32⟩
  | .hbm, ⟨10, _⟩ => ⟨S2048x2048, .f32⟩
  | .hbm, ⟨11, _⟩ => ⟨S12288x2048, .f32⟩
  | .hbm, ⟨12, _⟩ => ⟨S48x1x2048, .f32⟩
  | .hbm, ⟨13, _⟩ => ⟨S8x6x2048, .f32⟩
  | .hbm, ⟨14, _⟩ => ⟨S8x1x2048, .f32⟩
  | .hbm, ⟨15, _⟩ => ⟨S8x2048, .f32⟩
  | .hbm, ⟨16, _⟩ => ⟨S4096x2048, .f32⟩
  | .hbm, ⟨17, _⟩ => ⟨S16x256x2048, .f32⟩
  | .hbm, ⟨18, _⟩ => ⟨S1x2048, .f32⟩
  | .hbm, ⟨19, _⟩ => ⟨S2048, .f32⟩
  | .hbm, ⟨20, _⟩ => ⟨S16x256x1024, .bf16⟩
  | .hbm, ⟨21, _⟩ => ⟨S16x256x1024, .bf16⟩
  | .hbm, ⟨22, _⟩ => ⟨S16x256x1024, .bf16⟩
  | .hbm, ⟨23, _⟩ => ⟨S16x256x1024, .bf16⟩
  | .hbm, ⟨24, _⟩ => ⟨S4096x8192, .bf16⟩
  | .hbm, ⟨25, _⟩ => ⟨S16x256x8192, .bf16⟩
  | .hbm, ⟨26, _⟩ => ⟨S16x256x1x1024, .bf16⟩
  | .hbm, ⟨27, _⟩ => ⟨S16x256x1x1024, .bf16⟩
  | .hbm, ⟨28, _⟩ => ⟨S16x256x1x1024, .bf16⟩
  | .hbm, ⟨29, _⟩ => ⟨S16x256x1x1024, .bf16⟩
  | .hbm, ⟨30, _⟩ => ⟨S16x256x4x1024, .bf16⟩
  | .hbm, ⟨31, _⟩ => ⟨S16x256x4x1024, .f32⟩
  | .hbm, ⟨32, _⟩ => ⟨S4x2048x16x256, .f32⟩
  | .hbm, ⟨33, _⟩ => ⟨S16x256x4x2048, .f32⟩
  | .hbm, ⟨34, _⟩ => ⟨S16x256x8192, .f32⟩
  | .hbm, ⟨35, _⟩ => ⟨S16x256x4x2048, .f32⟩
  | .hbm, ⟨36, _⟩ => ⟨S16x256x4x2048, .f32⟩
  | .hbm, ⟨37, _⟩ => ⟨S16x256x4x2048, .f32⟩
  | .hbm, ⟨38, _⟩ => ⟨S_, .f32⟩
  | .hbm, ⟨39, _⟩ => ⟨S16x256x4x2048, .f32⟩
  | .hbm, ⟨40, _⟩ => ⟨S16x256x4x2048, .f32⟩
  | .hbm, ⟨41, _⟩ => ⟨S_, .f32⟩
  | .hbm, ⟨42, _⟩ => ⟨S16x256x4x2048, .f32⟩
  | .hbm, ⟨43, _⟩ => ⟨S16x256x4x2048, .f32⟩
  | .hbm, ⟨44, _⟩ => ⟨S16x256x4x2048, .f32⟩
  | .hbm, ⟨45, _⟩ => ⟨S_, .f32⟩
  | .hbm, ⟨46, _⟩ => ⟨S16x256x2048, .f32⟩
  | .hbm, ⟨47, _⟩ => ⟨S16x256x2048, .f32⟩
  | .hbm, ⟨48, _⟩ => ⟨S1x1x2048, .f32⟩
  | .hbm, ⟨49, _⟩ => ⟨S16x256x2048, .f32⟩
  | .hbm, ⟨50, _⟩ => ⟨S16x256x2048, .f32⟩
  | .hbm, ⟨51, _⟩ => ⟨S16x256x2048, .f32⟩
  | .hbm, ⟨52, _⟩ => ⟨S8192x2048, .f32⟩
  | .hbm, ⟨53, _⟩ => ⟨S4x2048x2048, .f32⟩
  | .hbm, ⟨54, _⟩ => ⟨S4x2048, .f32⟩
  | .hbm, ⟨55, _⟩ => ⟨S4x1x2048, .f32⟩
  | .hbm, ⟨56, _⟩ => ⟨S4x2048x1024, .bf16⟩
  | .hbm, ⟨57, _⟩ => ⟨S4x2048x1024, .bf16⟩
  | .hbm, ⟨58, _⟩ => ⟨S4x2048x1024, .bf16⟩
  | .hbm, ⟨59, _⟩ => ⟨S4x2048x1024, .bf16⟩
  | .hbm, ⟨60, _⟩ => ⟨S8192x8192, .bf16⟩
  | .hbm, ⟨61, _⟩ => ⟨S4x2048x8192, .bf16⟩
  | .hbm, ⟨62, _⟩ => ⟨S4x2048x1x1024, .bf16⟩
  | .hbm, ⟨63, _⟩ => ⟨S4x2048x1x1024, .bf16⟩
  | .hbm, ⟨64, _⟩ => ⟨S4x2048x1x1024, .bf16⟩
  | .hbm, ⟨65, _⟩ => ⟨S4x2048x1x1024, .bf16⟩
  | .hbm, ⟨66, _⟩ => ⟨S4x2048x4x1024, .bf16⟩
  | .hbm, ⟨67, _⟩ => ⟨S4x2048x4x1024, .f32⟩
  | .hbm, ⟨68, _⟩ => ⟨S4x2048x4x2048, .f32⟩
  | .hbm, ⟨69, _⟩ => ⟨S4x2048x4x2048, .f32⟩
  | .hbm, ⟨70, _⟩ => ⟨S4x2048x8192, .f32⟩
  | .hbm, ⟨71, _⟩ => ⟨S4x2048x4x2048, .f32⟩
  | .hbm, ⟨72, _⟩ => ⟨S4x2048x4x2048, .f32⟩
  | .hbm, ⟨73, _⟩ => ⟨S4x2048x4x2048, .f32⟩
  | .hbm, ⟨74, _⟩ => ⟨S_, .f32⟩
  | .hbm, ⟨75, _⟩ => ⟨S4x2048x4x2048, .f32⟩
  | .hbm, ⟨76, _⟩ => ⟨S4x2048x4x2048, .f32⟩
  | .hbm, ⟨77, _⟩ => ⟨S_, .f32⟩
  | .hbm, ⟨78, _⟩ => ⟨S4x2048x4x2048, .f32⟩
  | .hbm, ⟨79, _⟩ => ⟨S4x2048x4x2048, .f32⟩
  | .hbm, ⟨80, _⟩ => ⟨S4x2048x4x2048, .f32⟩
  | .hbm, ⟨81, _⟩ => ⟨S_, .f32⟩
  | .hbm, ⟨82, _⟩ => ⟨S4x2048x2048, .f32⟩
  | .hbm, ⟨83, _⟩ => ⟨S4x2048x2048, .f32⟩
  | .hbm, ⟨84, _⟩ => ⟨S4x2048x2048, .f32⟩
  | .hbm, ⟨85, _⟩ => ⟨S4x2048x2048, .f32⟩
  | .hbm, ⟨86, _⟩ => ⟨S4x2048x2048, .f32⟩
  | .hbm, ⟨87, _⟩ => ⟨S4096x2048, .f32⟩
  | .hbm, ⟨88, _⟩ => ⟨S8192x2048, .f32⟩
  | .hbm, ⟨89, _⟩ => ⟨S12288x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_cst_0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_2 : Ref sig .tc := ⟨.hbm, 74, rfl⟩
abbrev main_v58 : Ref sig .tc := ⟨.hbm, 75, rfl⟩
abbrev main_v59 : Ref sig .tc := ⟨.hbm, 76, rfl⟩
abbrev main_cst_3 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_4 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== Kernel4.lean ====
abbrev S12288x2048 : Shape := ⟨2, ![12288, 2048]⟩
abbrev S2048 : Shape := ⟨1, ![2048]⟩
abbrev S48x1x2048 : Shape := ⟨3, ![48, 1, 2048]⟩
abbrev S2048x2048 : Shape := ⟨2, ![2048, 2048]⟩
abbrev S1x2048 : Shape := ⟨2, ![1, 2048]⟩
abbrev S1024x2048 : Shape := ⟨2, ![1024, 2048]⟩
abbrev S1x1x2048 : Shape := ⟨3, ![1, 1, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩

abbrev nBuf : Space → Nat
  | .hbm => 8
  | .vmem => 15
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S48x1x2048, .f32⟩
  | .hbm, ⟨3, _⟩ => ⟨S2048x2048, .f32⟩
  | .hbm, ⟨4, _⟩ => ⟨S1x2048, .f32⟩
  | .hbm, ⟨5, _⟩ => ⟨S12288x2048, .bf16⟩
  | .hbm, ⟨6, _⟩ => ⟨S2048x2048, .bf16⟩
  | .hbm, ⟨7, _⟩ => ⟨S12288x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S2048x512, .bf16⟩
  | .local _ .vmem, ⟨12, _⟩ => ⟨S2048x512, .bf16⟩
  | .local _ .vmem, ⟨13, _⟩ => ⟨S1024x512, .f32⟩
  | .local _ .vmem, ⟨14, _⟩ => ⟨S1024x512, .f32⟩
  | _, _ => ⟨S12288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c6_i32 : BitVec 32 := 6#32
  let v21 : BitVec 32 := Scalar.muli v20 c6_i32
  let c3_i32 : BitVec 32 := 3#32
  let v22 : BitVec 32 := Scalar.addi v21 c3_i32
  let c0_i32_7 : BitVec 32 := 0#32
  let c0_i32_8 : BitVec 32 := 0#32
  let c0_i32_9 : BitVec 32 := 0#32
  ![v22.toNat, c0_i32_7.toNat, c0_i32_8.toNat]

def cc0_transform_3 (i : grid0.Coords) : Fin 3 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c6_i32 : BitVec 32 := 6#32
  let v21 : BitVec 32 := Scalar.muli v20 c6_i32
  let c4_i32_7 : BitVec 32 := 4#32
  let v22 : BitVec 32 := Scalar.addi v21 c4_i32_7
  let c0_i32_8 : BitVec 32 := 0#32
  let c0_i32_9 : BitVec 32 := 0#32
  let c0_i32_10 : BitVec 32 := 0#32
  ![v22.toNat, c0_i32_8.toNat, c0_i32_9.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![12, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference4Ideal.lean ====
abbrev S12288x2048 : Shape := ⟨2, ![12288, 2048]⟩
abbrev S2048 : Shape := ⟨1, ![2048]⟩
abbrev S48x1x2048 : Shape := ⟨3, ![48, 1, 2048]⟩
abbrev S2048x2048 : Shape := ⟨2, ![2048, 2048]⟩
abbrev S8x6x2048 : Shape := ⟨3, ![8, 6, 2048]⟩
abbrev S8x1x2048 : Shape := ⟨3, ![8, 1, 2048]⟩
abbrev S8x2048 : Shape := ⟨2, ![8, 2048]⟩
abbrev S4096x2048 : Shape := ⟨2, ![4096, 2048]⟩
abbrev S16x256x2048 : Shape := ⟨3, ![16, 256, 2048]⟩
abbrev S_ : Shape := ⟨0, ![]⟩
abbrev S16x256 : Shape := ⟨2, ![16, 256]⟩
abbrev S16x256x1 : Shape := ⟨3, ![16, 256, 1]⟩
abbrev S1x1x2048 : Shape := ⟨3, ![1, 1, 2048]⟩
abbrev S1x2048 : Shape := ⟨2, ![1, 2048]⟩
abbrev S8192x2048 : Shape := ⟨2, ![8192, 2048]⟩
abbrev S4x2048x2048 : Shape := ⟨3, ![4, 2048, 2048]⟩
abbrev S4x2048 : Shape := ⟨2, ![4, 2048]⟩
abbrev S4x2048x1 : Shape := ⟨3, ![4, 2048, 1]⟩
abbrev S4x1x2048 : Shape := ⟨3, ![4, 1, 2048]⟩

abbrev nBuf : Space → Nat
  | .hbm => 73
  | .vmem => 0
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S48x1x2048, .f32⟩
  | .hbm, ⟨3, _⟩ => ⟨S2048x2048, .f32⟩
  | .hbm, ⟨4, _⟩ => ⟨S8x6x2048, .f32⟩
  | .hbm, ⟨5, _⟩ => ⟨S8x1x2048, .f32⟩
  | .hbm, ⟨6, _⟩ => ⟨S8x2048, .f32⟩
  | .hbm, ⟨7, _⟩ => ⟨S8x1x2048, .f32⟩
  | .hbm, ⟨8, _⟩ => ⟨S8x2048, .f32⟩
  | .hbm, ⟨9, _⟩ => ⟨S4096x2048, .f32⟩
  | .hbm, ⟨10, _⟩ => ⟨S16x256x2048, .f32⟩
  | .hbm, ⟨11, _⟩ => ⟨S16x256x2048, .f32⟩
  | .hbm, ⟨12, _⟩ => ⟨S_, .f32⟩
  | .hbm, ⟨13, _⟩ => ⟨S16x256, .f32⟩
  | .hbm, ⟨14, _⟩ => ⟨S16x256x1, .f32⟩
  | .hbm, ⟨15, _⟩ => ⟨S_, .f32⟩
  | .hbm, ⟨16, _⟩ => ⟨S16x256x1, .f32⟩
  | .hbm, ⟨17, _⟩ => ⟨S16x256x1, .f32⟩
  | .hbm, ⟨18, _⟩ => ⟨S_, .f32⟩
  | .hbm, ⟨19, _⟩ => ⟨S16x256x1, .f32⟩
  | .hbm, ⟨20, _⟩ => ⟨S16x256x1, .f32⟩
  | .hbm, ⟨21, _⟩ => ⟨S16x256x1, .f32⟩
  | .hbm, ⟨22, _⟩ => ⟨S16x256x2048, .f32⟩
  | .hbm, ⟨23, _⟩ => ⟨S16x256x2048, .f32⟩
  | .hbm, ⟨24, _⟩ => ⟨S1x1x2048, .f32⟩
  | .hbm, ⟨25, _⟩ => ⟨S16x256x2048, .f32⟩
  | .hbm, ⟨26, _⟩ => ⟨S16x256x2048, .f32⟩
  | .hbm, ⟨27, _⟩ => ⟨S1x2048, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S1x1x2048, .f32⟩
  | .hbm, ⟨33, _⟩ => ⟨S16x256x2048, .f32⟩
  | .hbm, ⟨34, _⟩ => ⟨S16x256x2048, .f32⟩
  | .hbm, ⟨35, _⟩ => ⟨S1x2048, .f32⟩
  | .hbm, ⟨36, _⟩ => ⟨S2048, .f32⟩
  | .hbm, ⟨37, _⟩ => ⟨S1x1x2048, .f32⟩
  | .hbm, ⟨38, _⟩ => ⟨S16x256x2048, .f32⟩
  | .hbm, ⟨39, _⟩ => ⟨S16x256x2048, .f32⟩
  | .hbm, ⟨40, _⟩ => ⟨S8192x2048, .f32⟩
  | .hbm, ⟨41, _⟩ => ⟨S4x2048x2048, .f32⟩
  | .hbm, ⟨42, _⟩ => ⟨S4x2048x2048, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x2048x1, .f32⟩
  | .hbm, ⟨53, _⟩ => ⟨S4x2048x2048, .f32⟩
  | .hbm, ⟨54, _⟩ => ⟨S4x2048x2048, .f32⟩
  | .hbm, ⟨55, _⟩ => ⟨S1x1x2048, .f32⟩
  | .hbm, ⟨56, _⟩ => ⟨S4x2048x2048, .f32⟩
  | .hbm, ⟨57, _⟩ => ⟨S4x2048x2048, .f32⟩
  | .hbm, ⟨58, _⟩ => ⟨S4x2048, .f32⟩
  | .hbm, ⟨59, _⟩ => ⟨S4x1x2048, .f32⟩
  | .hbm, ⟨60, _⟩ => ⟨S_, .f32⟩
  | .hbm, ⟨61, _⟩ => ⟨S4x1x2048, .f32⟩
  | .hbm, ⟨62, _⟩ => ⟨S4x1x2048, .f32⟩
  | .hbm, ⟨63, _⟩ => ⟨S4x2048x2048, .f32⟩
  | .hbm, ⟨64, _⟩ => ⟨S4x2048x2048, .f32⟩
  | .hbm, ⟨65, _⟩ => ⟨S4x2048, .f32⟩
  | .hbm, ⟨66, _⟩ => ⟨S4x1x2048, .f32⟩
  | .hbm, ⟨67, _⟩ => ⟨S4x2048x2048, .f32⟩
  | .hbm, ⟨68, _⟩ => ⟨S4x2048x2048, .f32⟩
  | .hbm, ⟨69, _⟩ => ⟨S4096x2048, .f32⟩
  | .hbm, ⟨70, _⟩ => ⟨S8192x2048, .f32⟩
  | .hbm, ⟨71, _⟩ => ⟨S12288x2048, .f32⟩
  | .hbm, ⟨72, _⟩ => ⟨S12288x2048, .f32⟩
  | _, _ => ⟨S12288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== Kernel5.lean ====
abbrev S12288x832 : Shape := ⟨2, ![12288, 832]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S4x512x256 : Shape := ⟨3, ![4, 512, 256]⟩
abbrev S12288x512 : Shape := ⟨2, ![12288, 512]⟩
abbrev S12288x256 : Shape := ⟨2, ![12288, 256]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩
abbrev S1x256 : Shape := ⟨2, ![1, 256]⟩
abbrev S1024x256 : Shape := ⟨2, ![1024, 256]⟩
abbrev S512x8x192 : Shape := ⟨3, ![512, 8, 192]⟩
abbrev S512x8x128 : Shape := ⟨3, ![512, 8, 128]⟩
abbrev S512x1024 : Shape := ⟨2, ![512, 1024]⟩
abbrev S12288x1024 : Shape := ⟨2, ![12288, 1024]⟩
abbrev S512x512 : Shape := ⟨2, ![512, 512]⟩
abbrev S512x8x64 : Shape := ⟨3, ![512, 8, 64]⟩
abbrev S12288x2048 : Shape := ⟨2, ![12288, 2048]⟩
abbrev S256x512 : Shape := ⟨2, ![256, 512]⟩
abbrev S2048x256 : Shape := ⟨2, ![2048, 256]⟩
abbrev S2048x2048 : Shape := ⟨2, ![2048, 2048]⟩

abbrev nBuf : Space → Nat
  | .hbm => 27
  | .vmem => 33
  | .smem => 0
  | _ => 0

abbrev bufTy : (tb : Table) → Fin (tcTables nBuf tb) → BufTy
  | .hbm, ⟨0, _⟩ => ⟨S12288x832, .f32⟩
  | .hbm, ⟨1, _⟩ => ⟨S512, .f32⟩
  | .hbm, ⟨2, _⟩ => ⟨S512x1536, .f32⟩
  | .hbm, ⟨3, _⟩ => ⟨S256, .f32⟩
  | .hbm, ⟨4, _⟩ => ⟨S256x2048, .f32⟩
  | .hbm, ⟨5, _⟩ => ⟨S4x512x256, .f32⟩
  | .hbm, ⟨6, _⟩ => ⟨S12288x512, .f32⟩
  | .hbm, ⟨7, _⟩ => ⟨S12288x256, .f32⟩
  | .hbm, ⟨8, _⟩ => ⟨S1x512, .f32⟩
  | .hbm, ⟨9, _⟩ => ⟨S12288x512, .bf16⟩
  | .hbm, ⟨10, _⟩ => ⟨S1x256, .f32⟩
  | .hbm, ⟨11, _⟩ => ⟨S12288x256, .f32⟩
  | .hbm, ⟨12, _⟩ => ⟨S512x8x192, .f32⟩
  | .hbm, ⟨13, _⟩ => ⟨S512x8x128, .f32⟩
  | .hbm, ⟨14, _⟩ => ⟨S512x1024, .f32⟩
  | .hbm, ⟨15, _⟩ => ⟨S512x1024, .bf16⟩
  | .hbm, ⟨16, _⟩ => ⟨S12288x1024, .bf16⟩
  | .hbm, ⟨17, _⟩ => ⟨S512x8x64, .f32⟩
  | .hbm, ⟨18, _⟩ => ⟨S512x512, .f32⟩
  | .hbm, ⟨19, _⟩ => ⟨S512x512, .bf16⟩
  | .hbm, ⟨20, _⟩ => ⟨S12288x512, .f32⟩
  | .hbm, ⟨21, _⟩ => ⟨S256x2048, .bf16⟩
  | .hbm, ⟨22, _⟩ => ⟨S12288x256, .bf16⟩
  | .hbm, ⟨23, _⟩ => ⟨S12288x2048, .bf16⟩
  | .hbm, ⟨24, _⟩ => ⟨S2048x256, .f32⟩
  | .hbm, ⟨25, _⟩ => ⟨S2048x256, .bf16⟩
  | .hbm, ⟨26, _⟩ => ⟨S2048x2048, .bf16⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1024x512, .bf16⟩
  | .local _ .vmem, ⟨4, _⟩ => ⟨S1024x512, .bf16⟩
  | .local _ .vmem, ⟨5, _⟩ => ⟨S1024x256, .f32⟩
  | .local _ .vmem, ⟨6, _⟩ => ⟨S1024x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | .local _ .vmem, ⟨10, _⟩ => ⟨S1024x512, .bf16⟩
  | .local _ .vmem, ⟨11, _⟩ => ⟨S1024x512, .bf16⟩
  | .local _ .vmem, ⟨12, _⟩ => ⟨S512x512, .bf16⟩
  | .local _ .vmem, ⟨13, _⟩ => ⟨S512x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S512x512, .bf16⟩
  | .local _ .vmem, ⟨19, _⟩ => ⟨S1024x512, .f32⟩
  | .local _ .vmem, ⟨20, _⟩ => ⟨S1024x512, .f32⟩
  | .local _ .vmem, ⟨21, _⟩ => ⟨S1024x256, .bf16⟩
  | .local _ .vmem, ⟨22, _⟩ => ⟨S1024x256, .bf16⟩
  | .local _ .vmem, ⟨23, _⟩ => ⟨S256x512, .bf16⟩
  | .local _ .vmem, ⟨24, _⟩ => ⟨S256x512, .bf16⟩
  | .local _ .vmem, ⟨25, _⟩ => ⟨S1024x512, .bf16⟩
  | .local _ .vmem, ⟨26, _⟩ => ⟨S1024x512, .bf16⟩
  | .local _ .vmem, ⟨27, _⟩ => ⟨S1024x256, .bf16⟩
  | .local _ .vmem, ⟨28, _⟩ => ⟨S1024x256, .bf16⟩
  | .local _ .vmem, ⟨29, _⟩ => ⟨S256x512, .bf16⟩
  | .local _ .vmem, ⟨30, _⟩ => ⟨S256x512, .bf16⟩
  | .local _ .vmem, ⟨31, _⟩ => ⟨S1024x512, .bf16⟩
  | .local _ .vmem, ⟨32, _⟩ => ⟨S1024x512, .bf16⟩
  | _, _ => ⟨S12288x832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg2_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem2_1 : DmaSem sig := 32

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![12, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![12, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S512x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![12, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S256x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S256x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== Reference5Ideal.lean ====
abbrev S12288x832 : Shape := ⟨2, ![12288, 832]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S4x512x256 : Shape := ⟨3, ![4, 512, 256]⟩
abbrev S12288x512 : Shape := ⟨2, ![12288, 512]⟩
abbrev S12288x256 : Shape := ⟨2, ![12288, 256]⟩
abbrev S12288x64 : Shape := ⟨2, ![12288, 64]⟩
abbrev S_ : Shape := ⟨0, ![]⟩
abbrev S12288 : Shape := ⟨1, ![12288]⟩
abbrev S12288x1 : Shape := ⟨2, ![12288, 1]⟩
abbrev S1x256 : Shape := ⟨2, ![1, 256]⟩
abbrev S1x512 : Shape := ⟨2, ![1, 512]⟩
abbrev S12288x1536 : Shape := ⟨2, ![12288, 1536]⟩
abbrev S12288x8x192 : Shape := ⟨3, ![12288, 8, 192]⟩
abbrev S12288x8x128 : Shape := ⟨3, ![12288, 8, 128]⟩
abbrev S12288x1024 : Shape := ⟨2, ![12288, 1024]⟩
abbrev S12288x8x64 : Shape := ⟨3, ![12288, 8, 64]⟩
abbrev S12288x2048 : Shape := ⟨2, ![12288, 2048]⟩
abbrev S4x512x2048 : Shape := ⟨3, ![4, 512, 2048]⟩
abbrev S2048x2048 : Shape := ⟨2, ![2048, 2048]⟩

abbrev nBuf : Space → Nat
  | .hbm => 53
  | .vmem => 0
  | .smem => 0
  | _ => 0

abbrev bufTy : (tb : Table) → Fin (tcTables nBuf tb) → BufTy
  | .hbm, ⟨0, _⟩ => ⟨S12288x832, .f32⟩
  | .hbm, ⟨1, _⟩ => ⟨S512, .f32⟩
  | .hbm, ⟨2, _⟩ => ⟨S512x1536, .f32⟩
  | .hbm, ⟨3, _⟩ => ⟨S256, .f32⟩
  | .hbm, ⟨4, _⟩ => ⟨S256x2048, .f32⟩
  | .hbm, ⟨5, _⟩ => ⟨S4x512x256, .f32⟩
  | .hbm, ⟨6, _⟩ => ⟨S12288x512, .f32⟩
  | .hbm, ⟨7, _⟩ => ⟨S12288x256, .f32⟩
  | .hbm, ⟨8, _⟩ => ⟨S12288x64, .f32⟩
  | .hbm, ⟨9, _⟩ => ⟨S12288x256, .f32⟩
  | .hbm, ⟨10, _⟩ => ⟨S_, .f32⟩
  | .hbm, ⟨11, _⟩ => ⟨S12288, .f32⟩
  | .hbm, ⟨12, _⟩ => ⟨S12288x1, .f32⟩
  | .hbm, ⟨13, _⟩ => ⟨S_, .f32⟩
  | .hbm, ⟨14, _⟩ => ⟨S12288x1, .f32⟩
  | .hbm, ⟨15, _⟩ => ⟨S12288x1, .f32⟩
  | .hbm, ⟨16, _⟩ => ⟨S_, .f32⟩
  | .hbm, ⟨17, _⟩ => ⟨S12288x1, .f32⟩
  | .hbm, ⟨18, _⟩ => ⟨S12288x1, .f32⟩
  | .hbm, ⟨19, _⟩ => ⟨S12288x1, .f32⟩
  | .hbm, ⟨20, _⟩ => ⟨S12288x256, .f32⟩
  | .hbm, ⟨21, _⟩ => ⟨S12288x256, .f32⟩
  | .hbm, ⟨22, _⟩ => ⟨S1x256, .f32⟩
  | .hbm, ⟨23, _⟩ => ⟨S12288x256, .f32⟩
  | .hbm, ⟨24, _⟩ => ⟨S12288x256, .f32⟩
  | .hbm, ⟨25, _⟩ => ⟨S12288x512, .f32⟩
  | .hbm, ⟨26, _⟩ => ⟨S_, .f32⟩
  | .hbm, ⟨27, _⟩ => ⟨S12288, .f32⟩
  | .hbm, ⟨28, _⟩ => ⟨S12288x1, .f32⟩
  | .hbm, ⟨29, _⟩ => ⟨S_, .f32⟩
  | .hbm, ⟨30, _⟩ => ⟨S12288x1, .f32⟩
  | .hbm, ⟨31, _⟩ => ⟨S12288x1, .f32⟩
  | .hbm, ⟨32, _⟩ => ⟨S_, .f32⟩
  | .hbm, ⟨33, _⟩ => ⟨S12288x1, .f32⟩
  | .hbm, ⟨34, _⟩ => ⟨S12288x1, .f32⟩
  | .hbm, ⟨35, _⟩ => ⟨S12288x1, .f32⟩
  | .hbm, ⟨36, _⟩ => ⟨S12288x512, .f32⟩
  | .hbm, ⟨37, _⟩ => ⟨S12288x512, .f32⟩
  | .hbm, ⟨38, _⟩ => ⟨S1x512, .f32⟩
  | .hbm, ⟨39, _⟩ => ⟨S12288x512, .f32⟩
  | .hbm, ⟨40, _⟩ => ⟨S12288x512, .f32⟩
  | .hbm, ⟨41, _⟩ => ⟨S12288x1536, .f32⟩
  | .hbm, ⟨42, _⟩ => ⟨S12288x8x192, .f32⟩
  | .hbm, ⟨43, _⟩ => ⟨S12288x8x128, .f32⟩
  | .hbm, ⟨44, _⟩ => ⟨S12288x1024, .f32⟩
  | .hbm, ⟨45, _⟩ => ⟨S12288x8x64, .f32⟩
  | .hbm, ⟨46, _⟩ => ⟨S12288x512, .f32⟩
  | .hbm, ⟨47, _⟩ => ⟨S12288x2048, .f32⟩
  | .hbm, ⟨48, _⟩ => ⟨S4x512x2048, .f32⟩
  | .hbm, ⟨49, _⟩ => ⟨S2048x2048, .f32⟩
  | .hbm, ⟨50, _⟩ => ⟨S12288x1024, .bf16⟩
  | .hbm, ⟨51, _⟩ => ⟨S12288x2048, .bf16⟩
  | .hbm, ⟨52, _⟩ => ⟨S2048x2048, .bf16⟩
  | _, _ => ⟨S12288x832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel6.lean ====
abbrev S12288x2048 : Shape := ⟨2, ![12288, 2048]⟩
abbrev S2048 : Shape := ⟨1, ![2048]⟩
abbrev S1x2048 : Shape := ⟨2, ![1, 2048]⟩
abbrev S4096x2048 : Shape := ⟨2, ![4096, 2048]⟩
abbrev S1024x2048 : Shape := ⟨2, ![1024, 2048]⟩
abbrev S1024 : Shape := ⟨1, ![1024]⟩
abbrev S1024x1 : Shape := ⟨2, ![1024, 1]⟩
abbrev S8192x2048 : Shape := ⟨2, ![8192, 2048]⟩

abbrev nBuf : Space → Nat
  | .hbm => 6
  | .vmem => 10
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S1x2048, .f32⟩
  | .hbm, ⟨3, _⟩ => ⟨S4096x2048, .f32⟩
  | .hbm, ⟨4, _⟩ => ⟨S1x2048, .f32⟩
  | .hbm, ⟨5, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | _, _ => ⟨S12288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== Reference6Ideal.lean ====
abbrev S12288x2048 : Shape := ⟨2, ![12288, 2048]⟩
abbrev S2048 : Shape := ⟨1, ![2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S8192x2048 : Shape := ⟨2, ![8192, 2048]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | _, _ => ⟨S12288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Proof.Softmax.lean ====
/- One softmax row over the extended reals: the weights divided before or after the weighted sum of the
   values give the same number, when the scores and the values are real numbers. Beside it, the calculus of
   «this extended real is a real number» that shows the scores are. -/
module

public import Idealize.ShloMosaic.PureOps.Ideal

@[expose] public section

noncomputable section

namespace Cert.Attn

open Idealize.ShloMosaic
open scoped BigOperators

/-- The extended real is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.cos {x : EReal} (hx : IsReal x) : IsReal (Ideal.cos x) := by
  obtain ⟨a, rfl⟩ := hx; exact ⟨Real.cos a, rfl⟩

theorem IsReal.sin {x : EReal} (hx : IsReal x) : IsReal (Ideal.sin x) := by
  obtain ⟨a, rfl⟩ := hx; exact ⟨Real.sin a, rfl⟩

theorem IsReal.exp {x : EReal} (hx : IsReal x) : IsReal (Ideal.exp x) := by
  obtain ⟨a, rfl⟩ := hx; exact ⟨Real.exp a, rfl⟩

theorem IsReal.pow {x y : EReal} (hx : IsReal x) (hy : IsReal y) : IsReal (Ideal.pow x y) := by
  obtain ⟨a, rfl⟩ := hx; obtain ⟨b, rfl⟩ := hy; exact ⟨Real.rpow a b, rfl⟩

theorem IsReal.div {x y : EReal} (hx : IsReal x) (hy : IsReal y) (h : y ≠ 0) : IsReal (Ideal.div x y) := by
  obtain ⟨a, rfl⟩ := hx; obtain ⟨b, rfl⟩ := hy
  have hb : b ≠ 0 := by rintro rfl; exact h rfl
  rw [Ideal.div_coe hb]
  exact ⟨a * (1 / b), (EReal.coe_mul _ _).symm⟩

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ k, IsReal (f k)) : IsReal (∑ k ∈ s, f k) := by
  choose g hg using h
  exact ⟨∑ k ∈ s, g k, by rw [coe_sum]; exact Finset.sum_congr rfl fun k _ => hg k⟩

/-- A number whose absolute value is below `⊤` is real. -/
theorem IsReal.of_abs_lt {x : EReal} (h : max x (-x) < ⊤) : IsReal x := by
  induction x with
  | bot => simp at h
  | top => simp at h
  | coe r => exact ⟨r, rfl⟩

/-- The greatest of finitely many real numbers, at least one, is one of them. -/
theorem fold_max_mem {n : ℕ} (hn : 0 < n) (s : Fin n → EReal) (hs : ∀ k, IsReal (s k)) :
    ∃ k, Finset.univ.fold max ⊥ s = s k := by
  classical
  have key : ∀ t : Finset (Fin n), t.fold max ⊥ s = ⊥ ∨ ∃ k, t.fold max ⊥ s = s k := by
    intro t
    induction t using Finset.induction_on with
    | empty => left; simp
    | insert a t ha ih =>
      right
      rw [Finset.fold_insert ha]
      rcases ih with h | ⟨k, h⟩
      · exact ⟨a, by rw [h]; exact max_bot_right _⟩
      · rw [h]
        rcases max_choice (s a) (s k) with h' | h'
        · exact ⟨a, h'⟩
        · exact ⟨k, h'⟩
  rcases key Finset.univ with h | h
  · exfalso
    have hle : s ⟨0, hn⟩ ≤ Finset.univ.fold max ⊥ s := by
      rw [Finset.le_fold_max]; exact Or.inr ⟨⟨0, hn⟩, Finset.mem_univ _, le_rfl⟩
    rw [h] at hle
    obtain ⟨r, hr⟩ := hs ⟨0, hn⟩
    rw [hr] at hle
    exact absurd (le_bot_iff.mp hle) (EReal.coe_ne_bot r)
  · exact h

/-- A softmax row: the weighted sum divided once is the sum weighted by the divided weights. -/
theorem softmax_row {n : ℕ} (hn : 0 < n) (s v : Fin n → EReal) (hs : ∀ k, IsReal (s k)) (hv : ∀ k, IsReal (v k)) :
    Ideal.div (∑ k, Ideal.exp (s k - Finset.univ.fold max ⊥ s) * v k) (∑ k, Ideal.exp (s k - Finset.univ.fold max ⊥ s))
      = ∑ k, Ideal.div (Ideal.exp (s k - Finset.univ.fold max ⊥ s)) (∑ j, Ideal.exp (s j - Finset.univ.fold max ⊥ s)) * v k := by
  obtain ⟨k₀, hk₀⟩ := fold_max_mem hn s hs
  rw [hk₀]
  choose a ha using hs
  choose b hb using hv
  have he : ∀ k, Ideal.exp (s k - s k₀) = ((Real.exp (a k - a k₀) : ℝ) : EReal) := fun k => by
    rw [ha, ha, ← EReal.coe_sub]; rfl
  simp only [he, hb, ← EReal.coe_mul, ← coe_sum]
  have hl : (∑ k, Real.exp (a k - a k₀)) ≠ 0 :=
    (Finset.sum_pos (fun k _ => Real.exp_pos _) ⟨k₀, Finset.mem_univ _⟩).ne'
  simp only [Ideal.div_coe hl, ← EReal.coe_mul, ← coe_sum]
  rw [Finset.sum_mul]
  congr 1
  exact Finset.sum_congr rfl fun k _ => by ring

end Cert.Attn

end
-- ==== Proof.Block.lean ====
/- The attention kernel's output array, index by index, as one softmax row of the arrays the launch reads. -/
module

public import proofs.«01_k».proof.Proof.Gen.KernelIdeal.Value
public import proofs.«01_k».proof.Proof.Softmax
public import Idealize.ShloMosaic.Lib.Pipeline.ValueKit

@[expose] public section

set_option maxRecDepth 16384

noncomputable section

namespace Cert.Attn

open Idealize.ShloMosaic Idealize.ShloMosaic.Pipeline Cert.KernelIdeal Cert.KernelIdeal.Gen Pointwise
open scoped BigOperators

/-! ## The blocks the body reads and writes -/

/-- Each window's block index at grid point `t`: batch `t/64`, head `t/8%8`, query tile `t%8`. -/
theorem index_at : ∀ t : Fin grid0.N,
    win0_0.index t = ![t.val / 64 + 2, t.val % 8, t.val / 8 % 8]
    ∧ win0_1.index t = ![t.val / 64, t.val / 8 % 8, t.val % 8, 0]
    ∧ win0_2.index t = ![t.val / 64 + 2, 0, 2 * (t.val / 8 % 8)]
    ∧ win0_3.index t = ![t.val / 64, 0, 0]
    ∧ win0_4.index t = ![t.val / 64 + 2, 0, 2 * (t.val / 8 % 8) + 1]
    ∧ win0_5.index t = ![t.val / 64, 0, 2 * (t.val / 8 % 8)]
    ∧ win0_6.index t = ![t.val / 64, 0, 0]
    ∧ win0_7.index t = ![t.val / 64, 0, 2 * (t.val / 8 % 8) + 1]
    ∧ win0_8.index t = ![t.val / 64, t.val % 8, t.val / 8 % 8] := by decide +kernel

theorem lt_points (t : Fin cfg0.N) : t.val < 256 := t.isLt

section
variable {F : FTy → Type} [FloatOps F]

theorem read0 (A : FVec F S6x2048x1024 .bf16) (t : Fin cfg0.N) (r : Fin 256) (x : Fin 128) :
    ((cfg0.win 0).blk t).view.read (Elt F) A (ix3 0 r x)
      = A (ix3 (⟨t.val / 64 + 2, by have := lt_points t; omega⟩ : Fin 6) (⟨t.val % 8 * 256 + r, by omega⟩ : Fin 2048) (⟨t.val / 8 % 8 * 128 + x, by omega⟩ : Fin 1024)) := by
  have e := (index_at t).1
  blk_ext [e]

theorem read1 (A : FVec F S4x8x2048x64 .bf16) (t : Fin cfg0.N) (r : Fin 256) (x : Fin 64) :
    ((cfg0.win 1).blk t).view.read (Elt F) A (ix4 0 0 r x)
      = A (ix4 (⟨t.val / 64, by have := lt_points t; omega⟩ : Fin 4) (⟨t.val / 8 % 8, by omega⟩ : Fin 8) (⟨t.val % 8 * 256 + r, by omega⟩ : Fin 2048) x) := by
  have e := (index_at t).2.1
  blk_ext [e]

theorem read2 (A : FVec F S6x2048x2048 .bf16) (t : Fin cfg0.N) (k : Fin 2048) (x : Fin 128) :
    ((cfg0.win 2).blk t).view.read (Elt F) A (ix3 0 k x)
      = A (ix3 (⟨t.val / 64 + 2, by have := lt_points t; omega⟩ : Fin 6) k (⟨t.val / 8 % 8 * 256 + x, by omega⟩ : Fin 2048)) := by
  have e := (index_at t).2.2.1
  blk_ext [e]

theorem read3 (A : FVec F S4x2048x64 .bf16) (t : Fin cfg0.N) (k : Fin 2048) (x : Fin 64) :
    ((cfg0.win 3).blk t).view.read (Elt F) A (ix3 0 k x)
      = A (ix3 (⟨t.val / 64, by have := lt_points t; omega⟩ : Fin 4) k x) := by
  have e := (index_at t).2.2.2.1
  blk_ext [e]

theorem read4 (A : FVec F S6x2048x2048 .bf16) (t : Fin cfg0.N) (k : Fin 2048) (x : Fin 128) :
    ((cfg0.win 4).blk t).view.read (Elt F) A (ix3 0 k x)
      = A (ix3 (⟨t.val / 64 + 2, by have := lt_points t; omega⟩ : Fin 6) k (⟨t.val / 8 % 8 * 256 + 128 + x, by omega⟩ : Fin 2048)) := by
  have e := (index_at t).2.2.2.2.1
  blk_ext [e]

theorem read5 (A : FVec F S4x512x2048 .bf16) (t : Fin cfg0.N) (k : Fin 512) (x : Fin 128) :
    ((cfg0.win 5).blk t).view.read (Elt F) A (ix3 0 k x)
      = A (ix3 (⟨t.val / 64, by have := lt_points t; omega⟩ : Fin 4) k (⟨t.val / 8 % 8 * 256 + x, by omega⟩ : Fin 2048)) := by
  have e := (index_at t).2.2.2.2.2.1
  blk_ext [e]

theorem read6 (A : FVec F S4x512x64 .bf16) (t : Fin cfg0.N) (k : Fin 512) (x : Fin 64) :
    ((cfg0.win 6).blk t).view.read (Elt F) A (ix3 0 k x)
      = A (ix3 (⟨t.val / 64, by have := lt_points t; omega⟩ : Fin 4) k x) := by
  have e := (index_at t).2.2.2.2.2.2.1
  blk_ext [e]

theorem read7 (A : FVec F S4x512x2048 .bf16) (t : Fin cfg0.N) (k : Fin 512) (x : Fin 128) :
    ((cfg0.win 7).blk t).view.read (Elt F) A (ix3 0 k x)
      = A (ix3 (⟨t.val / 64, by have := lt_points t; omega⟩ : Fin 4) k (⟨t.val / 8 % 8 * 256 + 128 + x, by omega⟩ : Fin 2048)) := by
  have e := (index_at t).2.2.2.2.2.2.2.1
  blk_ext [e]

end

/-! ## The row the kernel computes -/

/-- The score of query `q` against key `k` (the frames of the sequence first, the context after them) in head `h` of
    sequence `b`. -/
def score (A0 : FVec Ideal S6x2048x1024 .bf16) (A1 : FVec Ideal S4x8x2048x64 .bf16) (A2 : FVec Ideal S6x2048x2048 .bf16)
    (A3 : FVec Ideal S4x2048x64 .bf16) (A5 : FVec Ideal S4x512x2048 .bf16) (A6 : FVec Ideal S4x512x64 .bf16)
    (b : Fin 4) (q : Fin 2048) (h : Fin 8) (k : Fin 2560) : EReal :=
  ((∑ x : Fin 128, A0 (ix3 (⟨b.val + 2, by omega⟩ : Fin 6) q (⟨h.val * 128 + x.val, by omega⟩ : Fin 1024))
      * (if hk : k.val < 2048 then A2 (ix3 (⟨b.val + 2, by omega⟩ : Fin 6) (⟨k.val, hk⟩ : Fin 2048) (⟨h.val * 256 + x.val, by omega⟩ : Fin 2048))
         else A5 (ix3 b (⟨k.val - 2048, by omega⟩ : Fin 512) (⟨h.val * 256 + x.val, by omega⟩ : Fin 2048))))
    + ∑ x : Fin 64, A1 (ix4 b h q x)
      * (if hk : k.val < 2048 then A3 (ix3 b (⟨k.val, hk⟩ : Fin 2048) x) else A6 (ix3 b (⟨k.val - 2048, by omega⟩ : Fin 512) x)))
  * Ideal.ofBits .f32 1033096506#32

/-- Lane `d` of the value of key `k` in head `h` of sequence `b`. -/
def value (A4 : FVec Ideal S6x2048x2048 .bf16) (A7 : FVec Ideal S4x512x2048 .bf16) (b : Fin 4) (h : Fin 8) (d : Fin 128) (k : Fin 2560) : EReal :=
  if hk : k.val < 2048 then A4 (ix3 (⟨b.val + 2, by omega⟩ : Fin 6) (⟨k.val, hk⟩ : Fin 2048) (⟨h.val * 256 + 128 + d.val, by omega⟩ : Fin 2048))
  else A7 (ix3 b (⟨k.val - 2048, by omega⟩ : Fin 512) (⟨h.val * 256 + 128 + d.val, by omega⟩ : Fin 2048))

/-- The largest score, as the kernel and the reference take it. -/
def top {n : ℕ} (s : Fin n → EReal) : EReal := Finset.univ.fold max (Ideal.ofBits .f32 4286578688#32) s

/-- One lane of one softmax row, divided after the weighted sum. -/
def row {n : ℕ} (s v : Fin n → EReal) : EReal :=
  Ideal.div (∑ k, Ideal.exp (s k - top s) * v k) (∑ k, Ideal.exp (s k - top s))

theorem row_at (v0 : Vec Ideal S1x256x128 .bf16) (v2 : Vec Ideal S1x1x256x64 .bf16) (v5 : Vec Ideal S1x2048x128 .bf16)
    (v7 : Vec Ideal S1x2048x64 .bf16) (v10 : Vec Ideal S1x2048x128 .bf16) (v12 : Vec Ideal S1x512x128 .bf16)
    (v14 : Vec Ideal S1x512x64 .bf16) (v18 : Vec Ideal S1x512x128 .bf16) (s v : Fin 2560 → EReal) (r : Fin 256) (d : Fin 128)
    (hs : ∀ k : Fin 2560, s k = ((∑ x : Fin 128, v0 (ix3 0 r x)
          * if hk : k.val < 2048 then v5 (ix3 0 (⟨k.val, hk⟩ : Fin 2048) x) else v12 (ix3 0 (⟨k.val - 2048, by omega⟩ : Fin 512) x))
        + ∑ x : Fin 64, v2 (ix4 0 0 r x)
          * if hk : k.val < 2048 then v7 (ix3 0 (⟨k.val, hk⟩ : Fin 2048) x) else v14 (ix3 0 (⟨k.val - 2048, by omega⟩ : Fin 512) x))
      * Ideal.ofBits .f32 1033096506#32)
    (hv : ∀ k : Fin 2560, v k = if hk : k.val < 2048 then v10 (ix3 0 (⟨k.val, hk⟩ : Fin 2048) d)
      else v18 (ix3 0 (⟨k.val - 2048, by omega⟩ : Fin 512) d)) :
    k0_pay1 (k0_pay2 v10 v18) (k0_pay3 v0 v2 v5 v7 v12 v14) (ix3 0 r d) = row s v := by
  have h3 : ∀ k : Fin 2560, k0_pay3 v0 v2 v5 v7 v12 v14 (ix2 r k) = Ideal.exp (s k - top s) := by
    intro k
    unfold top
    rw [funext hs]
    pointwise [k0_pay3]
  have h2 : ∀ k : Fin 2560, k0_pay2 v10 v18 (ix2 k d) = v k := by
    intro k
    rw [hv k]
    pointwise [k0_pay2]
  unfold row
  pointwise [k0_pay1]
  simp only [h3, h2]

/-- The whole output array of the kernel. -/
def attn (A0 : FVec Ideal S6x2048x1024 .bf16) (A1 : FVec Ideal S4x8x2048x64 .bf16) (A2 : FVec Ideal S6x2048x2048 .bf16)
    (A3 : FVec Ideal S4x2048x64 .bf16) (A5 : FVec Ideal S4x512x2048 .bf16) (A6 : FVec Ideal S4x512x64 .bf16) :
    FVec Ideal S4x2048x1024 .bf16 := fun i =>
  have h2 : (i 2).val < 1024 := (i 2).isLt
  row (score A0 A1 A2 A3 A5 A6 (i 0) (i 1) ⟨(i 2).val / 128, by omega⟩) (value A2 A5 (i 0) ⟨(i 2).val / 128, by omega⟩ ⟨(i 2).val % 128, by omega⟩)

end Cert.Attn

end
-- ==== Proof.Final.lean ====
/- The kernel's blocks together are the attention of the arrays its launch reads. -/
module

public import proofs.«01_k».proof.Proof.Block

@[expose] public section

set_option maxRecDepth 16384

noncomputable section

namespace Cert.Attn

open Idealize.ShloMosaic Idealize.ShloMosaic.Pipeline Idealize.SL.Sem Cert.KernelIdeal Cert.KernelIdeal.Gen Pointwise
open scoped BigOperators

variable (m : (ℓ : Loc nD τ sig) → Buf (Elt Ideal) ℓ)

/-- The attention of the arrays as the launch finds them. -/
def attnOf (c : Dev nD) : FVec Ideal S4x2048x1024 .bf16 :=
  attn (V m c main_v0) (V m c main_v72) (V m c main_v145) (V m c main_v144) (V m c main_v146) (V m c main_v147)

theorem attn_at (A0 : FVec Ideal S6x2048x1024 .bf16) (A1 : FVec Ideal S4x8x2048x64 .bf16) (A2 : FVec Ideal S6x2048x2048 .bf16)
    (A3 : FVec Ideal S4x2048x64 .bf16) (A5 : FVec Ideal S4x512x2048 .bf16) (A6 : FVec Ideal S4x512x64 .bf16)
    (b : Fin 4) (q : Fin 2048) (h : Fin 8) (d : Fin 128) (z : Fin 1024) (hz : z.val = h.val * 128 + d.val) :
    attn A0 A1 A2 A3 A5 A6 (ix3 b q z) = row (score A0 A1 A2 A3 A5 A6 b q h) (value A2 A5 b h d) := by
  obtain ⟨z, hz'⟩ := z
  have e1 : (⟨z / 128, by omega⟩ : Fin 8) = h := Fin.ext (by simp only at hz ⊢; omega)
  have e2 : (⟨z % 128, by omega⟩ : Fin 128) = d := Fin.ext (by simp only at hz ⊢; omega)
  show row (score A0 A1 A2 A3 A5 A6 b q (⟨z / 128, _⟩ : Fin 8)) (value A2 A5 b (⟨z / 128, _⟩ : Fin 8) (⟨z % 128, _⟩ : Fin 128)) = _
  rw [e1, e2]

/-- The body's value at lane `d` of row `r`, from eight blocks that hold the arrays' elements of grid point `t`. -/
theorem blk_at (A0 : FVec Ideal S6x2048x1024 .bf16) (A1 : FVec Ideal S4x8x2048x64 .bf16) (A2 : FVec Ideal S6x2048x2048 .bf16)
    (A3 : FVec Ideal S4x2048x64 .bf16) (A5 : FVec Ideal S4x512x2048 .bf16) (A6 : FVec Ideal S4x512x64 .bf16) (t : Fin cfg0.N)
    (X0 : Vec Ideal S1x256x128 .bf16) (h0 : ∀ (r : Fin 256) (x : Fin 128), X0 (ix3 0 r x) = A0 (ix3 (⟨t.val / 64 + 2, by have := lt_points t; omega⟩ : Fin 6) (⟨t.val % 8 * 256 + r, by omega⟩ : Fin 2048) (⟨t.val / 8 % 8 * 128 + x, by omega⟩ : Fin 1024)))
    (X1 : Vec Ideal S1x1x256x64 .bf16) (h1 : ∀ (r : Fin 256) (x : Fin 64), X1 (ix4 0 0 r x) = A1 (ix4 (⟨t.val / 64, by have := lt_points t; omega⟩ : Fin 4) (⟨t.val / 8 % 8, by omega⟩ : Fin 8) (⟨t.val % 8 * 256 + r, by omega⟩ : Fin 2048) x))
    (X2 : Vec Ideal S1x2048x128 .bf16) (h2 : ∀ (k : Fin 2048) (x : Fin 128), X2 (ix3 0 k x) = A2 (ix3 (⟨t.val / 64 + 2, by have := lt_points t; omega⟩ : Fin 6) k (⟨t.val / 8 % 8 * 256 + x, by omega⟩ : Fin 2048)))
    (X3 : Vec Ideal S1x2048x64 .bf16) (h3 : ∀ (k : Fin 2048) (x : Fin 64), X3 (ix3 0 k x) = A3 (ix3 (⟨t.val / 64, by have := lt_points t; omega⟩ : Fin 4) k x))
    (X4 : Vec Ideal S1x2048x128 .bf16) (h4 : ∀ (k : Fin 2048) (x : Fin 128), X4 (ix3 0 k x) = A2 (ix3 (⟨t.val / 64 + 2, by have := lt_points t; omega⟩ : Fin 6) k (⟨t.val / 8 % 8 * 256 + 128 + x, by omega⟩ : Fin 2048)))
    (X5 : Vec Ideal S1x512x128 .bf16) (h5 : ∀ (k : Fin 512) (x : Fin 128), X5 (ix3 0 k x) = A5 (ix3 (⟨t.val / 64, by have := lt_points t; omega⟩ : Fin 4) k (⟨t.val / 8 % 8 * 256 + x, by omega⟩ : Fin 2048)))
    (X6 : Vec Ideal S1x512x64 .bf16) (h6 : ∀ (k : Fin 512) (x : Fin 64), X6 (ix3 0 k x) = A6 (ix3 (⟨t.val / 64, by have := lt_points t; omega⟩ : Fin 4) k x))
    (X7 : Vec Ideal S1x512x128 .bf16) (h7 : ∀ (k : Fin 512) (x : Fin 128), X7 (ix3 0 k x) = A5 (ix3 (⟨t.val / 64, by have := lt_points t; omega⟩ : Fin 4) k (⟨t.val / 8 % 8 * 256 + 128 + x, by omega⟩ : Fin 2048)))
    (r : Fin 256) (d : Fin 128) :
    k0_pay1 (k0_pay2 X4 X7) (k0_pay3 X0 X1 X2 X3 X5 X6) (ix3 0 r d)
      = attn A0 A1 A2 A3 A5 A6 (ix3 (⟨t.val / 64, by have := lt_points t; omega⟩ : Fin 4)
          (⟨t.val % 8 * 256 + r.val, by omega⟩ : Fin 2048) (⟨t.val / 8 % 8 * 128 + d.val, by omega⟩ : Fin 1024)) := by
  rw [attn_at A0 A1 A2 A3 A5 A6 _ _ (⟨t.val / 8 % 8, by omega⟩ : Fin 8) d _ rfl]
  refine row_at _ _ _ _ _ _ _ _ _ _ r d (fun k => ?_) (fun k => ?_)
  · unfold score
    simp only [h0, h1, h2, h3, h5, h6]
  · unfold value
    simp only [h4, h7]

theorem final (c : Dev nD) : (dats m 0 c).arrAt 8 cfg0.N = attnOf m c := by
  refine (dats m 0 c).arrAt_eq_of_covers 8 _ (by decide +kernel) (fun t _ y => ?_)
  blk_simp
  rw [after0_8]
  frame_out
  have hy1 : (y 1 : Fin 256).val < 256 := (y 1 : Fin 256).isLt
  have hy2 : (y 2 : Fin 128).val < 128 := (y 2 : Fin 128).isLt
  have hy : y = ix3 (0 : Fin 1) (y 1 : Fin 256) (y 2 : Fin 128) := by blk_ext
  have hi : ((View.whole main_v148).slice (win0_8.rect t)).emb y
      = ix3 (⟨t.val / 64, by have := lt_points t; omega⟩ : Fin 4) (⟨t.val % 8 * 256 + (y 1 : Fin 256).val, by omega⟩ : Fin 2048)
          (⟨t.val / 8 % 8 * 128 + (y 2 : Fin 128).val, by omega⟩ : Fin 1024) := by
    have e := (index_at t).2.2.2.2.2.2.2.2
    blk_ext [e]
  rw [hi]
  refine Eq.trans ?_ (blk_at (V m c main_v0) (V m c main_v72) (V m c main_v145) (V m c main_v144) (V m c main_v146) (V m c main_v147) t
    _ (read0 _ t) _ (read1 _ t) _ (read2 _ t) _ (read3 _ t) _ (read4 _ t) _ (read5 _ t) _ (read6 _ t) _ (read7 _ t) (y 1) (y 2))
  exact congrArg (k0_pay1 (k0_pay2 (iblk m c 4 t) (iblk m c 7 t))
      (k0_pay3 (iblk m c 0 t) (iblk m c 1 t) (iblk m c 2 t) (iblk m c 3 t) (iblk m c 5 t) (iblk m c 6 t))) hy

end Cert.Attn

end
-- ==== Proof.HostRead.lean ====
/- The arrays the attention kernel reads, as the reference's own terms of the arguments: the host operations before the launch. -/
module

public import proofs.«01_k».proof.Proof.Gen.KernelIdeal.Frame
public import proofs.«01_k».proof.Proof.Gen.ReferenceIdeal.Read
public import Idealize.ShloMosaic.Lib.StableHlo.RunRead
public import Idealize.ShloMosaic.Lib.Pipeline.ValueKit
public import Idealize.ShloMosaic.Lib.Pointwise

@[expose] public section

set_option maxRecDepth 16384

noncomputable section

namespace Cert.Attn

open Idealize.ShloMosaic Idealize.SL.Sem Cert.KernelIdeal Cert.KernelIdeal.Gen Cert.ReferenceIdeal.Read
open Idealize.ShloMosaic.StableHlo Idealize.ShloMosaic.TcCoe Pointwise

/-- What an operation of four operands leaves at its result, from what it finds at each operand. -/
theorem four_result {τ : Topo} {sig : RefSig} {Val : EltTy → Type} {x a b c y : Ref sig .tc}
    (f : ((k : Fin 4) → ((![x, a, b, c] : Fin 4 → Ref sig .tc) k).ty.Contents Val) → y.ty.Contents Val) (hxs hy)
    (F : Valuation τ sig Val) {X A B C}
    (h0 : F (Proc.devRef .tc x) = X) (h1 : F (Proc.devRef .tc a) = A) (h2 : F (Proc.devRef .tc b) = B) (h3 : F (Proc.devRef .tc c) = C) :
    (nary (τ := τ) ![x, a, b, c] y f hxs hy).result F (Proc.devRef .tc y)
      = f (Fin.cons X (Fin.cons A (Fin.cons B (Fin.cons C (fun i => i.elim0))))) := by
  subst h0 h1 h2 h3
  exact nary4_result' f hxs hy F

variable (m : (ℓ : Loc nD τ sig) → Buf (Elt Ideal) ℓ)

set_option maxHeartbeats 4000000 in
/-- The rotary lanes of the queries. -/
theorem V_v70 (c : Dev nD) : V m c main_v70 = val_main_v79 (F := Ideal) (m ((c : Thread nD τ).loc main_arg1)) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  simp (disch := decide) only [readAfter]
  refine (four_result (X := val_main_v45 (F := Ideal) (m ((c : Thread nD τ).loc main_arg1))) (A := val_main_v52 (F := Ideal) (m ((c : Thread nD τ).loc main_arg1)))
    (B := val_main_v71 (F := Ideal) (m ((c : Thread nD τ).loc main_arg1))) (C := val_main_v78 (F := Ideal) (m ((c : Thread nD τ).loc main_arg1))) _ _ _ _ ?_ ?_ ?_ ?_).trans ?_
  · after_reads_simp; rfl
  · after_reads_simp; rfl
  · after_reads_simp; rfl
  · after_reads_simp; rfl
  · rfl

/-- The one rotary key lane block, whose unit axis a broadcast adds in the reference and a reshape in the kernel. -/
theorem lanes_layout (x3 : FVec Ideal Cert.ReferenceIdeal.S12288x64 .f32) :
    val_main_v81 (F := Ideal) x3
      = shapeCast S4x2048x1x64 (extractStridedSlice S8192x64 ![4096, 0] x3 slices_S12288x64_S8192x64_4096_0) shapeCasts_S8192x64_S4x2048x1x64 := by
  funext i
  obtain ⟨b, q, o, x, rfl⟩ : ∃ b q o x, i = ix4 b q o x := ⟨i 0, i 1, i 2, i 3, by ext k; fin_cases k <;> rfl⟩
  have ho : o = 0 := Fin.ext (by omega)
  subst ho
  unfold val_main_v81 val_main_v11 val_main_v10
  pointwise
  all_goals blk_ext

set_option maxHeartbeats 4000000 in
/-- The rotary lanes of the keys. -/
theorem V_v142 (c : Dev nD) : V m c main_v142 = val_main_v149 (F := Ideal) (m ((c : Thread nD τ).loc main_arg3)) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  simp (disch := decide) only [readAfter]
  refine (four_result (X := val_main_v115 (F := Ideal) (m ((c : Thread nD τ).loc main_arg3))) (A := val_main_v122 (F := Ideal) (m ((c : Thread nD τ).loc main_arg3)))
    (B := val_main_v141 (F := Ideal) (m ((c : Thread nD τ).loc main_arg3))) (C := val_main_v148 (F := Ideal) (m ((c : Thread nD τ).loc main_arg3))) _ _ _ _ ?_ ?_ ?_ ?_).trans ?_
  · unfold val_main_v115 val_main_v111 val_main_v114 val_main_v107 val_main_v108 val_main_v94
    rw [lanes_layout]; after_reads_simp; rfl
  · unfold val_main_v122 val_main_v118 val_main_v121 val_main_v107 val_main_v108 val_main_v94
    rw [lanes_layout]; after_reads_simp; rfl
  · unfold val_main_v141 val_main_v137 val_main_v140 val_main_v133 val_main_v134 val_main_v96
    rw [lanes_layout]; after_reads_simp; rfl
  · unfold val_main_v148 val_main_v144 val_main_v147 val_main_v133 val_main_v134 val_main_v96
    rw [lanes_layout]; after_reads_simp; rfl
  · rfl

end Cert.Attn

end
-- ==== Proof.RefRow.lean ====
/- The reference's result, index by index: the softmax row of its scores and its values. -/
module

public import proofs.«01_k».proof.Proof.Gen.ReferenceIdeal.Read
public import Idealize.ShloMosaic.Lib.Pipeline.ValueKit

@[expose] public section

set_option maxRecDepth 16384

noncomputable section

namespace Cert.Attn

open Idealize.ShloMosaic Cert.ReferenceIdeal Cert.ReferenceIdeal.Gen Cert.ReferenceIdeal.Read Pointwise
open scoped BigOperators

variable (x0 : FVec Ideal S12288x1024 .bf16) (x1 : FVec Ideal S12288x512 .f32) (x2 : FVec Ideal S12288x2048 .bf16)
  (x3 : FVec Ideal S12288x64 .f32) (x4 : FVec Ideal S2048x2048 .bf16) (x5 : FVec Ideal S4x512x64 .f32)

/-! ## From the result down to the scores and the values -/

theorem max_at (b : Fin 4) (h : Fin 8) (q : Fin 2048) :
    val_main_v168 (F := Ideal) x0 x1 x2 x3 x4 x5 (ix3 b h q)
      = Finset.univ.fold max (Ideal.ofBits .f32 4286578688#32) (fun k : Fin 2560 => val_main_v167 (F := Ideal) x0 x1 x2 x3 x4 x5 (ix4 b h q k)) := by
  unfold val_main_v168 val_main_cst_11
  generalize val_main_v167 (F := Ideal) x0 x1 x2 x3 x4 x5 = s
  pointwise

theorem exp_at (b : Fin 4) (h : Fin 8) (q : Fin 2048) (k : Fin 2560) :
    val_main_v174 (F := Ideal) x0 x1 x2 x3 x4 x5 (ix4 b h q k)
      = Ideal.exp (val_main_v167 (F := Ideal) x0 x1 x2 x3 x4 x5 (ix4 b h q k)
          - max (Ideal.ofBits .f32 4286578688#32) (val_main_v168 (F := Ideal) x0 x1 x2 x3 x4 x5 (ix3 b h q))) := by
  rw [val_main_v174_apply, val_main_v173_apply, val_main_v172_apply, val_main_v171_apply, val_main_v170_apply, val_main_v169_apply]
  have e : idx_main_v171 (idx_main_v172 (ix4 b h q k)) = ix3 b h q := by blk_ext
  rw [e]
  rfl

theorem sum_at (b : Fin 4) (h : Fin 8) (q : Fin 2048) :
    val_main_v175 (F := Ideal) x0 x1 x2 x3 x4 x5 (ix3 b h q)
      = 0 + ∑ k : Fin 2560, val_main_v174 (F := Ideal) x0 x1 x2 x3 x4 x5 (ix4 b h q k) := by
  rw [val_main_v175_apply]
  refine congrArg₂ (· + ·) ?_ (Finset.sum_congr rfl fun k _ => ?_)
  · unfold val_main_cst_13
    pointwise
  · refine congrArg (val_main_v174 (F := Ideal) x0 x1 x2 x3 x4 x5) ?_
    blk_ext

theorem weight_at (b : Fin 4) (h : Fin 8) (q : Fin 2048) (k : Fin 2560) :
    val_main_v178 (F := Ideal) x0 x1 x2 x3 x4 x5 (ix4 b h q k)
      = Ideal.div (val_main_v174 (F := Ideal) x0 x1 x2 x3 x4 x5 (ix4 b h q k)) (val_main_v175 (F := Ideal) x0 x1 x2 x3 x4 x5 (ix3 b h q)) := by
  unfold val_main_v178 val_main_v177 val_main_v176
  generalize val_main_v175 (F := Ideal) x0 x1 x2 x3 x4 x5 = t
  generalize val_main_v174 (F := Ideal) x0 x1 x2 x3 x4 x5 = s
  pointwise

theorem context_at (b : Fin 4) (h : Fin 8) (q : Fin 2048) (d : Fin 128) :
    val_main_v179 (F := Ideal) x0 x1 x2 x3 x4 x5 (ix4 b h d q)
      = ∑ k : Fin 2560, val_main_v164 (F := Ideal) x2 x4 (ix4 b k h d) * val_main_v178 (F := Ideal) x0 x1 x2 x3 x4 x5 (ix4 b h q k) := by
  rw [val_main_v179_apply]
  refine Finset.sum_congr rfl fun k _ => congrArg₂ (· * ·) (congrArg (val_main_v164 (F := Ideal) x2 x4) ?_)
    (congrArg (val_main_v178 (F := Ideal) x0 x1 x2 x3 x4 x5) ?_)
  · blk_ext
  · blk_ext

theorem result_at (b : Fin 4) (q : Fin 2048) (h : Fin 8) (d : Fin 128) :
    val_main_v182 (F := Ideal) x0 x1 x2 x3 x4 x5 (ix3 b q (⟨h.val * 128 + d.val, by omega⟩ : Fin 1024))
      = val_main_v179 (F := Ideal) x0 x1 x2 x3 x4 x5 (ix4 b h d q) := by
  unfold val_main_v182 val_main_v181 val_main_v180
  generalize val_main_v179 (F := Ideal) x0 x1 x2 x3 x4 x5 = s
  pointwise

/-! ## The values and the scores -/

theorem value_at (b : Fin 4) (k : Fin 2560) (h : Fin 8) (d : Fin 128) :
    val_main_v164 (F := Ideal) x2 x4 (ix4 b k h d)
      = if hk : k.val < 2048 then x2 (ix2 (⟨4096 + (b.val * 2048 + k.val), by omega⟩ : Fin 12288) (⟨h.val * 256 + (128 + d.val), by omega⟩ : Fin 2048))
        else x4 (ix2 (⟨b.val * 512 + (k.val - 2048), by omega⟩ : Fin 2048) (⟨h.val * 256 + (128 + d.val), by omega⟩ : Fin 2048)) := by
  unfold val_main_v164 val_main_v156 val_main_v162 val_main_v157 val_main_v151 val_main_v9 val_main_v8 val_main_v7 val_main_v6 val_main_v5
  pointwise

theorem dot_at (b : Fin 4) (h : Fin 8) (q : Fin 2048) (k : Fin 2560) :
    val_main_v165 (F := Ideal) x0 x1 x2 x3 x4 x5 (ix4 b h q k)
      = ∑ x : Fin 192, val_main_v80 (F := Ideal) x0 x1 (ix4 b q h x) * val_main_v163 (F := Ideal) x2 x3 x4 x5 (ix4 b k h x) := by
  unfold val_main_v165
  generalize val_main_v80 (F := Ideal) x0 x1 = s
  generalize val_main_v163 (F := Ideal) x2 x3 x4 x5 = v
  pointwise

theorem scaled_at (b : Fin 4) (h : Fin 8) (q : Fin 2048) (k : Fin 2560) :
    val_main_v167 (F := Ideal) x0 x1 x2 x3 x4 x5 (ix4 b h q k)
      = val_main_v165 (F := Ideal) x0 x1 x2 x3 x4 x5 (ix4 b h q k) * Ideal.ofBits .f32 1033096506#32 := by
  rw [val_main_v167_apply, val_main_v166_apply]
  rfl

theorem query_at (b : Fin 4) (q : Fin 2048) (h : Fin 8) (x : Fin 192) :
    val_main_v80 (F := Ideal) x0 x1 (ix4 b q h x)
      = if hx : x.val < 128 then x0 (ix2 (⟨4096 + (b.val * 2048 + q.val), by omega⟩ : Fin 12288) (⟨h.val * 128 + x.val, by omega⟩ : Fin 1024))
        else val_main_v79 (F := Ideal) x1 (ix4 b q h (⟨x.val - 128, by omega⟩ : Fin 64)) := by
  unfold val_main_v80 val_main_v2 val_main_v1 val_main_v0
  generalize val_main_v79 (F := Ideal) x1 = s
  pointwise

theorem key_at (b : Fin 4) (k : Fin 2560) (h : Fin 8) (x : Fin 192) :
    val_main_v163 (F := Ideal) x2 x3 x4 x5 (ix4 b k h x)
      = if hk : k.val < 2048 then
          if hx : x.val < 128 then x2 (ix2 (⟨4096 + (b.val * 2048 + k.val), by omega⟩ : Fin 12288) (⟨h.val * 256 + x.val, by omega⟩ : Fin 2048))
          else val_main_v149 (F := Ideal) x3 (ix4 b (⟨k.val, hk⟩ : Fin 2048) 0 (⟨x.val - 128, by omega⟩ : Fin 64))
        else
          if hx : x.val < 128 then x4 (ix2 (⟨b.val * 512 + (k.val - 2048), by omega⟩ : Fin 2048) (⟨h.val * 256 + x.val, by omega⟩ : Fin 2048))
          else x5 (ix3 b (⟨k.val - 2048, by omega⟩ : Fin 512) (⟨x.val - 128, by omega⟩ : Fin 64)) := by
  unfold val_main_v163 val_main_v161 val_main_v155 val_main_v158 val_main_v160 val_main_v159 val_main_v157 val_main_v9 val_main_v8
    val_main_v152 val_main_v151 val_main_v154 val_main_v153 val_main_v150 val_main_v7 val_main_v6 val_main_v5
  generalize val_main_v149 (F := Ideal) x3 = v
  pointwise

end Cert.Attn

end
-- ==== Proof.Match.lean ====
/- The kernel's row against the reference's: the same scores and values, and the division moved past the sum. -/
module

public import proofs.«01_k».proof.Proof.Block
public import proofs.«01_k».proof.Proof.RefRow

@[expose] public section

set_option maxRecDepth 16384

noncomputable section

namespace Cert.Attn

open Idealize.ShloMosaic Cert.ReferenceIdeal Cert.ReferenceIdeal.Gen Cert.ReferenceIdeal.Read Pointwise
open scoped BigOperators

/-- The largest-element accumulator starts at minus infinity. -/
theorem start_bot : Ideal.ofBits .f32 4286578688#32 = (⊥ : EReal) := by
  simp [Ideal.ofBits, Ideal.ieee]

/-- The scale of the scores is a real number. -/
theorem scale_real : IsReal (Ideal.ofBits .f32 1033096506#32) := by
  simp [Ideal.ofBits, Ideal.ieee]
  exact (IsReal.coe _).mul (.coe _)

/-- A sum over the 192 lanes of a head is the sum over its 128 plain lanes and its 64 rotary ones. -/
theorem sum_lanes (f : Fin 192 → EReal) :
    ∑ x, f x = ∑ x : Fin 128, f ⟨x.val, by omega⟩ + ∑ x : Fin 64, f ⟨128 + x.val, by omega⟩ :=
  Fin.sum_univ_add (a := 128) (b := 64) f

section
variable (x0 : FVec Ideal S12288x1024 .bf16) (x1 : FVec Ideal S12288x512 .f32) (x2 : FVec Ideal S12288x2048 .bf16)
  (x3 : FVec Ideal S12288x64 .f32) (x4 : FVec Ideal S2048x2048 .bf16) (x5 : FVec Ideal S4x512x64 .f32)
  (A0 : FVec Ideal Cert.KernelIdeal.S6x2048x1024 .bf16) (A1 : FVec Ideal Cert.KernelIdeal.S4x8x2048x64 .bf16)
  (A2 : FVec Ideal Cert.KernelIdeal.S6x2048x2048 .bf16) (A3 : FVec Ideal Cert.KernelIdeal.S4x2048x64 .bf16)
  (A5 : FVec Ideal Cert.KernelIdeal.S4x512x2048 .bf16) (A6 : FVec Ideal Cert.KernelIdeal.S4x512x64 .bf16)

/-- The arrays the launch reads, each an argument's layout or the rotated lanes. -/
structure Reads : Prop where
  h0 : ∀ (s : Fin 6) (q : Fin 2048) (z : Fin 1024), A0 (ix3 s q z) = x0 (ix2 (⟨s.val * 2048 + q.val, by omega⟩ : Fin 12288) z)
  h1 : ∀ (b : Fin 4) (h : Fin 8) (q : Fin 2048) (x : Fin 64), A1 (ix4 b h q x) = val_main_v79 (F := Ideal) x1 (ix4 b q h x)
  h2 : ∀ (s : Fin 6) (q : Fin 2048) (z : Fin 2048), A2 (ix3 s q z) = x2 (ix2 (⟨s.val * 2048 + q.val, by omega⟩ : Fin 12288) z)
  h3 : ∀ (b : Fin 4) (k : Fin 2048) (x : Fin 64), A3 (ix3 b k x) = val_main_v149 (F := Ideal) x3 (ix4 b k 0 x)
  h5 : ∀ (b : Fin 4) (k : Fin 512) (z : Fin 2048), A5 (ix3 b k z) = x4 (ix2 (⟨b.val * 512 + k.val, by omega⟩ : Fin 2048) z)
  h6 : ∀ (b : Fin 4) (k : Fin 512) (x : Fin 64), A6 (ix3 b k x) = x5 (ix3 b k x)

variable {x0 x1 x2 x3 x4 x5 A0 A1 A2 A3 A5 A6} (hR : Reads x0 x1 x2 x3 x4 x5 A0 A1 A2 A3 A5 A6)

include hR

theorem value_eq (b : Fin 4) (h : Fin 8) (d : Fin 128) (k : Fin 2560) :
    val_main_v164 (F := Ideal) x2 x4 (ix4 b k h d) = value A2 A5 b h d k := by
  rw [value_at]
  unfold value
  by_cases hk : k.val < 2048
  · rw [dif_pos hk, dif_pos hk, hR.h2]
    congr 1
    blk_ext
  · rw [dif_neg hk, dif_neg hk, hR.h5]
    congr 1
    blk_ext

theorem score_eq (b : Fin 4) (q : Fin 2048) (h : Fin 8) (k : Fin 2560) :
    val_main_v167 (F := Ideal) x0 x1 x2 x3 x4 x5 (ix4 b h q k) = score A0 A1 A2 A3 A5 A6 b q h k := by
  rw [scaled_at, dot_at, sum_lanes]
  unfold score
  refine congrArg (· * Ideal.ofBits .f32 1033096506#32) (congrArg₂ (· + ·) (Finset.sum_congr rfl fun x _ => ?_) (Finset.sum_congr rfl fun x _ => ?_))
  · rw [query_at, key_at]
    have hx : x.val < 128 := x.isLt
    simp only [hx, dif_pos, hR.h0, hR.h2, hR.h5]
    refine congrArg₂ (· * ·) ?_ ?_
    · congr 1; blk_ext
    · by_cases hk : k.val < 2048
      · rw [dif_pos hk, dif_pos hk]; congr 1; blk_ext
      · rw [dif_neg hk, dif_neg hk]
  · rw [query_at, key_at]
    have hx : ¬ 128 + x.val < 128 := by omega
    have hx' : (⟨128 + x.val - 128, by omega⟩ : Fin 64) = x := Fin.ext (by simp)
    simp only [hx, hx', dif_neg, not_false_eq_true, hR.h1, hR.h3, hR.h6]

/-- The kernel's row is the reference's result, where every score and every value is a real number. -/
theorem row_eq (b : Fin 4) (q : Fin 2048) (h : Fin 8) (d : Fin 128)
    (hs : ∀ k, IsReal (score A0 A1 A2 A3 A5 A6 b q h k)) (hv : ∀ k, IsReal (value A2 A5 b h d k)) :
    val_main_v182 (F := Ideal) x0 x1 x2 x3 x4 x5 (ix3 b q (⟨h.val * 128 + d.val, by omega⟩ : Fin 1024))
      = row (score A0 A1 A2 A3 A5 A6 b q h) (value A2 A5 b h d) := by
  rw [result_at, context_at]
  simp only [weight_at, sum_at, exp_at, max_at, score_eq hR, value_eq hR]
  unfold row top
  rw [start_bot, softmax_row (by omega) _ _ hs hv]
  refine Finset.sum_congr rfl fun k _ => ?_
  rw [mul_comm, zero_add, max_eq_right bot_le]

end

end Cert.Attn

end
-- ==== Proof.HostReads.lean ====
/- Every array the launch reads, as the arguments lay it out. -/
module

public import proofs.«01_k».proof.Proof.Gen.KernelIdeal.Frame
public import proofs.«01_k».proof.Proof.HostRead
public import proofs.«01_k».proof.Proof.Match
public import Idealize.ShloMosaic.Lib.StableHlo.RunRead
public import Idealize.ShloMosaic.Lib.Pipeline.ValueKit
public import Idealize.ShloMosaic.Lib.Pointwise

@[expose] public section

set_option maxRecDepth 16384

noncomputable section

namespace Cert.Attn

open Idealize.ShloMosaic Idealize.SL.Sem Cert.KernelIdeal Cert.KernelIdeal.Gen Cert.ReferenceIdeal.Read
open Idealize.ShloMosaic.StableHlo Idealize.ShloMosaic.TcCoe Pointwise

variable (m : (ℓ : Loc nD τ sig) → Buf (Elt Ideal) ℓ)

set_option maxHeartbeats 4000000 in
theorem V_v72 (c : Dev nD) : V m c main_v72
    = truncf (F := Ideal) .bf16 (transpose S4x8x2048x64 [0, 2, 1, 3] (V m c main_v70) transposes_S4x2048x8x64_S4x8x2048x64_0_2_1_3) bitsLt_bf16_f32 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  simp (disch := decide) only [readAfter, unary_result']
  rfl

set_option maxHeartbeats 4000000 in
theorem V_v144 (c : Dev nD) : V m c main_v144
    = truncf (F := Ideal) .bf16 (shapeCast S4x2048x64 (V m c main_v142) shapeCasts_S4x2048x1x64_S4x2048x64) bitsLt_bf16_f32 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  simp (disch := decide) only [readAfter, unary_result', reshape_result']
  rfl

theorem V_v0 (c : Dev nD) : V m c main_v0
    = shapeCast S6x2048x1024 (m ((c : Thread nD τ).loc main_arg0)) shapeCasts_S12288x1024_S6x2048x1024 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_reads_simp <;> rfl

theorem V_v145 (c : Dev nD) : V m c main_v145
    = shapeCast S6x2048x2048 (m ((c : Thread nD τ).loc main_arg2)) shapeCasts_S12288x2048_S6x2048x2048 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_reads_simp <;> rfl

theorem V_v146 (c : Dev nD) : V m c main_v146
    = shapeCast S4x512x2048 (m ((c : Thread nD τ).loc main_arg4)) shapeCasts_S2048x2048_S4x512x2048 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_reads_simp <;> rfl

theorem V_v147 (c : Dev nD) : V m c main_v147
    = truncf (F := Ideal) .bf16 (m ((c : Thread nD τ).loc main_arg5)) bitsLt_bf16_f32 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_reads_simp <;> rfl

theorem rows_at (x : FVec Ideal S12288x1024 .bf16) (s : Fin 6) (q : Fin 2048) (z : Fin 1024) :
    shapeCast S6x2048x1024 x shapeCasts_S12288x1024_S6x2048x1024 (ix3 s q z) = x (ix2 (⟨s.val * 2048 + q.val, by omega⟩ : Fin 12288) z) := by
  pointwise; all_goals blk_ext

theorem cols_at (x : FVec Ideal S12288x2048 .bf16) (s : Fin 6) (q : Fin 2048) (z : Fin 2048) :
    shapeCast S6x2048x2048 x shapeCasts_S12288x2048_S6x2048x2048 (ix3 s q z) = x (ix2 (⟨s.val * 2048 + q.val, by omega⟩ : Fin 12288) z) := by
  pointwise; all_goals blk_ext

theorem tail_rows_at (x : FVec Ideal S2048x2048 .bf16) (b : Fin 4) (k : Fin 512) (z : Fin 2048) :
    shapeCast S4x512x2048 x shapeCasts_S2048x2048_S4x512x2048 (ix3 b k z) = x (ix2 (⟨b.val * 512 + k.val, by omega⟩ : Fin 2048) z) := by
  pointwise; all_goals blk_ext

theorem heads_at (y : FVec Ideal S4x2048x8x64 .f32) (b : Fin 4) (h : Fin 8) (q : Fin 2048) (x : Fin 64) :
    truncf (F := Ideal) .bf16 (transpose S4x8x2048x64 [0, 2, 1, 3] y transposes_S4x2048x8x64_S4x8x2048x64_0_2_1_3) bitsLt_bf16_f32 (ix4 b h q x)
      = y (ix4 b q h x) := by
  pointwise; all_goals blk_ext

theorem unit_at (y : FVec Ideal S4x2048x1x64 .f32) (b : Fin 4) (k : Fin 2048) (x : Fin 64) :
    truncf (F := Ideal) .bf16 (shapeCast S4x2048x64 y shapeCasts_S4x2048x1x64_S4x2048x64) bitsLt_bf16_f32 (ix3 b k x)
      = y (ix4 b k 0 x) := by
  pointwise; all_goals blk_ext

/-- The launch finds the arguments laid out, and the rotated lanes beside them. -/
theorem reads (c : Dev nD) : Reads (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (V m c main_v0) (V m c main_v72) (V m c main_v145) (V m c main_v144) (V m c main_v146) (V m c main_v147) where
  h0 s q z := (congrFun (V_v0 m c) _).trans (rows_at _ s q z)
  h1 b h q x := (congrFun ((V_v72 m c).trans (congrArg (fun y => truncf (F := Ideal) .bf16 (transpose S4x8x2048x64 [0, 2, 1, 3] y transposes_S4x2048x8x64_S4x8x2048x64_0_2_1_3) bitsLt_bf16_f32) (V_v70 m c))) _).trans (heads_at _ b h q x)
  h2 s q z := (congrFun (V_v145 m c) _).trans (cols_at _ s q z)
  h3 b k x := (congrFun ((V_v144 m c).trans (congrArg (fun y => truncf (F := Ideal) .bf16 (shapeCast S4x2048x64 y shapeCasts_S4x2048x1x64_S4x2048x64) bitsLt_bf16_f32) (V_v142 m c))) _).trans (unit_at _ b k x)
  h5 b k z := (congrFun (V_v146 m c) _).trans (tail_rows_at _ b k z)
  h6 b k x := congrFun (V_v147 m c) _

end Cert.Attn

end
-- ==== Proof.Real.lean ====
/- The rotary lanes of the queries and of the keys are real numbers when their arguments are: products of an argument
   with a cosine or a sine of a real angle. -/
module

public import proofs.«01_k».proof.Proof.Softmax
public import proofs.«01_k».proof.Proof.Gen.ReferenceIdeal.Read

@[expose] public section

set_option maxRecDepth 16384

noncomputable section

namespace Cert.Attn

open Idealize.ShloMosaic Cert.ReferenceIdeal Cert.ReferenceIdeal.Gen Cert.ReferenceIdeal.Read

/-- What holds of every element of every operand holds of every element of their concatenation. -/
theorem concatenate_all {α : Type} {P : α → Prop} (t : Shape) (a : Fin t.rank) (xs : List ((s : Shape) × (s.Idx → α)))
    (h : Shape.Concatenates (xs.map (·.1)) t a) (hP : ∀ p ∈ xs, ∀ i, P (p.2 i)) (j : t.Idx) : P (concatenate t a xs h j) :=
  hP _ (List.getElem_mem _) _

/-- An integer's float is a real number. -/
theorem IsReal.int {w : Nat} (x : BitVec w) : IsReal (FloatOps.sitofp (F := Ideal) .f32 x) := ⟨_, rfl⟩

theorem two_real : IsReal (Ideal.ofBits .f32 0x40000000#32) := by
  simp [Ideal.ofBits, Ideal.ieee]
  exact (IsReal.coe _).mul (.coe _)
theorem zero_real : IsReal (Ideal.ofBits .f32 0x00000000#32) := by
  simp [Ideal.ofBits, Ideal.ieee]
  exact .zero
theorem thirtytwo_real : IsReal (Ideal.ofBits .f32 0x42000000#32) ∧ Ideal.ofBits .f32 0x42000000#32 ≠ 0 := by
  have e : Ideal.ofBits .f32 0x42000000#32 = ((32 : ℝ) : EReal) := by
    simp [Ideal.ofBits, Ideal.ieee]
    rw [← EReal.coe_mul]
    norm_num
  rw [e]
  exact ⟨.coe _, by exact_mod_cast (by norm_num : (32 : ℝ) ≠ 0)⟩
theorem base_real : IsReal (Ideal.ofBits .f32 0x461C4000#32) := by
  simp [Ideal.ofBits, Ideal.ieee]
  exact (IsReal.coe _).mul (.coe _)

/-- The rotary frequencies. -/
theorem query_freq (i : S16.Idx) : IsReal (val_main_v22 (F := Ideal) i) := by
  simp only [val_main_v14_apply, val_main_v15_apply, val_main_v16_apply, val_main_v17_apply, val_main_v18_apply, val_main_v19_apply, val_main_v20_apply, val_main_v21_apply, val_main_v22_apply, val_main_cst_apply, val_main_cst_0_apply, val_main_cst_1_apply, val_main_cst_2_apply]
  exact base_real.pow (((zero_real.add (two_real.mul (.int _))).neg).div thirtytwo_real.1 thirtytwo_real.2)

theorem key_freq (i : S16.Idx) : IsReal (val_main_v92 (F := Ideal) i) := by
  simp only [val_main_v84_apply, val_main_v85_apply, val_main_v86_apply, val_main_v87_apply, val_main_v88_apply, val_main_v89_apply, val_main_v90_apply, val_main_v91_apply, val_main_v92_apply, val_main_cst_4_apply, val_main_cst_5_apply, val_main_cst_6_apply, val_main_cst_7_apply]
  exact base_real.pow (((zero_real.add (two_real.mul (.int _))).neg).div thirtytwo_real.1 thirtytwo_real.2)

theorem query_first_turn (i : _) : IsReal (val_main_v33 (F := Ideal) i) ∧ IsReal (val_main_v35 (F := Ideal) i) := by
  simp only [val_main_v27_apply, val_main_v28_apply, val_main_v29_apply, val_main_v30_apply, val_main_v31_apply, val_main_v32_apply, val_main_v33_apply, val_main_v34_apply, val_main_v35_apply]
  exact ⟨((IsReal.int _).mul (query_freq _)).cos, ((IsReal.int _).mul (query_freq _)).sin⟩

theorem query_second_turn (i : _) : IsReal (val_main_v59 (F := Ideal) i) ∧ IsReal (val_main_v61 (F := Ideal) i) := by
  simp only [val_main_v53_apply, val_main_v54_apply, val_main_v55_apply, val_main_v56_apply, val_main_v57_apply, val_main_v58_apply, val_main_v59_apply, val_main_v60_apply, val_main_v61_apply]
  exact ⟨((IsReal.int _).mul (query_freq _)).cos, ((IsReal.int _).mul (query_freq _)).sin⟩

section
variable {x1 : FVec Ideal S12288x512 .f32} (hx : ∀ i, IsReal (x1 i))
include hx

theorem query_lanes_45 (i : S4x2048x8x16.Idx) : IsReal (val_main_v45 (F := Ideal) x1 i) := by
  simp only [val_main_v3_apply, val_main_v4_apply, val_main_v24_apply, val_main_v26_apply, val_main_v34_apply, val_main_v36_apply, val_main_v37_apply, val_main_v38_apply, val_main_v39_apply, val_main_v40_apply, val_main_v41_apply, val_main_v42_apply, val_main_v43_apply, val_main_v44_apply, val_main_v45_apply]
  exact ((hx _).mul (query_first_turn _).1).sub ((hx _).mul (query_first_turn _).2)

theorem query_lanes_52 (i : S4x2048x8x16.Idx) : IsReal (val_main_v52 (F := Ideal) x1 i) := by
  simp only [val_main_v3_apply, val_main_v4_apply, val_main_v24_apply, val_main_v26_apply, val_main_v34_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply]
  exact ((hx _).mul (query_first_turn _).1).add ((hx _).mul (query_first_turn _).2)

theorem query_lanes_71 (i : S4x2048x8x16.Idx) : IsReal (val_main_v71 (F := Ideal) x1 i) := by
  simp only [val_main_v3_apply, val_main_v4_apply, val_main_v24_apply, val_main_v26_apply, val_main_v60_apply, val_main_v62_apply, val_main_v63_apply, val_main_v64_apply, val_main_v65_apply, val_main_v66_apply, val_main_v67_apply, val_main_v68_apply, val_main_v69_apply, val_main_v70_apply, val_main_v71_apply]
  exact ((hx _).mul (query_second_turn _).1).sub ((hx _).mul (query_second_turn _).2)

theorem query_lanes_78 (i : S4x2048x8x16.Idx) : IsReal (val_main_v78 (F := Ideal) x1 i) := by
  simp only [val_main_v3_apply, val_main_v4_apply, val_main_v24_apply, val_main_v26_apply, val_main_v60_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_v77_apply, val_main_v78_apply]
  exact ((hx _).mul (query_second_turn _).1).add ((hx _).mul (query_second_turn _).2)

/-- The querys' rotary lanes. -/
theorem query_lanes (i : _) : IsReal (val_main_v79 (F := Ideal) x1 i) := by
  unfold val_main_v79
  refine concatenate_all _ _ _ _ (fun p hp => ?_) i
  simp only [List.mem_cons, List.not_mem_nil, or_false] at hp
  rcases hp with rfl | rfl | rfl | rfl
  · exact query_lanes_45 hx
  · exact query_lanes_52 hx
  · exact query_lanes_71 hx
  · exact query_lanes_78 hx

end

theorem key_first_turn (i : _) : IsReal (val_main_v103 (F := Ideal) i) ∧ IsReal (val_main_v105 (F := Ideal) i) := by
  simp only [val_main_v97_apply, val_main_v98_apply, val_main_v99_apply, val_main_v100_apply, val_main_v101_apply, val_main_v102_apply, val_main_v103_apply, val_main_v104_apply, val_main_v105_apply]
  exact ⟨((IsReal.int _).mul (key_freq _)).cos, ((IsReal.int _).mul (key_freq _)).sin⟩

theorem key_second_turn (i : _) : IsReal (val_main_v129 (F := Ideal) i) ∧ IsReal (val_main_v131 (F := Ideal) i) := by
  simp only [val_main_v123_apply, val_main_v124_apply, val_main_v125_apply, val_main_v126_apply, val_main_v127_apply, val_main_v128_apply, val_main_v129_apply, val_main_v130_apply, val_main_v131_apply]
  exact ⟨((IsReal.int _).mul (key_freq _)).cos, ((IsReal.int _).mul (key_freq _)).sin⟩

section
variable {x3 : FVec Ideal S12288x64 .f32} (hx : ∀ i, IsReal (x3 i))
include hx

theorem key_lanes_115 (i : S4x2048x1x16.Idx) : IsReal (val_main_v115 (F := Ideal) x3 i) := by
  simp only [val_main_v10_apply, val_main_v11_apply, val_main_v81_apply, val_main_v94_apply, val_main_v96_apply, val_main_v104_apply, val_main_v106_apply, val_main_v107_apply, val_main_v108_apply, val_main_v109_apply, val_main_v110_apply, val_main_v111_apply, val_main_v112_apply, val_main_v113_apply, val_main_v114_apply, val_main_v115_apply]
  exact ((hx _).mul (key_first_turn _).1).sub ((hx _).mul (key_first_turn _).2)

theorem key_lanes_122 (i : S4x2048x1x16.Idx) : IsReal (val_main_v122 (F := Ideal) x3 i) := by
  simp only [val_main_v10_apply, val_main_v11_apply, val_main_v81_apply, val_main_v94_apply, val_main_v96_apply, val_main_v104_apply, val_main_v106_apply, val_main_v107_apply, val_main_v108_apply, val_main_v109_apply, val_main_v110_apply, val_main_v111_apply, val_main_v112_apply, val_main_v113_apply, val_main_v114_apply, val_main_v115_apply, val_main_v116_apply, val_main_v117_apply, val_main_v118_apply, val_main_v119_apply, val_main_v120_apply, val_main_v121_apply, val_main_v122_apply]
  exact ((hx _).mul (key_first_turn _).1).add ((hx _).mul (key_first_turn _).2)

theorem key_lanes_141 (i : S4x2048x1x16.Idx) : IsReal (val_main_v141 (F := Ideal) x3 i) := by
  simp only [val_main_v10_apply, val_main_v11_apply, val_main_v81_apply, val_main_v94_apply, val_main_v96_apply, val_main_v130_apply, val_main_v132_apply, val_main_v133_apply, val_main_v134_apply, val_main_v135_apply, val_main_v136_apply, val_main_v137_apply, val_main_v138_apply, val_main_v139_apply, val_main_v140_apply, val_main_v141_apply]
  exact ((hx _).mul (key_second_turn _).1).sub ((hx _).mul (key_second_turn _).2)

theorem key_lanes_148 (i : S4x2048x1x16.Idx) : IsReal (val_main_v148 (F := Ideal) x3 i) := by
  simp only [val_main_v10_apply, val_main_v11_apply, val_main_v81_apply, val_main_v94_apply, val_main_v96_apply, val_main_v130_apply, val_main_v132_apply, val_main_v133_apply, val_main_v134_apply, val_main_v135_apply, val_main_v136_apply, val_main_v137_apply, val_main_v138_apply, val_main_v139_apply, val_main_v140_apply, val_main_v141_apply, val_main_v142_apply, val_main_v143_apply, val_main_v144_apply, val_main_v145_apply, val_main_v146_apply, val_main_v147_apply, val_main_v148_apply]
  exact ((hx _).mul (key_second_turn _).1).add ((hx _).mul (key_second_turn _).2)

/-- The keys' rotary lanes. -/
theorem key_lanes (i : _) : IsReal (val_main_v149 (F := Ideal) x3 i) := by
  unfold val_main_v149
  refine concatenate_all _ _ _ _ (fun p hp => ?_) i
  simp only [List.mem_cons, List.not_mem_nil, or_false] at hp
  rcases hp with rfl | rfl | rfl | rfl
  · exact key_lanes_115 hx
  · exact key_lanes_122 hx
  · exact key_lanes_141 hx
  · exact key_lanes_148 hx

end

end Cert.Attn

end
-- ==== Proof.Finite.lean ====
/- The precondition: every element of every argument is a real number; then so is every score and every value. -/
module

public import proofs.«01_k».proof.Defs
public import proofs.«01_k».proof.Proof.Match
public import proofs.«01_k».proof.Proof.Final
public import proofs.«01_k».proof.Proof.Real
public import Idealize.ShloMosaic.Lib.Pointwise

@[expose] public section

set_option maxRecDepth 16384

noncomputable section

namespace Cert.Attn

open Idealize.ShloMosaic
open scoped BigOperators

instance finite_facts : Cert.Pre_finite.Facts where
  bcast_S_S12288x1024 := by decide
  bcast_S_S12288x512 := by decide
  bcast_S_S12288x2048 := by decide
  bcast_S_S12288x64 := by decide
  bcast_S_S2048x2048 := by decide
  bcast_S_S4x512x64 := by decide

theorem inf_bf16 : Ideal.ofBits .bf16 0x7F80#16 = (⊤ : EReal) := by
  simp [Ideal.ofBits, Ideal.ieee]

theorem inf_f32 : Ideal.ofBits .f32 0x7F800000#32 = (⊤ : EReal) := by
  simp [Ideal.ofBits, Ideal.ieee]

/-- An element whose absolute value compares below infinity is a real number. -/
theorem real_of_lt {x y : EReal} (hy : y = ⊤) (h : Ideal.cmp .olt (max x (-x)) y = 1#1) : IsReal x := by
  subst hy
  refine .of_abs_lt ?_
  by_contra hn
  simp [Ideal.cmp, hn] at h

theorem real_bf16 {s : Shape} (x : FVec Ideal s .bf16) (hb : Cert.Pre_finite.S_.BroadcastsInDim s ![])
    (h : cmpf .olt (Host.absf x) (broadcastInDim s ![] hb (constant (F := Ideal) Cert.Pre_finite.S_ .bf16 0x7F80#16)) = fun _ => 1#1)
    (i : s.Idx) : IsReal (x i) :=
  real_of_lt inf_bf16 (congrFun h i)

theorem real_f32 {s : Shape} (x : FVec Ideal s .f32) (hb : Cert.Pre_finite.S_.BroadcastsInDim s ![])
    (h : cmpf .olt (Host.absf x) (broadcastInDim s ![] hb (constant (F := Ideal) Cert.Pre_finite.S_ .f32 0x7F800000#32)) = fun _ => 1#1)
    (i : s.Idx) : IsReal (x i) :=
  real_of_lt inf_f32 (congrFun h i)

open Cert.ReferenceIdeal Cert.ReferenceIdeal.Gen Cert.ReferenceIdeal.Read Pointwise

section
variable {x0 : FVec Ideal S12288x1024 .bf16} {x1 : FVec Ideal S12288x512 .f32} {x2 : FVec Ideal S12288x2048 .bf16}
  {x3 : FVec Ideal S12288x64 .f32} {x4 : FVec Ideal S2048x2048 .bf16} {x5 : FVec Ideal S4x512x64 .f32}
  {A0 : FVec Ideal Cert.KernelIdeal.S6x2048x1024 .bf16} {A1 : FVec Ideal Cert.KernelIdeal.S4x8x2048x64 .bf16}
  {A2 : FVec Ideal Cert.KernelIdeal.S6x2048x2048 .bf16} {A3 : FVec Ideal Cert.KernelIdeal.S4x2048x64 .bf16}
  {A5 : FVec Ideal Cert.KernelIdeal.S4x512x2048 .bf16} {A6 : FVec Ideal Cert.KernelIdeal.S4x512x64 .bf16}
  (hR : Reads x0 x1 x2 x3 x4 x5 A0 A1 A2 A3 A5 A6)
  (r0 : ∀ i, IsReal (x0 i)) (r1 : ∀ i, IsReal (x1 i)) (r2 : ∀ i, IsReal (x2 i)) (r3 : ∀ i, IsReal (x3 i))
  (r4 : ∀ i, IsReal (x4 i)) (r5 : ∀ i, IsReal (x5 i))

include hR

include r2 r4 in
theorem value_real (b : Fin 4) (h : Fin 8) (d : Fin 128) (k : Fin 2560) : IsReal (value A2 A5 b h d k) := by
  unfold value
  split
  · rw [hR.h2]; exact r2 _
  · rw [hR.h5]; exact r4 _

include r0 r1 r2 r3 r4 r5 in
theorem score_real (b : Fin 4) (q : Fin 2048) (h : Fin 8) (k : Fin 2560) : IsReal (score A0 A1 A2 A3 A5 A6 b q h k) := by
  unfold score
  refine IsReal.mul (IsReal.add (IsReal.sum _ fun x => IsReal.mul ?_ ?_) (IsReal.sum _ fun x => IsReal.mul ?_ ?_)) scale_real
  · rw [hR.h0]; exact r0 _
  · split
    · rw [hR.h2]; exact r2 _
    · rw [hR.h5]; exact r4 _
  · rw [hR.h1]; exact query_lanes r1 _
  · split
    · rw [hR.h3]; exact key_lanes r3 _
    · rw [hR.h6]; exact r5 _

include r0 r1 r2 r3 r4 r5 in
/-- The reference's result is the kernel's array. -/
theorem result_eq : val_main_v182 (F := Ideal) x0 x1 x2 x3 x4 x5 = attn A0 A1 A2 A3 A5 A6 := by
  funext i
  obtain ⟨b, q, z, rfl⟩ : ∃ (b : Fin 4) (q : Fin 2048) (z : Fin 1024), i = ix3 b q z := ⟨i 0, i 1, i 2, by ext k; fin_cases k <;> rfl⟩
  have hz : z = (⟨(z.val / 128) * 128 + z.val % 128, by omega⟩ : Fin 1024) := Fin.ext (by simp only; omega)
  rw [attn_at A0 A1 A2 A3 A5 A6 b q (⟨z.val / 128, by omega⟩ : Fin 8) (⟨z.val % 128, by omega⟩ : Fin 128) z (by simp only; omega)]
  exact (congrArg (fun z => val_main_v182 (F := Ideal) x0 x1 x2 x3 x4 x5 (ix3 b q z)) hz).trans (row_eq hR b q (⟨z.val / 128, by omega⟩ : Fin 8) (⟨z.val % 128, by omega⟩ : Fin 128)
    (fun k => score_real hR r0 r1 r2 r3 r4 r5 b q _ k) (fun k => value_real hR r2 r4 b _ _ k))

end

end Cert.Attn

end
-- ==== Proof.Norm.lean ====
/- One row of the modulated norm, the product of two arrays, and the row of the conditions a token takes its shift and scale from. -/
module

public import Idealize.ShloMosaic.Lib.Pipeline.ValueKit

@[expose] public section

set_option maxRecDepth 16384

noncomputable section

namespace Cert.Layer

open Idealize.ShloMosaic Pointwise
open scoped BigOperators

/-- Lane `z` of a row `x` divided by the root of its mean square, times `g`, then scaled and shifted. -/
def modRow (x g shift scale : Fin 2048 → EReal) (z : Fin 2048) : EReal :=
  x z * Ideal.rsqrt (Ideal.div (∑ y : Fin 2048, x y * x y) (Ideal.ofBits .f32 0x45000000#32) + Ideal.ofBits .f32 0x358637BD#32) * g z
    * (Ideal.ofBits .f32 0x3F800000#32 + scale z) + shift z

/-- The condition of token `r`: the context's for the first 4096 tokens, then one for each 2048 tokens. -/
def cond (r : Fin 12288) : Fin 8 :=
  if r.val < 4096 then 0 else ⟨1 + (r.val - 4096) / 2048, by have := r.isLt; omega⟩

/-- Entry `a` of the six of token `r`'s condition. -/
def slot (r : Fin 12288) (a : Fin 6) : Fin 48 := ⟨(cond r).val * 6 + a.val, by have := (cond r).isLt; omega⟩

theorem slot_ctx (r : Fin 12288) (a : Fin 6) (h : r.val < 4096) : (slot r a).val = a.val := by
  unfold slot cond
  simp [h]

theorem slot_lat (r : Fin 12288) (a : Fin 6) (h : ¬ r.val < 4096) : (slot r a).val = (1 + (r.val - 4096) / 2048) * 6 + a.val := by
  unfold slot cond
  simp [h]

/-- The modulated norm of token `r`, its shift and its scale entries `a` and `b` of the token's condition. -/
def normed (x : FVec Ideal ⟨2, ![12288, 2048]⟩ .f32) (g : FVec Ideal ⟨1, ![2048]⟩ .f32) (mods : FVec Ideal ⟨3, ![48, 1, 2048]⟩ .f32)
    (a b : Fin 6) (r : Fin 12288) : Fin 2048 → EReal :=
  modRow (fun y => x (ix2 r y)) (fun y => g (ix1 y)) (fun y => mods (ix3 (slot r a) 0 y)) (fun y => mods (ix3 (slot r b) 0 y))

/-- In the tiling by 1024 tokens, the tile's condition is its tokens'. -/
theorem slot_tile (t : ℕ) (ht : t < 12) (r : Fin 1024) (a : Fin 6) :
    (slot (⟨t * 1024 + r.val, by omega⟩ : Fin 12288) a).val = (if t < 4 then 0 else 1 + (t - 4) / 2) * 6 + a.val := by
  by_cases h : t < 4
  · rw [slot_ctx _ _ (by simp only; omega), if_pos h]; omega
  · rw [slot_lat _ _ (by simp only; omega), if_neg h]; simp only; omega

/-- The modulated norm of every token. -/
def normArray (x : FVec Ideal ⟨2, ![12288, 2048]⟩ .f32) (g : FVec Ideal ⟨1, ![2048]⟩ .f32) (mods : FVec Ideal ⟨3, ![48, 1, 2048]⟩ .f32)
    (a b : Fin 6) : FVec Ideal ⟨2, ![12288, 2048]⟩ .bf16 := fun i => normed x g mods a b (i 0) (i 1)

/-- A lane of the modulated norm, from what a tile's row holds of the four arrays. -/
theorem normArray_at (x : FVec Ideal ⟨2, ![12288, 2048]⟩ .f32) (g : FVec Ideal ⟨1, ![2048]⟩ .f32) (mods : FVec Ideal ⟨3, ![48, 1, 2048]⟩ .f32)
    (a b : Fin 6) (r : Fin 12288) (z : Fin 2048) (u v p q : Fin 2048 → EReal) (hu : ∀ y, u y = x (ix2 r y)) (hv : ∀ y, v y = g (ix1 y))
    (hp : ∀ y, p y = mods (ix3 (slot r a) 0 y)) (hq : ∀ y, q y = mods (ix3 (slot r b) 0 y)) :
    modRow u v p q z = normArray x g mods a b (ix2 r z) := by
  rw [funext hu, funext hv, funext hp, funext hq]
  rfl

/-- The product of two arrays along 2048 lanes. -/
def product {s t : FTy} (v : FTy) {R N : ℕ} (h : FVec Ideal ⟨2, ![R, 2048]⟩ s) (w : FVec Ideal ⟨2, ![2048, N]⟩ t) : FVec Ideal ⟨2, ![R, N]⟩ v :=
  fun i => ∑ y : Fin 2048, h (ix2 (i 0 : Fin R) y) * w (ix2 y (i 1 : Fin N))

/-- An element of the product, from what a tile's row and column hold of the two arrays. -/
theorem product_at {s t : FTy} (v : FTy) {R N : ℕ} (h : FVec Ideal ⟨2, ![R, 2048]⟩ s) (w : FVec Ideal ⟨2, ![2048, N]⟩ t)
    (r : Fin R) (z : Fin N) (p q : Fin 2048 → EReal) (hp : ∀ y, p y = h (ix2 r y)) (hq : ∀ y, q y = w (ix2 y z)) :
    ∑ y : Fin 2048, p y * q y = product v h w (ix2 r z) :=
  Finset.sum_congr rfl fun y _ => congrArg₂ (· * ·) (hp y) (hq y)

/-- Columns `off` to `off + N` of the product of the first `R` tokens with the input projection's weight. -/
def proj (v : FTy) {R N : ℕ} (off : ℕ) (hR : R ≤ 12288) (hN : off + N ≤ 19296) (h : FVec Ideal ⟨2, ![12288, 2048]⟩ .bf16)
    (w : FVec Ideal ⟨2, ![2048, 19296]⟩ .f32) : FVec Ideal ⟨2, ![R, N]⟩ v := fun i =>
  ∑ y : Fin 2048, h (ix2 (⟨(i 0 : Fin R).val, (i 0 : Fin R).isLt.trans_le hR⟩ : Fin 12288) y)
    * w (ix2 y (⟨off + (i 1 : Fin N).val, (Nat.add_lt_add_left (i 1 : Fin N).isLt off).trans_le hN⟩ : Fin 19296))

/-- An element of the columns, from what a tile's row and column hold of the two arrays. -/
theorem proj_at (v : FTy) {R N : ℕ} (off : ℕ) (hR : R ≤ 12288) (hN : off + N ≤ 19296) (h : FVec Ideal ⟨2, ![12288, 2048]⟩ .bf16)
    (w : FVec Ideal ⟨2, ![2048, 19296]⟩ .f32) (r : Fin R) (z : Fin N) (p q : Fin 2048 → EReal)
    (hp : ∀ y, p y = h (ix2 (⟨r.val, r.isLt.trans_le hR⟩ : Fin 12288) y))
    (hq : ∀ y, q y = w (ix2 y (⟨off + z.val, by have := z.isLt; omega⟩ : Fin 19296))) :
    ∑ y : Fin 2048, p y * q y = proj v off hR hN h w (ix2 r z) :=
  Finset.sum_congr rfl fun y _ => congrArg₂ (· * ·) (hp y) (hq y)

end Cert.Layer

end
-- ==== Proof.Projections.lean ====
/- The first modulated norm and the input projections: what each call leaves in memory, index by index. -/
module

public import proofs.«01_k».proof.Proof.Gen.Kernel2Ideal.Frame
public import proofs.«01_k».proof.Proof.Norm

@[expose] public section

set_option maxRecDepth 16384

noncomputable section

namespace Cert.Projections

open Idealize.ShloMosaic Idealize.ShloMosaic.TcCoe Idealize.ShloMosaic.Pipeline Idealize.SL.Sem Cert.Kernel2Ideal Cert.Kernel2Ideal.Gen Cert.Layer Pointwise
open scoped BigOperators

/-! ## The bodies at an index -/

theorem norm_at (v0 : Vec Ideal S1024x2048 .f32) (v1 : Vec Ideal S1x2048 .f32) (v15 v21 : Vec Ideal S1x1x2048 .f32) (r : Fin 1024) (z : Fin 2048) :
    k0_pay1 v0 v1 v15 v21 (ix2 r z)
      = modRow (fun y => v0 (ix2 r y)) (fun y => v1 (ix2 0 y)) (fun y => v21 (ix3 0 0 y)) (fun y => v15 (ix3 0 0 y)) z := by
  unfold modRow
  pointwise [k0_pay1]

theorem dot1_at (v0 : Vec Ideal S1024x2048 .bf16) (v2 : Vec Ideal S2048x832 .bf16) (r : Fin 1024) (z : Fin 832) :
    k1_pay1 v0 v2 (ix2 r z) = ∑ y : Fin 2048, v0 (ix2 r y) * v2 (ix2 y z) := by
  pointwise [k1_pay1]

theorem dot2_at (v0 : Vec Ideal S1024x2048 .bf16) (v2 : Vec Ideal S2048x512 .bf16) (r : Fin 1024) (z : Fin 512) :
    k2_pay1 v0 v2 (ix2 r z) = ∑ y : Fin 2048, v0 (ix2 r y) * v2 (ix2 y z) := by
  pointwise [k2_pay1]

theorem dot3_at (v0 : Vec Ideal S1024x2048 .bf16) (v2 : Vec Ideal S2048x512 .bf16) (r : Fin 1024) (z : Fin 512) :
    k3_pay1 v0 v2 (ix2 r z) = ∑ y : Fin 2048, v0 (ix2 r y) * v2 (ix2 y z) := by
  pointwise [k3_pay1]

theorem dot4_at (v0 : Vec Ideal S1024x2048 .bf16) (v2 : Vec Ideal S2048x32 .bf16) (r : Fin 1024) (z : Fin 32) :
    k4_pay1 v0 v2 (ix2 r z) = ∑ y : Fin 2048, v0 (ix2 r y) * v2 (ix2 y z) := by
  pointwise [k4_pay1]

theorem dot5_at (v0 : Vec Ideal S1024x2048 .bf16) (v2 : Vec Ideal S2048x512 .bf16) (r : Fin 1024) (z : Fin 512) :
    k5_pay1 v0 v2 (ix2 r z) = ∑ y : Fin 2048, v0 (ix2 r y) * v2 (ix2 y z) := by
  pointwise [k5_pay1]

theorem dot6_at (v0 : Vec Ideal S1024x2048 .bf16) (v2 : Vec Ideal S2048x512 .bf16) (r : Fin 1024) (z : Fin 512) :
    k6_pay1 v0 v2 (ix2 r z) = ∑ y : Fin 2048, v0 (ix2 r y) * v2 (ix2 y z) := by
  pointwise [k6_pay1]

theorem dot7_at (v0 : Vec Ideal S1024x2048 .bf16) (v2 : Vec Ideal S2048x512 .bf16) (r : Fin 1024) (z : Fin 512) :
    k7_pay1 v0 v2 (ix2 r z) = ∑ y : Fin 2048, v0 (ix2 r y) * v2 (ix2 y z) := by
  pointwise [k7_pay1]

theorem dot8_at (v0 : Vec Ideal S1024x2048 .bf16) (v2 : Vec Ideal S2048x512 .bf16) (r : Fin 1024) (z : Fin 512) :
    k8_pay1 v0 v2 (ix2 r z) = ∑ y : Fin 2048, v0 (ix2 r y) * v2 (ix2 y z) := by
  pointwise [k8_pay1]

/-! ## The blocks -/

theorem index0 : ∀ t : Fin grid0.N,
    win0_0.index t = ![t.val, 0] ∧ win0_1.index t = ![0, 0]
    ∧ win0_2.index t = ![(if t.val < 4 then 0 else 1 + (t.val - 4) / 2) * 6 + 0, 0, 0]
    ∧ win0_3.index t = ![(if t.val < 4 then 0 else 1 + (t.val - 4) / 2) * 6 + 1, 0, 0]
    ∧ win0_4.index t = ![t.val, 0] := by decide +kernel

variable (V : (c : Dev nD) → (b : Ref sig .tc) → Buf (Elt Ideal) ((c : Thread nD τ).loc b))

theorem final0 (c : Dev nD) (x : FVec Ideal S12288x2048 .f32) (g : FVec Ideal S2048 .f32) (mods : FVec Ideal S48x1x2048 .f32)
    (hx : V c main_arg0 = x) (hm : V c main_arg2 = mods) (hg : ∀ y : Fin 2048, V c main_v0 (ix2 0 y) = g (ix1 y)) :
    (dat0 V c).arrAt 4 cfg0.N = normArray x g mods 0 1 := by
  refine (dat0 V c).arrAt_eq_of_covers 4 _ (by decide +kernel) (fun t _ y => ?_)
  blk_simp
  rw [after0_4]
  frame_out
  obtain ⟨r, z, rfl⟩ : ∃ (r : Fin 1024) (z : Fin 2048), y = ix2 r z := ⟨y 0, y 1, by blk_ext⟩
  have e := index0 t
  have ht : t.val < 12 := t.isLt
  have hs := slot_tile t.val ht r
  have hi : ((View.whole main_v1).slice (win0_4.rect t)).emb (ix2 r z) = ix2 (⟨t.val * 1024 + r.val, by omega⟩ : Fin 12288) z := by
    blk_ext [e]
  rw [hi, norm_at]
  refine normArray_at _ _ _ _ _ _ _ _ _ _ _ (fun k => ?_) (fun k => ?_) (fun k => ?_) (fun k => ?_)
  · rw [← hx]
    unfold iblk0
    blk_ext [e]
  · refine Eq.trans ?_ (hg k)
    unfold iblk0
    blk_ext [e]
  · rw [← hm]
    unfold iblk0
    blk_ext [e, hs]
  · rw [← hm]
    unfold iblk0
    blk_ext [e, hs]

theorem index1 : ∀ t : Fin grid1.N,
    win1_0.index t = ![t.val / 1, 0] ∧ win1_1.index t = ![0, t.val % 1] ∧ win1_2.index t = ![t.val / 1, t.val % 1] := by decide +kernel

theorem final1 (c : Dev nD) (h : FVec Ideal S12288x2048 .bf16) (w : FVec Ideal S2048x19296 .f32) (hh : V c main_v1 = h)
    (hw : ∀ (y : Fin 2048) (z : Fin 832), V c main_v3 (ix2 y z) = w (ix2 y (⟨0 + z.val, by omega⟩ : Fin 19296))) :
    (dat1 V c).arrAt 2 cfg1.N = proj (R := 12288) (N := 832) .f32 0 (by omega) (by omega) h w := by
  refine (dat1 V c).arrAt_eq_of_covers 2 _ (by decide +kernel) (fun t _ y => ?_)
  blk_simp
  rw [after1_2]
  frame_out
  obtain ⟨r, z, rfl⟩ : ∃ (r : Fin 1024) (z : Fin 832), y = ix2 r z := ⟨y 0, y 1, by blk_ext⟩
  have e := index1 t
  have ht : t.val < 12 := t.isLt
  have hi : ((View.whole main_v4).slice (win1_2.rect t)).emb (ix2 r z)
      = ix2 (⟨t.val / 1 * 1024 + r.val, by omega⟩ : Fin 12288) (⟨t.val % 1 * 832 + z.val, by omega⟩ : Fin 832) := by
    blk_ext [e]
  rw [hi, dot1_at]
  refine proj_at _ _ _ _ _ _ _ _ _ _ (fun x => ?_) (fun x => ?_)
  · rw [← hh]
    unfold iblk1
    blk_ext [e]
  · refine Eq.trans ?_ (hw x _)
    unfold iblk1
    blk_ext [e]

theorem index2 : ∀ t : Fin grid2.N,
    win2_0.index t = ![t.val / 6, 0] ∧ win2_1.index t = ![0, t.val % 6] ∧ win2_2.index t = ![t.val / 6, t.val % 6] := by decide +kernel

theorem final2 (c : Dev nD) (h : FVec Ideal S12288x2048 .bf16) (w : FVec Ideal S2048x19296 .f32) (hh : V c main_v1 = h)
    (hw : ∀ (y : Fin 2048) (z : Fin 3072), V c main_v6 (ix2 y z) = w (ix2 y (⟨832 + z.val, by omega⟩ : Fin 19296))) :
    (dat2 V c).arrAt 2 cfg2.N = proj (R := 12288) (N := 3072) .bf16 832 (by omega) (by omega) h w := by
  refine (dat2 V c).arrAt_eq_of_covers 2 _ (by decide +kernel) (fun t _ y => ?_)
  blk_simp
  rw [after2_2]
  frame_out
  obtain ⟨r, z, rfl⟩ : ∃ (r : Fin 1024) (z : Fin 512), y = ix2 r z := ⟨y 0, y 1, by blk_ext⟩
  have e := index2 t
  have ht : t.val < 72 := t.isLt
  have hi : ((View.whole main_v7).slice (win2_2.rect t)).emb (ix2 r z)
      = ix2 (⟨t.val / 6 * 1024 + r.val, by omega⟩ : Fin 12288) (⟨t.val % 6 * 512 + z.val, by omega⟩ : Fin 3072) := by
    blk_ext [e]
  rw [hi, dot2_at]
  refine proj_at _ _ _ _ _ _ _ _ _ _ (fun x => ?_) (fun x => ?_)
  · rw [← hh]
    unfold iblk2
    blk_ext [e]
  · refine Eq.trans ?_ (hw x _)
    unfold iblk2
    blk_ext [e]

theorem index3 : ∀ t : Fin grid3.N,
    win3_0.index t = ![t.val / 2, 0] ∧ win3_1.index t = ![0, t.val % 2] ∧ win3_2.index t = ![t.val / 2, t.val % 2] := by decide +kernel

theorem final3 (c : Dev nD) (h : FVec Ideal S12288x2048 .bf16) (w : FVec Ideal S2048x19296 .f32) (hh : V c main_v1 = h)
    (hw : ∀ (y : Fin 2048) (z : Fin 1024), V c main_v9 (ix2 y z) = w (ix2 y (⟨3904 + z.val, by omega⟩ : Fin 19296))) :
    (dat3 V c).arrAt 2 cfg3.N = proj (R := 12288) (N := 1024) .bf16 3904 (by omega) (by omega) h w := by
  refine (dat3 V c).arrAt_eq_of_covers 2 _ (by decide +kernel) (fun t _ y => ?_)
  blk_simp
  rw [after3_2]
  frame_out
  obtain ⟨r, z, rfl⟩ : ∃ (r : Fin 1024) (z : Fin 512), y = ix2 r z := ⟨y 0, y 1, by blk_ext⟩
  have e := index3 t
  have ht : t.val < 24 := t.isLt
  have hi : ((View.whole main_v10).slice (win3_2.rect t)).emb (ix2 r z)
      = ix2 (⟨t.val / 2 * 1024 + r.val, by omega⟩ : Fin 12288) (⟨t.val % 2 * 512 + z.val, by omega⟩ : Fin 1024) := by
    blk_ext [e]
  rw [hi, dot3_at]
  refine proj_at _ _ _ _ _ _ _ _ _ _ (fun x => ?_) (fun x => ?_)
  · rw [← hh]
    unfold iblk3
    blk_ext [e]
  · refine Eq.trans ?_ (hw x _)
    unfold iblk3
    blk_ext [e]

theorem index4 : ∀ t : Fin grid4.N,
    win4_0.index t = ![t.val / 1, 0] ∧ win4_1.index t = ![0, t.val % 1] ∧ win4_2.index t = ![t.val / 1, t.val % 1] := by decide +kernel

theorem final4 (c : Dev nD) (h : FVec Ideal S12288x2048 .bf16) (w : FVec Ideal S2048x19296 .f32) (hh : V c main_v1 = h)
    (hw : ∀ (y : Fin 2048) (z : Fin 32), V c main_v12 (ix2 y z) = w (ix2 y (⟨4928 + z.val, by omega⟩ : Fin 19296))) :
    (dat4 V c).arrAt 2 cfg4.N = proj (R := 12288) (N := 32) .f32 4928 (by omega) (by omega) h w := by
  refine (dat4 V c).arrAt_eq_of_covers 2 _ (by decide +kernel) (fun t _ y => ?_)
  blk_simp
  rw [after4_2]
  frame_out
  obtain ⟨r, z, rfl⟩ : ∃ (r : Fin 1024) (z : Fin 32), y = ix2 r z := ⟨y 0, y 1, by blk_ext⟩
  have e := index4 t
  have ht : t.val < 12 := t.isLt
  have hi : ((View.whole main_v13).slice (win4_2.rect t)).emb (ix2 r z)
      = ix2 (⟨t.val / 1 * 1024 + r.val, by omega⟩ : Fin 12288) (⟨t.val % 1 * 32 + z.val, by omega⟩ : Fin 32) := by
    blk_ext [e]
  rw [hi, dot4_at]
  refine proj_at _ _ _ _ _ _ _ _ _ _ (fun x => ?_) (fun x => ?_)
  · rw [← hh]
    unfold iblk4
    blk_ext [e]
  · refine Eq.trans ?_ (hw x _)
    unfold iblk4
    blk_ext [e]

theorem index5 : ∀ t : Fin grid5.N,
    win5_0.index t = ![t.val / 6, 0] ∧ win5_1.index t = ![0, t.val % 6] ∧ win5_2.index t = ![t.val / 6, t.val % 6] := by decide +kernel

theorem final5 (c : Dev nD) (h : FVec Ideal S12288x2048 .bf16) (w : FVec Ideal S2048x19296 .f32) (hh : V c main_v1 = h)
    (hw : ∀ (y : Fin 2048) (z : Fin 3072), V c main_v15 (ix2 y z) = w (ix2 y (⟨4960 + z.val, by omega⟩ : Fin 19296))) :
    (dat5 V c).arrAt 2 cfg5.N = proj (R := 12288) (N := 3072) .bf16 4960 (by omega) (by omega) h w := by
  refine (dat5 V c).arrAt_eq_of_covers 2 _ (by decide +kernel) (fun t _ y => ?_)
  blk_simp
  rw [after5_2]
  frame_out
  obtain ⟨r, z, rfl⟩ : ∃ (r : Fin 1024) (z : Fin 512), y = ix2 r z := ⟨y 0, y 1, by blk_ext⟩
  have e := index5 t
  have ht : t.val < 72 := t.isLt
  have hi : ((View.whole main_v16).slice (win5_2.rect t)).emb (ix2 r z)
      = ix2 (⟨t.val / 6 * 1024 + r.val, by omega⟩ : Fin 12288) (⟨t.val % 6 * 512 + z.val, by omega⟩ : Fin 3072) := by
    blk_ext [e]
  rw [hi, dot5_at]
  refine proj_at _ _ _ _ _ _ _ _ _ _ (fun x => ?_) (fun x => ?_)
  · rw [← hh]
    unfold iblk5
    blk_ext [e]
  · refine Eq.trans ?_ (hw x _)
    unfold iblk5
    blk_ext [e]

theorem index6 : ∀ t : Fin grid6.N,
    win6_0.index t = ![t.val / 6, 0] ∧ win6_1.index t = ![0, t.val % 6] ∧ win6_2.index t = ![t.val / 6, t.val % 6] := by decide +kernel

theorem final6 (c : Dev nD) (h : FVec Ideal S12288x2048 .bf16) (w : FVec Ideal S2048x19296 .f32) (hh : V c main_v1 = h)
    (hw : ∀ (y : Fin 2048) (z : Fin 3072), V c main_v18 (ix2 y z) = w (ix2 y (⟨8032 + z.val, by omega⟩ : Fin 19296))) :
    (dat6 V c).arrAt 2 cfg6.N = proj (R := 12288) (N := 3072) .bf16 8032 (by omega) (by omega) h w := by
  refine (dat6 V c).arrAt_eq_of_covers 2 _ (by decide +kernel) (fun t _ y => ?_)
  blk_simp
  rw [after6_2]
  frame_out
  obtain ⟨r, z, rfl⟩ : ∃ (r : Fin 1024) (z : Fin 512), y = ix2 r z := ⟨y 0, y 1, by blk_ext⟩
  have e := index6 t
  have ht : t.val < 72 := t.isLt
  have hi : ((View.whole main_v19).slice (win6_2.rect t)).emb (ix2 r z)
      = ix2 (⟨t.val / 6 * 1024 + r.val, by omega⟩ : Fin 12288) (⟨t.val % 6 * 512 + z.val, by omega⟩ : Fin 3072) := by
    blk_ext [e]
  rw [hi, dot6_at]
  refine proj_at _ _ _ _ _ _ _ _ _ _ (fun x => ?_) (fun x => ?_)
  · rw [← hh]
    unfold iblk6
    blk_ext [e]
  · refine Eq.trans ?_ (hw x _)
    unfold iblk6
    blk_ext [e]

theorem index7 : ∀ t : Fin grid7.N,
    win7_0.index t = ![t.val / 4, 0] ∧ win7_1.index t = ![0, t.val % 4] ∧ win7_2.index t = ![t.val / 4, t.val % 4] := by decide +kernel

theorem final7 (c : Dev nD) (h : FVec Ideal S12288x2048 .bf16) (w : FVec Ideal S2048x19296 .f32) (hh : V c main_v1 = h)
    (hw : ∀ (y : Fin 2048) (z : Fin 2048), V c main_v21 (ix2 y z) = w (ix2 y (⟨9056 + z.val, by omega⟩ : Fin 19296))) :
    (dat7 V c).arrAt 2 cfg7.N = proj (R := 4096) (N := 2048) .f32 9056 (by omega) (by omega) h w := by
  refine (dat7 V c).arrAt_eq_of_covers 2 _ (by decide +kernel) (fun t _ y => ?_)
  blk_simp
  rw [after7_2]
  frame_out
  obtain ⟨r, z, rfl⟩ : ∃ (r : Fin 1024) (z : Fin 512), y = ix2 r z := ⟨y 0, y 1, by blk_ext⟩
  have e := index7 t
  have ht : t.val < 16 := t.isLt
  have hi : ((View.whole main_v22).slice (win7_2.rect t)).emb (ix2 r z)
      = ix2 (⟨t.val / 4 * 1024 + r.val, by omega⟩ : Fin 4096) (⟨t.val % 4 * 512 + z.val, by omega⟩ : Fin 2048) := by
    blk_ext [e]
  rw [hi, dot7_at]
  refine proj_at _ _ _ _ _ _ _ _ _ _ (fun x => ?_) (fun x => ?_)
  · rw [← hh]
    unfold iblk7
    blk_ext [e]
  · refine Eq.trans ?_ (hw x _)
    unfold iblk7
    blk_ext [e]

theorem index8 : ∀ t : Fin grid8.N,
    win8_0.index t = ![t.val / 16, 0] ∧ win8_1.index t = ![0, t.val % 16] ∧ win8_2.index t = ![t.val / 16, t.val % 16] := by decide +kernel

theorem final8 (c : Dev nD) (h : FVec Ideal S12288x2048 .bf16) (w : FVec Ideal S2048x19296 .f32) (hh : V c main_v1 = h)
    (hw : ∀ (y : Fin 2048) (z : Fin 8192), V c main_v24 (ix2 y z) = w (ix2 y (⟨11104 + z.val, by omega⟩ : Fin 19296))) :
    (dat8 V c).arrAt 2 cfg8.N = proj (R := 12288) (N := 8192) .bf16 11104 (by omega) (by omega) h w := by
  refine (dat8 V c).arrAt_eq_of_covers 2 _ (by decide +kernel) (fun t _ y => ?_)
  blk_simp
  rw [after8_2]
  frame_out
  obtain ⟨r, z, rfl⟩ : ∃ (r : Fin 1024) (z : Fin 512), y = ix2 r z := ⟨y 0, y 1, by blk_ext⟩
  have e := index8 t
  have ht : t.val < 192 := t.isLt
  have hi : ((View.whole main_v25).slice (win8_2.rect t)).emb (ix2 r z)
      = ix2 (⟨t.val / 16 * 1024 + r.val, by omega⟩ : Fin 12288) (⟨t.val % 16 * 512 + z.val, by omega⟩ : Fin 8192) := by
    blk_ext [e]
  rw [hi, dot8_at]
  refine proj_at _ _ _ _ _ _ _ _ _ _ (fun x => ?_) (fun x => ?_)
  · rw [← hh]
    unfold iblk8
    blk_ext [e]
  · refine Eq.trans ?_ (hw x _)
    unfold iblk8
    blk_ext [e]

end Cert.Projections

end
-- ==== Proof.ProjectionsRun.lean ====
/- The first modulated norm and the input projections: the run, and the eight results from the arguments. -/
module

public import proofs.«01_k».proof.Proof.Projections
public import Idealize.ShloMosaic.Lib.StableHlo.RunRead

@[expose] public section

set_option maxRecDepth 16384

noncomputable section

namespace Cert.Projections

open Idealize.ShloMosaic Idealize.ShloMosaic.TcCoe Idealize.ShloMosaic.Pipeline Idealize.SL.Sem Cert.Kernel2Ideal Cert.Kernel2Ideal.Gen Cert.Layer Pointwise
open scoped BigOperators

/-! ## The run -/

section
open Idealize.SL Idealize.SL.RA Idealize.SL.BI Idealize.SL.BI.BIBase Idealize.SL.BI.Laws Idealize.SL.ProofMode
open scoped Idealize.SL.BI
open Idealize.ShloMosaic.Rounds

set_option backward.isDefEq.respectTransparency.types false in
/-- Every run ends, and leaves the arrays as the last boundary has them. -/
theorem run (m : (ℓ : Loc nD τ sig) → Buf (Elt Ideal) ℓ) (ρ : Dev nD → PrngReg) :
    θ_run defs (onTc (τ := τ) (main (F := Ideal))) ⟨m, fun _ => 0, ρ⟩
      (fun r => ∀ c : Dev nD, ∀ b ∈ Pipeline.ucRefs τ sig, r.2.mem ((c : Thread nD τ).1, b) = W18 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W18 m ρ c b)
    (hfin := fun c s' => by
      iintro ⟨⟨Hh, -⟩, HSI⟩
      unfold StableHlo.held
      imodintro
      iapply (pointsTo_read_all (Pipeline.ucRefs τ sig) (fun b => ((c : Thread nD τ).1, b)) (W18 m ρ c) s')
      isplitl [Hh] <;> iassumption)
    (hQ := fun _ h _ => h)

end

/-! ## The results from the arguments -/

variable (m : (ℓ : Loc nD τ sig) → Buf (Elt Ideal) ℓ) (ρ : Dev nD → PrngReg) (c : Dev nD)

/-- The modulated norm of the arguments. -/
def normOf : FVec Ideal S12288x2048 .bf16 :=
  normArray (m ((c : Thread nD τ).loc main_arg0)) (m ((c : Thread nD τ).loc main_arg1)) (m ((c : Thread nD τ).loc main_arg2)) 0 1

theorem norm_in1 : V3 m ρ c main_v1 = normOf m c :=
  (W3_of m ρ c main_v1 (by decide)).trans <| (W2_arr m ρ c 4).trans <|
    final0 (V1 m ρ) c _ _ _ (W1_args m ρ c main_arg0 (by decide)) (W1_args m ρ c main_arg2 (by decide)) fun y => by
      have e : V1 m ρ c main_v0 = shapeCast S1x2048 (m ((c : Thread nD τ).loc main_arg1)) shapeCasts_S2048_S1x2048 := by
        unfold V1 W1
        simp only [hostOps0]
        after_reads_simp <;> rfl
      rw [e]
      pointwise
theorem norm_in2 : V5 m ρ c main_v1 = normOf m c :=
  (W5_of m ρ c main_v1 (by decide)).trans <| (W4_of m ρ c main_v1 (by decide +kernel)).trans (norm_in1 m ρ c)
theorem norm_in3 : V7 m ρ c main_v1 = normOf m c :=
  (W7_of m ρ c main_v1 (by decide)).trans <| (W6_of m ρ c main_v1 (by decide +kernel)).trans (norm_in2 m ρ c)
theorem norm_in4 : V9 m ρ c main_v1 = normOf m c :=
  (W9_of m ρ c main_v1 (by decide)).trans <| (W8_of m ρ c main_v1 (by decide +kernel)).trans (norm_in3 m ρ c)
theorem norm_in5 : V11 m ρ c main_v1 = normOf m c :=
  (W11_of m ρ c main_v1 (by decide)).trans <| (W10_of m ρ c main_v1 (by decide +kernel)).trans (norm_in4 m ρ c)
theorem norm_in6 : V13 m ρ c main_v1 = normOf m c :=
  (W13_of m ρ c main_v1 (by decide)).trans <| (W12_of m ρ c main_v1 (by decide +kernel)).trans (norm_in5 m ρ c)
theorem norm_in7 : V15 m ρ c main_v1 = normOf m c :=
  (W15_of m ρ c main_v1 (by decide)).trans <| (W14_of m ρ c main_v1 (by decide +kernel)).trans (norm_in6 m ρ c)
theorem norm_in8 : V17 m ρ c main_v1 = normOf m c :=
  (W17_of m ρ c main_v1 (by decide)).trans <| (W16_of m ρ c main_v1 (by decide +kernel)).trans (norm_in7 m ρ c)

theorem weight1 (y : Fin 2048) (z : Fin 832) :
    V3 m ρ c main_v3 (ix2 y z) = m ((c : Thread nD τ).loc main_arg3) (ix2 y (⟨0 + z.val, by omega⟩ : Fin 19296)) := by
  have e : V3 m ρ c main_v3 = truncf (F := Ideal) .bf16 (extractStridedSlice S2048x832 ![0, 0] (m ((c : Thread nD τ).loc main_arg3)) slices_S2048x19296_S2048x832_0_0) bitsLt_bf16_f32 := by
    rw [← W2_args m ρ c main_arg3 (by decide)]
    unfold V3 W3
    simp only [hostOps1]
    after_reads_simp <;> rfl
  rw [e]
  pointwise

theorem weight2 (y : Fin 2048) (z : Fin 3072) :
    V5 m ρ c main_v6 (ix2 y z) = m ((c : Thread nD τ).loc main_arg3) (ix2 y (⟨832 + z.val, by omega⟩ : Fin 19296)) := by
  have e : V5 m ρ c main_v6 = truncf (F := Ideal) .bf16 (extractStridedSlice S2048x3072 ![0, 832] (m ((c : Thread nD τ).loc main_arg3)) slices_S2048x19296_S2048x3072_0_832) bitsLt_bf16_f32 := by
    rw [← W4_args m ρ c main_arg3 (by decide)]
    unfold V5 W5
    simp only [hostOps2]
    after_reads_simp <;> rfl
  rw [e]
  pointwise

theorem weight3 (y : Fin 2048) (z : Fin 1024) :
    V7 m ρ c main_v9 (ix2 y z) = m ((c : Thread nD τ).loc main_arg3) (ix2 y (⟨3904 + z.val, by omega⟩ : Fin 19296)) := by
  have e : V7 m ρ c main_v9 = truncf (F := Ideal) .bf16 (extractStridedSlice S2048x1024 ![0, 3904] (m ((c : Thread nD τ).loc main_arg3)) slices_S2048x19296_S2048x1024_0_3904) bitsLt_bf16_f32 := by
    rw [← W6_args m ρ c main_arg3 (by decide)]
    unfold V7 W7
    simp only [hostOps3]
    after_reads_simp <;> rfl
  rw [e]
  pointwise

theorem weight4 (y : Fin 2048) (z : Fin 32) :
    V9 m ρ c main_v12 (ix2 y z) = m ((c : Thread nD τ).loc main_arg3) (ix2 y (⟨4928 + z.val, by omega⟩ : Fin 19296)) := by
  have e : V9 m ρ c main_v12 = truncf (F := Ideal) .bf16 (extractStridedSlice S2048x32 ![0, 4928] (m ((c : Thread nD τ).loc main_arg3)) slices_S2048x19296_S2048x32_0_4928) bitsLt_bf16_f32 := by
    rw [← W8_args m ρ c main_arg3 (by decide)]
    unfold V9 W9
    simp only [hostOps4]
    after_reads_simp <;> rfl
  rw [e]
  pointwise

theorem weight5 (y : Fin 2048) (z : Fin 3072) :
    V11 m ρ c main_v15 (ix2 y z) = m ((c : Thread nD τ).loc main_arg3) (ix2 y (⟨4960 + z.val, by omega⟩ : Fin 19296)) := by
  have e : V11 m ρ c main_v15 = truncf (F := Ideal) .bf16 (extractStridedSlice S2048x3072 ![0, 4960] (m ((c : Thread nD τ).loc main_arg3)) slices_S2048x19296_S2048x3072_0_4960) bitsLt_bf16_f32 := by
    rw [← W10_args m ρ c main_arg3 (by decide)]
    unfold V11 W11
    simp only [hostOps5]
    after_reads_simp <;> rfl
  rw [e]
  pointwise

theorem weight6 (y : Fin 2048) (z : Fin 3072) :
    V13 m ρ c main_v18 (ix2 y z) = m ((c : Thread nD τ).loc main_arg3) (ix2 y (⟨8032 + z.val, by omega⟩ : Fin 19296)) := by
  have e : V13 m ρ c main_v18 = truncf (F := Ideal) .bf16 (extractStridedSlice S2048x3072 ![0, 8032] (m ((c : Thread nD τ).loc main_arg3)) slices_S2048x19296_S2048x3072_0_8032) bitsLt_bf16_f32 := by
    rw [← W12_args m ρ c main_arg3 (by decide)]
    unfold V13 W13
    simp only [hostOps6]
    after_reads_simp <;> rfl
  rw [e]
  pointwise

theorem weight7 (y : Fin 2048) (z : Fin 2048) :
    V15 m ρ c main_v21 (ix2 y z) = m ((c : Thread nD τ).loc main_arg3) (ix2 y (⟨9056 + z.val, by omega⟩ : Fin 19296)) := by
  have e : V15 m ρ c main_v21 = truncf (F := Ideal) .bf16 (extractStridedSlice S2048x2048 ![0, 9056] (m ((c : Thread nD τ).loc main_arg3)) slices_S2048x19296_S2048x2048_0_9056) bitsLt_bf16_f32 := by
    rw [← W14_args m ρ c main_arg3 (by decide)]
    unfold V15 W15
    simp only [hostOps7]
    after_reads_simp <;> rfl
  rw [e]
  pointwise

theorem weight8 (y : Fin 2048) (z : Fin 8192) :
    V17 m ρ c main_v24 (ix2 y z) = m ((c : Thread nD τ).loc main_arg3) (ix2 y (⟨11104 + z.val, by omega⟩ : Fin 19296)) := by
  have e : V17 m ρ c main_v24 = truncf (F := Ideal) .bf16 (extractStridedSlice S2048x8192 ![0, 11104] (m ((c : Thread nD τ).loc main_arg3)) slices_S2048x19296_S2048x8192_0_11104) bitsLt_bf16_f32 := by
    rw [← W16_args m ρ c main_arg3 (by decide)]
    unfold V17 W17
    simp only [hostOps8]
    after_reads_simp <;> rfl
  rw [e]
  pointwise

theorem result1 : W18 m ρ c (Proc.devRef .tc main_v4)
    = proj (R := 12288) (N := 832) .f32 0 (by omega) (by omega) (normOf m c) (m ((c : Thread nD τ).loc main_arg3)) :=
  (W18_of m ρ c main_v4 (by decide +kernel)).trans <|
    (W17_of m ρ c main_v4 (by decide)).trans <|
    (W16_of m ρ c main_v4 (by decide +kernel)).trans <|
    (W15_of m ρ c main_v4 (by decide)).trans <|
    (W14_of m ρ c main_v4 (by decide +kernel)).trans <|
    (W13_of m ρ c main_v4 (by decide)).trans <|
    (W12_of m ρ c main_v4 (by decide +kernel)).trans <|
    (W11_of m ρ c main_v4 (by decide)).trans <|
    (W10_of m ρ c main_v4 (by decide +kernel)).trans <|
    (W9_of m ρ c main_v4 (by decide)).trans <|
    (W8_of m ρ c main_v4 (by decide +kernel)).trans <|
    (W7_of m ρ c main_v4 (by decide)).trans <|
    (W6_of m ρ c main_v4 (by decide +kernel)).trans <|
    (W5_of m ρ c main_v4 (by decide)).trans <|
    (W4_arr m ρ c 2).trans (final1 (V3 m ρ) c _ _ (norm_in1 m ρ c) (weight1 m ρ c))

theorem result2 : W18 m ρ c (Proc.devRef .tc main_v7)
    = proj (R := 12288) (N := 3072) .bf16 832 (by omega) (by omega) (normOf m c) (m ((c : Thread nD τ).loc main_arg3)) :=
  (W18_of m ρ c main_v7 (by decide +kernel)).trans <|
    (W17_of m ρ c main_v7 (by decide)).trans <|
    (W16_of m ρ c main_v7 (by decide +kernel)).trans <|
    (W15_of m ρ c main_v7 (by decide)).trans <|
    (W14_of m ρ c main_v7 (by decide +kernel)).trans <|
    (W13_of m ρ c main_v7 (by decide)).trans <|
    (W12_of m ρ c main_v7 (by decide +kernel)).trans <|
    (W11_of m ρ c main_v7 (by decide)).trans <|
    (W10_of m ρ c main_v7 (by decide +kernel)).trans <|
    (W9_of m ρ c main_v7 (by decide)).trans <|
    (W8_of m ρ c main_v7 (by decide +kernel)).trans <|
    (W7_of m ρ c main_v7 (by decide)).trans <|
    (W6_arr m ρ c 2).trans (final2 (V5 m ρ) c _ _ (norm_in2 m ρ c) (weight2 m ρ c))

theorem result3 : W18 m ρ c (Proc.devRef .tc main_v10)
    = proj (R := 12288) (N := 1024) .bf16 3904 (by omega) (by omega) (normOf m c) (m ((c : Thread nD τ).loc main_arg3)) :=
  (W18_of m ρ c main_v10 (by decide +kernel)).trans <|
    (W17_of m ρ c main_v10 (by decide)).trans <|
    (W16_of m ρ c main_v10 (by decide +kernel)).trans <|
    (W15_of m ρ c main_v10 (by decide)).trans <|
    (W14_of m ρ c main_v10 (by decide +kernel)).trans <|
    (W13_of m ρ c main_v10 (by decide)).trans <|
    (W12_of m ρ c main_v10 (by decide +kernel)).trans <|
    (W11_of m ρ c main_v10 (by decide)).trans <|
    (W10_of m ρ c main_v10 (by decide +kernel)).trans <|
    (W9_of m ρ c main_v10 (by decide)).trans <|
    (W8_arr m ρ c 2).trans (final3 (V7 m ρ) c _ _ (norm_in3 m ρ c) (weight3 m ρ c))

theorem result4 : W18 m ρ c (Proc.devRef .tc main_v13)
    = proj (R := 12288) (N := 32) .f32 4928 (by omega) (by omega) (normOf m c) (m ((c : Thread nD τ).loc main_arg3)) :=
  (W18_of m ρ c main_v13 (by decide +kernel)).trans <|
    (W17_of m ρ c main_v13 (by decide)).trans <|
    (W16_of m ρ c main_v13 (by decide +kernel)).trans <|
    (W15_of m ρ c main_v13 (by decide)).trans <|
    (W14_of m ρ c main_v13 (by decide +kernel)).trans <|
    (W13_of m ρ c main_v13 (by decide)).trans <|
    (W12_of m ρ c main_v13 (by decide +kernel)).trans <|
    (W11_of m ρ c main_v13 (by decide)).trans <|
    (W10_arr m ρ c 2).trans (final4 (V9 m ρ) c _ _ (norm_in4 m ρ c) (weight4 m ρ c))

theorem result5 : W18 m ρ c (Proc.devRef .tc main_v16)
    = proj (R := 12288) (N := 3072) .bf16 4960 (by omega) (by omega) (normOf m c) (m ((c : Thread nD τ).loc main_arg3)) :=
  (W18_of m ρ c main_v16 (by decide +kernel)).trans <|
    (W17_of m ρ c main_v16 (by decide)).trans <|
    (W16_of m ρ c main_v16 (by decide +kernel)).trans <|
    (W15_of m ρ c main_v16 (by decide)).trans <|
    (W14_of m ρ c main_v16 (by decide +kernel)).trans <|
    (W13_of m ρ c main_v16 (by decide)).trans <|
    (W12_arr m ρ c 2).trans (final5 (V11 m ρ) c _ _ (norm_in5 m ρ c) (weight5 m ρ c))

theorem result6 : W18 m ρ c (Proc.devRef .tc main_v19)
    = proj (R := 12288) (N := 3072) .bf16 8032 (by omega) (by omega) (normOf m c) (m ((c : Thread nD τ).loc main_arg3)) :=
  (W18_of m ρ c main_v19 (by decide +kernel)).trans <|
    (W17_of m ρ c main_v19 (by decide)).trans <|
    (W16_of m ρ c main_v19 (by decide +kernel)).trans <|
    (W15_of m ρ c main_v19 (by decide)).trans <|
    (W14_arr m ρ c 2).trans (final6 (V13 m ρ) c _ _ (norm_in6 m ρ c) (weight6 m ρ c))

theorem result7 : W18 m ρ c (Proc.devRef .tc main_v22)
    = proj (R := 4096) (N := 2048) .f32 9056 (by omega) (by omega) (normOf m c) (m ((c : Thread nD τ).loc main_arg3)) :=
  (W18_of m ρ c main_v22 (by decide +kernel)).trans <|
    (W17_of m ρ c main_v22 (by decide)).trans <|
    (W16_arr m ρ c 2).trans (final7 (V15 m ρ) c _ _ (norm_in7 m ρ c) (weight7 m ρ c))

theorem result8 : W18 m ρ c (Proc.devRef .tc main_v25)
    = proj (R := 12288) (N := 8192) .bf16 11104 (by omega) (by omega) (normOf m c) (m ((c : Thread nD τ).loc main_arg3)) :=
  (W18_arr m ρ c 2).trans (final8 (V17 m ρ) c _ _ (norm_in8 m ρ c) (weight8 m ρ c))

end Cert.Projections

end
-- ==== Proof.RefNorm2.lean ====
/- The reference's first modulated norm, index by index. -/
module

public import proofs.«01_k».proof.Proof.Gen.Reference2Ideal.Read
public import proofs.«01_k».proof.Proof.Norm

@[expose] public section

set_option maxRecDepth 16384

noncomputable section

namespace Cert.RefNorm2

open Idealize.ShloMosaic Cert.Reference2Ideal Cert.Reference2Ideal.Gen Cert.Reference2Ideal.Read Cert.Layer Pointwise
open scoped BigOperators

variable (x0 : FVec Ideal S12288x2048 .f32) (x1 : FVec Ideal S2048 .f32) (x2 : FVec Ideal S48x1x2048 .f32)

/-! ## The rows of the conditions -/

theorem shift_at (i : Fin 8) (z : Fin 2048) : val_main_v2 (F := Ideal) x2 (ix2 i z) = x2 (ix3 (⟨i.val * 6 + 0, by omega⟩ : Fin 48) 0 z) := by
  rw [val_main_v2_apply, val_main_v1_apply, val_main_v0_apply]
  blk_ext

theorem scale_at (i : Fin 8) (z : Fin 2048) : val_main_v4 (F := Ideal) x2 (ix2 i z) = x2 (ix3 (⟨i.val * 6 + 1, by omega⟩ : Fin 48) 0 z) := by
  rw [val_main_v4_apply, val_main_v3_apply, val_main_v0_apply]
  blk_ext

/-! ## The context's tokens -/

theorem ctx_x (b : Fin 16) (l : Fin 256) (z : Fin 2048) :
    val_main_v6 (F := Ideal) x0 (ix3 b l z) = x0 (ix2 (⟨b.val * 256 + l.val, by omega⟩ : Fin 12288) z) := by
  rw [val_main_v6_apply, val_main_v5_apply]
  blk_ext

theorem ctx_scale (z : Fin 2048) : val_main_v21 (F := Ideal) x2 (ix1 z) = val_main_v4 (F := Ideal) x2 (ix2 0 z) := by
  rw [val_main_v21_apply, val_main_v20_apply]
  blk_ext

theorem ctx_shift (z : Fin 2048) : val_main_v28 (F := Ideal) x2 (ix1 z) = val_main_v2 (F := Ideal) x2 (ix2 0 z) := by
  rw [val_main_v28_apply, val_main_v27_apply]
  blk_ext

theorem ctx_row (b : Fin 16) (l : Fin 256) (z : Fin 2048) :
    val_main_v31 (F := Ideal) x0 x1 x2 (ix3 b l z)
      = modRow (fun y => val_main_v6 (F := Ideal) x0 (ix3 b l y)) (fun y => x1 (ix1 y)) (fun y => val_main_v28 (F := Ideal) x2 (ix1 y))
          (fun y => val_main_v21 (F := Ideal) x2 (ix1 y)) z := by
  unfold val_main_v31 val_main_v30 val_main_v29 val_main_v26 val_main_v25 val_main_v24 val_main_v23 val_main_v22 val_main_cst_2 val_main_v19 val_main_v18 val_main_v17 val_main_v16 val_main_v15 val_main_v14 val_main_v13 val_main_v12 val_main_cst_1 val_main_v11 val_main_v10 val_main_cst_0 val_main_v9 val_main_v8 val_main_cst val_main_v7 modRow
  generalize val_main_v6 (F := Ideal) x0 = a
  generalize val_main_v28 (F := Ideal) x2 = p
  generalize val_main_v21 (F := Ideal) x2 = q
  pointwise

/-! ## The latents' tokens -/

theorem lat_x (b : Fin 4) (l z : Fin 2048) :
    val_main_v33 (F := Ideal) x0 (ix3 b l z) = x0 (ix2 (⟨4096 + (b.val * 2048 + l.val), by omega⟩ : Fin 12288) z) := by
  rw [val_main_v33_apply, val_main_v32_apply]
  blk_ext

theorem lat_row (b : Fin 4) (l z : Fin 2048) :
    val_main_v56 (F := Ideal) x0 x1 x2 (ix3 b l z)
      = modRow (fun y => val_main_v33 (F := Ideal) x0 (ix3 b l y)) (fun y => x1 (ix1 y)) (fun y => val_main_v53 (F := Ideal) x2 (ix2 b y))
          (fun y => val_main_v47 (F := Ideal) x2 (ix2 b y)) z := by
  unfold val_main_v56 val_main_v55 val_main_v54 val_main_v52 val_main_v51 val_main_v50 val_main_v49 val_main_cst_6 val_main_v48 val_main_v46 val_main_v45 val_main_v44 val_main_v43 val_main_v42 val_main_v41 val_main_v40 val_main_v39 val_main_cst_5 val_main_v38 val_main_v37 val_main_cst_4 val_main_v36 val_main_v35 val_main_cst_3 val_main_v34 modRow
  generalize val_main_v33 (F := Ideal) x0 = a
  generalize val_main_v53 (F := Ideal) x2 = p
  generalize val_main_v47 (F := Ideal) x2 = q
  pointwise

theorem lat_scale (b : Fin 4) (z : Fin 2048) :
    val_main_v47 (F := Ideal) x2 (ix2 b z) = val_main_v4 (F := Ideal) x2 (ix2 (⟨1 + b.val, by omega⟩ : Fin 8) z) := by
  rw [val_main_v47_apply]
  blk_ext

theorem lat_shift (b : Fin 4) (z : Fin 2048) :
    val_main_v53 (F := Ideal) x2 (ix2 b z) = val_main_v2 (F := Ideal) x2 (ix2 (⟨1 + b.val, by omega⟩ : Fin 8) z) := by
  rw [val_main_v53_apply]
  blk_ext

/-! ## All tokens -/

theorem join_at (r : Fin 12288) (z : Fin 2048) :
    val_main_v59 (F := Ideal) x0 x1 x2 (ix2 r z)
      = if h : r.val < 4096 then val_main_v57 (F := Ideal) x0 x1 x2 (ix2 (⟨r.val, h⟩ : Fin 4096) z)
        else val_main_v58 (F := Ideal) x0 x1 x2 (ix2 (⟨r.val - 4096, by omega⟩ : Fin 8192) z) := by
  unfold val_main_v59
  generalize val_main_v57 (F := Ideal) x0 x1 x2 = a
  generalize val_main_v58 (F := Ideal) x0 x1 x2 = b
  pointwise

theorem norm_eq : val_main_v59 (F := Ideal) x0 x1 x2 = normArray x0 x1 x2 0 1 := by
  funext i
  obtain ⟨r, z, rfl⟩ : ∃ (r : Fin 12288) (z : Fin 2048), i = ix2 r z := ⟨i 0, i 1, by blk_ext⟩
  rw [join_at]
  split
  · next h =>
    rw [val_main_v57_apply]
    have e : idx_main_v57 (ix2 (⟨r.val, h⟩ : Fin 4096) z) = ix3 (⟨r.val / 256, by omega⟩ : Fin 16) (⟨r.val % 256, by omega⟩ : Fin 256) z := by blk_ext
    rw [e, ctx_row]
    have ha := slot_ctx r 0 h
    have hb := slot_ctx r 1 h
    refine normArray_at _ _ _ _ _ _ _ _ _ _ _ (fun y => ?_) (fun y => rfl) (fun y => ?_) (fun y => ?_)
    · rw [ctx_x]
      blk_ext
    · rw [ctx_shift, shift_at]
      blk_ext [ha]
    · rw [ctx_scale, scale_at]
      blk_ext [hb]
  · next h =>
    rw [val_main_v58_apply]
    have e : idx_main_v58 (ix2 (⟨r.val - 4096, by omega⟩ : Fin 8192) z)
        = ix3 (⟨(r.val - 4096) / 2048, by omega⟩ : Fin 4) (⟨(r.val - 4096) % 2048, by omega⟩ : Fin 2048) z := by blk_ext
    rw [e, lat_row]
    have ha := slot_lat r 0 h
    have hb := slot_lat r 1 h
    refine normArray_at _ _ _ _ _ _ _ _ _ _ _ (fun y => ?_) (fun y => rfl) (fun y => ?_) (fun y => ?_)
    · rw [lat_x]
      blk_ext
    · rw [lat_shift, shift_at]
      blk_ext [ha]
    · rw [lat_scale, scale_at]
      blk_ext [hb]

end Cert.RefNorm2

end
-- ==== Proof.RefProjections.lean ====
/- The reference's input projections, index by index: columns of one product. -/
module

public import proofs.«01_k».proof.Proof.RefNorm2

@[expose] public section

set_option maxRecDepth 16384

noncomputable section

namespace Cert.RefNorm2

open Idealize.ShloMosaic Cert.Reference2Ideal Cert.Reference2Ideal.Gen Cert.Reference2Ideal.Read Cert.Layer Pointwise
open scoped BigOperators

variable (x0 : FVec Ideal S12288x2048 .f32) (x1 : FVec Ideal S2048 .f32) (x2 : FVec Ideal S48x1x2048 .f32) (x3 : FVec Ideal S2048x19296 .f32)

theorem product_of (r : Fin 12288) (z : Fin 19296) :
    val_main_v60 (F := Ideal) x0 x1 x2 x3 (ix2 r z) = ∑ y : Fin 2048, normArray x0 x1 x2 0 1 (ix2 r y) * x3 (ix2 y z) := by
  rw [val_main_v60_apply, norm_eq]
  refine Finset.sum_congr rfl fun y _ => congrArg₂ (· * ·) (congrArg (normArray x0 x1 x2 0 1) ?_) (congrArg x3 ?_)
  · blk_ext
  · blk_ext

/-- An element of the reference's product is an element of the columns that hold it. -/
theorem columns_at (v : FTy) {R N : ℕ} (off : ℕ) (hR : R ≤ 12288) (hN : off + N ≤ 19296) (r : Fin R) (z : Fin N) (i : S12288x19296.Idx)
    (hi : i = ix2 (⟨r.val, r.isLt.trans_le hR⟩ : Fin 12288) (⟨off + z.val, by have := z.isLt; omega⟩ : Fin 19296)) :
    val_main_v60 (F := Ideal) x0 x1 x2 x3 i = proj v off hR hN (normArray x0 x1 x2 0 1) x3 (ix2 r z) := by
  rw [hi, product_of]
  exact proj_at v off hR hN _ _ r z _ _ (fun _ => rfl) (fun _ => rfl)

theorem result1 : val_main_v61 (F := Ideal) x0 x1 x2 x3 = proj (R := 12288) (N := 832) .f32 0 (by omega) (by omega) (normArray x0 x1 x2 0 1) x3 := by
  funext i
  obtain ⟨r, z, rfl⟩ : ∃ (r : Fin 12288) (z : Fin 832), i = ix2 r z := ⟨i 0, i 1, by blk_ext⟩
  rw [val_main_v61_apply]
  exact columns_at x0 x1 x2 x3 .f32 0 (by omega) (by omega) r z _ (by blk_ext)

theorem result2 : val_main_v68 (F := Ideal) x0 x1 x2 x3 = proj (R := 12288) (N := 3072) .bf16 832 (by omega) (by omega) (normArray x0 x1 x2 0 1) x3 := by
  funext i
  obtain ⟨r, z, rfl⟩ : ∃ (r : Fin 12288) (z : Fin 3072), i = ix2 r z := ⟨i 0, i 1, by blk_ext⟩
  rw [val_main_v68_apply, val_main_v62_apply]
  exact columns_at x0 x1 x2 x3 .bf16 832 (by omega) (by omega) r z _ (by blk_ext)

theorem result3 : val_main_v69 (F := Ideal) x0 x1 x2 x3 = proj (R := 12288) (N := 1024) .bf16 3904 (by omega) (by omega) (normArray x0 x1 x2 0 1) x3 := by
  funext i
  obtain ⟨r, z, rfl⟩ : ∃ (r : Fin 12288) (z : Fin 1024), i = ix2 r z := ⟨i 0, i 1, by blk_ext⟩
  rw [val_main_v69_apply, val_main_v63_apply]
  exact columns_at x0 x1 x2 x3 .bf16 3904 (by omega) (by omega) r z _ (by blk_ext)

theorem result4 : val_main_v64 (F := Ideal) x0 x1 x2 x3 = proj (R := 12288) (N := 32) .f32 4928 (by omega) (by omega) (normArray x0 x1 x2 0 1) x3 := by
  funext i
  obtain ⟨r, z, rfl⟩ : ∃ (r : Fin 12288) (z : Fin 32), i = ix2 r z := ⟨i 0, i 1, by blk_ext⟩
  rw [val_main_v64_apply]
  exact columns_at x0 x1 x2 x3 .f32 4928 (by omega) (by omega) r z _ (by blk_ext)

theorem result5 : val_main_v70 (F := Ideal) x0 x1 x2 x3 = proj (R := 12288) (N := 3072) .bf16 4960 (by omega) (by omega) (normArray x0 x1 x2 0 1) x3 := by
  funext i
  obtain ⟨r, z, rfl⟩ : ∃ (r : Fin 12288) (z : Fin 3072), i = ix2 r z := ⟨i 0, i 1, by blk_ext⟩
  rw [val_main_v70_apply, val_main_v65_apply]
  exact columns_at x0 x1 x2 x3 .bf16 4960 (by omega) (by omega) r z _ (by blk_ext)

theorem result6 : val_main_v71 (F := Ideal) x0 x1 x2 x3 = proj (R := 12288) (N := 3072) .bf16 8032 (by omega) (by omega) (normArray x0 x1 x2 0 1) x3 := by
  funext i
  obtain ⟨r, z, rfl⟩ : ∃ (r : Fin 12288) (z : Fin 3072), i = ix2 r z := ⟨i 0, i 1, by blk_ext⟩
  rw [val_main_v71_apply, val_main_v66_apply]
  exact columns_at x0 x1 x2 x3 .bf16 8032 (by omega) (by omega) r z _ (by blk_ext)

theorem result7 : val_main_v72 (F := Ideal) x0 x1 x2 x3 = proj (R := 4096) (N := 2048) .f32 9056 (by omega) (by omega) (normArray x0 x1 x2 0 1) x3 := by
  funext i
  obtain ⟨r, z, rfl⟩ : ∃ (r : Fin 4096) (z : Fin 2048), i = ix2 r z := ⟨i 0, i 1, by blk_ext⟩
  rw [val_main_v72_apply, val_main_v66_apply]
  exact columns_at x0 x1 x2 x3 .f32 9056 (by omega) (by omega) r z _ (by blk_ext)

theorem result8 : val_main_v73 (F := Ideal) x0 x1 x2 x3 = proj (R := 12288) (N := 8192) .bf16 11104 (by omega) (by omega) (normArray x0 x1 x2 0 1) x3 := by
  funext i
  obtain ⟨r, z, rfl⟩ : ∃ (r : Fin 12288) (z : Fin 8192), i = ix2 r z := ⟨i 0, i 1, by blk_ext⟩
  rw [val_main_v73_apply, val_main_v67_apply]
  exact columns_at x0 x1 x2 x3 .bf16 11104 (by omega) (by omega) r z _ (by blk_ext)

end Cert.RefNorm2

end
-- ==== Proof.MergeArray.lean ====
/- The merge of the four branches and the output projection's gated residual, as arrays. -/
module

public import proofs.«01_k».proof.Proof.Norm

@[expose] public section

set_option maxRecDepth 16384

noncomputable section

namespace Cert.Layer

open Idealize.ShloMosaic Pointwise
open scoped BigOperators

/-- One branch's part of the merge: the logistic of its gate, times its row's product with its weight's column. -/
def gated (g : EReal) (p q : Fin 1024 → EReal) : EReal := Ideal.logistic g * ∑ y : Fin 1024, p y * q y

/-- Row `r` of a branch, the context's tokens first and then the latents'. -/
def row (a : FVec Ideal ⟨2, ![4096, 1024]⟩ .bf16) (l : FVec Ideal ⟨2, ![8192, 1024]⟩ .bf16) (r : Fin 12288) (y : Fin 1024) : EReal :=
  if h : r.val < 4096 then a (ix2 (⟨r.val, h⟩ : Fin 4096) y) else l (ix2 (⟨r.val - 4096, by omega⟩ : Fin 8192) y)

theorem row_ctx (a : FVec Ideal ⟨2, ![4096, 1024]⟩ .bf16) (l : FVec Ideal ⟨2, ![8192, 1024]⟩ .bf16) (r : Fin 12288) (h : r.val < 4096) (y : Fin 1024) :
    row a l r y = a (ix2 (⟨r.val, h⟩ : Fin 4096) y) := dif_pos h

theorem row_lat (a : FVec Ideal ⟨2, ![4096, 1024]⟩ .bf16) (l : FVec Ideal ⟨2, ![8192, 1024]⟩ .bf16) (r : Fin 12288) (h : ¬ r.val < 4096) (y : Fin 1024) :
    row a l r y = l (ix2 (⟨r.val - 4096, by omega⟩ : Fin 8192) y) := dif_neg h

/-- Lane `z` of the gates of branch `n`. -/
def gate (g : FVec Ideal ⟨2, ![12288, 8192]⟩ .bf16) (n : Fin 4) (r : Fin 12288) (z : Fin 2048) : EReal :=
  g (ix2 r (⟨n.val * 2048 + z.val, by omega⟩ : Fin 8192))

/-- The gated sum of the four branches, each through its own weight. -/
def merged (a0 a1 a2 a3 : FVec Ideal ⟨2, ![4096, 1024]⟩ .bf16) (l0 l1 l2 l3 : FVec Ideal ⟨2, ![8192, 1024]⟩ .bf16)
    (g : FVec Ideal ⟨2, ![12288, 8192]⟩ .bf16) (w : FVec Ideal ⟨3, ![4, 1024, 2048]⟩ .f32) (r : Fin 12288) (z : Fin 2048) : EReal :=
  gated (gate g 0 r z) (row a0 l0 r) (fun y => w (ix3 0 y z)) + gated (gate g 1 r z) (row a1 l1 r) (fun y => w (ix3 1 y z))
    + gated (gate g 2 r z) (row a2 l2 r) (fun y => w (ix3 2 y z)) + gated (gate g 3 r z) (row a3 l3 r) (fun y => w (ix3 3 y z))

def mergedArray (a0 a1 a2 a3 : FVec Ideal ⟨2, ![4096, 1024]⟩ .bf16) (l0 l1 l2 l3 : FVec Ideal ⟨2, ![8192, 1024]⟩ .bf16)
    (g : FVec Ideal ⟨2, ![12288, 8192]⟩ .bf16) (w : FVec Ideal ⟨3, ![4, 1024, 2048]⟩ .f32) : FVec Ideal ⟨2, ![12288, 2048]⟩ .bf16 :=
  fun i => merged a0 a1 a2 a3 l0 l1 l2 l3 g w (i 0) (i 1)

/-- A lane of the merge, from what a tile holds of the branches, the gates and the weights. -/
theorem merged_at (a0 a1 a2 a3 : FVec Ideal ⟨2, ![4096, 1024]⟩ .bf16) (l0 l1 l2 l3 : FVec Ideal ⟨2, ![8192, 1024]⟩ .bf16)
    (g : FVec Ideal ⟨2, ![12288, 8192]⟩ .bf16) (w : FVec Ideal ⟨3, ![4, 1024, 2048]⟩ .f32) (r : Fin 12288) (z : Fin 2048)
    (u0 u1 u2 u3 : EReal) (p0 p1 p2 p3 q0 q1 q2 q3 : Fin 1024 → EReal)
    (hu0 : u0 = gate g 0 r z) (hu1 : u1 = gate g 1 r z) (hu2 : u2 = gate g 2 r z) (hu3 : u3 = gate g 3 r z)
    (hp0 : ∀ y, p0 y = row a0 l0 r y) (hp1 : ∀ y, p1 y = row a1 l1 r y) (hp2 : ∀ y, p2 y = row a2 l2 r y) (hp3 : ∀ y, p3 y = row a3 l3 r y)
    (hq0 : ∀ y, q0 y = w (ix3 0 y z)) (hq1 : ∀ y, q1 y = w (ix3 1 y z)) (hq2 : ∀ y, q2 y = w (ix3 2 y z)) (hq3 : ∀ y, q3 y = w (ix3 3 y z)) :
    gated u0 p0 q0 + gated u1 p1 q1 + gated u2 p2 q2 + gated u3 p3 q3 = mergedArray a0 a1 a2 a3 l0 l1 l2 l3 g w (ix2 r z) := by
  rw [hu0, hu1, hu2, hu3, funext hp0, funext hp1, funext hp2, funext hp3, funext hq0, funext hq1, funext hq2, funext hq3]
  rfl

/-- The residual plus the gated product with the output weight. -/
def resid (x : FVec Ideal ⟨2, ![12288, 2048]⟩ .f32) (mods : FVec Ideal ⟨3, ![48, 1, 2048]⟩ .f32)
    (h : FVec Ideal ⟨2, ![12288, 2048]⟩ .bf16) (w : FVec Ideal ⟨2, ![2048, 2048]⟩ .f32) : FVec Ideal ⟨2, ![12288, 2048]⟩ .f32 := fun i =>
  x (ix2 (i 0 : Fin 12288) (i 1 : Fin 2048)) + mods (ix3 (slot (i 0) 2) 0 (i 1 : Fin 2048))
    * ∑ y : Fin 2048, h (ix2 (i 0 : Fin 12288) y) * w (ix2 y (i 1 : Fin 2048))

/-- An element of it, from what a tile holds of the four arrays. -/
theorem resid_at (x : FVec Ideal ⟨2, ![12288, 2048]⟩ .f32) (mods : FVec Ideal ⟨3, ![48, 1, 2048]⟩ .f32)
    (h : FVec Ideal ⟨2, ![12288, 2048]⟩ .bf16) (w : FVec Ideal ⟨2, ![2048, 2048]⟩ .f32) (r : Fin 12288) (z : Fin 2048)
    (a b : EReal) (p q : Fin 2048 → EReal) (ha : a = x (ix2 r z)) (hb : b = mods (ix3 (slot r 2) 0 z))
    (hp : ∀ y, p y = h (ix2 r y)) (hq : ∀ y, q y = w (ix2 y z)) :
    a + b * ∑ y : Fin 2048, p y * q y = resid x mods h w (ix2 r z) := by
  rw [ha, hb, funext hp, funext hq]
  rfl

end Cert.Layer

end
-- ==== Proof.Merge.lean ====
/- The merge of the branches and the output projection: what the two calls leave in memory, index by index. -/
module

public import proofs.«01_k».proof.Proof.Gen.Kernel3Ideal.Frame
public import proofs.«01_k».proof.Proof.MergeArray
public import Idealize.ShloMosaic.Lib.StableHlo.RunRead

@[expose] public section

set_option maxRecDepth 16384

noncomputable section

namespace Cert.Merge

open Idealize.ShloMosaic Idealize.ShloMosaic.TcCoe Idealize.ShloMosaic.Pipeline Idealize.SL.Sem Cert.Kernel3Ideal Cert.Kernel3Ideal.Gen Cert.Layer Pointwise
open scoped BigOperators

/-! ## The two bodies at an index -/

theorem dot_at (v : Vec Ideal S1024x1024 .bf16) (w : Vec Ideal S1x1024x512 .bf16) (r : Fin 1024) (z : Fin 512) :
    k0_pay4 v w (ix2 r z) = ∑ y : Fin 1024, v (ix2 r y) * w (ix3 0 y z) := by
  pointwise [k0_pay4]

theorem three_at (v6 : Vec Ideal S1024x1024 .bf16) (v7 : Vec Ideal S1x1024x512 .bf16) (v10 : Vec Ideal S1024x512 .bf16) (v14 : Vec Ideal S1024x1024 .bf16) (v15 : Vec Ideal S1x1024x512 .bf16) (v18 : Vec Ideal S1024x512 .bf16) (v23 : Vec Ideal S1024x1024 .bf16) (v24 : Vec Ideal S1x1024x512 .bf16) (v27 : Vec Ideal S1024x512 .bf16) (r : Fin 1024) (z : Fin 512) :
    k0_pay3 v6 v7 v10 v14 v15 v18 v23 v24 v27 (ix2 r z)
      = gated (v10 (ix2 r z)) (fun y => v6 (ix2 r y)) (fun y => v7 (ix3 0 y z)) + gated (v18 (ix2 r z)) (fun y => v14 (ix2 r y)) (fun y => v15 (ix3 0 y z))
        + gated (v27 (ix2 r z)) (fun y => v23 (ix2 r y)) (fun y => v24 (ix3 0 y z)) := by
  unfold gated
  pointwise [k0_pay3]

theorem last_at (v31 v35 : Vec Ideal S1024x512 .f32) (v36 : Vec Ideal S1024x512 .bf16) (r : Fin 1024) (z : Fin 512) :
    k0_pay1 v31 v35 v36 (ix2 r z) = v31 (ix2 r z) + Ideal.logistic (v36 (ix2 r z)) * v35 (ix2 r z) := by
  pointwise [k0_pay1]

theorem dot_at' (v : Vec Ideal S1024x1024 .bf16) (w : Vec Ideal S1x1024x512 .bf16) (r : Fin 1024) (z : Fin 512) :
    k0_pay6 v w (ix2 r z) = ∑ y : Fin 1024, v (ix2 r y) * w (ix3 0 y z) := by
  pointwise [k0_pay6]

theorem three_at' (v6 : Vec Ideal S1024x1024 .bf16) (v7 : Vec Ideal S1x1024x512 .bf16) (v10 : Vec Ideal S1024x512 .bf16) (v14 : Vec Ideal S1024x1024 .bf16) (v15 : Vec Ideal S1x1024x512 .bf16) (v18 : Vec Ideal S1024x512 .bf16) (v23 : Vec Ideal S1024x1024 .bf16) (v24 : Vec Ideal S1x1024x512 .bf16) (v27 : Vec Ideal S1024x512 .bf16) (r : Fin 1024) (z : Fin 512) :
    k0_pay5 v6 v7 v10 v14 v15 v18 v23 v24 v27 (ix2 r z)
      = gated (v10 (ix2 r z)) (fun y => v6 (ix2 r y)) (fun y => v7 (ix3 0 y z)) + gated (v18 (ix2 r z)) (fun y => v14 (ix2 r y)) (fun y => v15 (ix3 0 y z))
        + gated (v27 (ix2 r z)) (fun y => v23 (ix2 r y)) (fun y => v24 (ix3 0 y z)) := by
  unfold gated
  pointwise [k0_pay5]

theorem last_at' (v31 v35 : Vec Ideal S1024x512 .f32) (v36 : Vec Ideal S1024x512 .bf16) (r : Fin 1024) (z : Fin 512) :
    k0_pay2 v31 v35 v36 (ix2 r z) = v31 (ix2 r z) + Ideal.logistic (v36 (ix2 r z)) * v35 (ix2 r z) := by
  pointwise [k0_pay2]

theorem resid_pay_at (v0 : Vec Ideal S1024x512 .f32) (v1 : Vec Ideal S1x1x512 .f32) (v3 : Vec Ideal S1024x2048 .bf16) (v5 : Vec Ideal S2048x512 .bf16) (r : Fin 1024) (z : Fin 512) :
    k1_pay1 v0 v1 v3 v5 (ix2 r z) = v0 (ix2 r z) + v1 (ix3 0 0 z) * ∑ y : Fin 2048, v3 (ix2 r y) * v5 (ix2 y z) := by
  pointwise [k1_pay1]

theorem ld0 (v : Vec Ideal S4x1024x512 .bf16) (x : Fin 1024) (z : Fin 512) :
    View.ld v (Rect.unit ![0, 0, 0] ![1, 1024, 512] inb_S4x1024x512_S1x1024x512_0_0_0) (ix3 0 x z) = v (ix3 0 x z) := by
  unfold View.ld
  blk_ext
  all_goals refine (Rect.idx_unit_val _ _ _ _ _).trans ?_
  all_goals simp

theorem ld1 (v : Vec Ideal S4x1024x512 .bf16) (x : Fin 1024) (z : Fin 512) :
    View.ld v (Rect.unit ![1, 0, 0] ![1, 1024, 512] inb_S4x1024x512_S1x1024x512_1_0_0) (ix3 0 x z) = v (ix3 1 x z) := by
  unfold View.ld
  blk_ext
  all_goals refine (Rect.idx_unit_val _ _ _ _ _).trans ?_
  all_goals simp

theorem ld2 (v : Vec Ideal S4x1024x512 .bf16) (x : Fin 1024) (z : Fin 512) :
    View.ld v (Rect.unit ![2, 0, 0] ![1, 1024, 512] inb_S4x1024x512_S1x1024x512_2_0_0) (ix3 0 x z) = v (ix3 2 x z) := by
  unfold View.ld
  blk_ext
  all_goals refine (Rect.idx_unit_val _ _ _ _ _).trans ?_
  all_goals simp

theorem ld3 (v : Vec Ideal S4x1024x512 .bf16) (x : Fin 1024) (z : Fin 512) :
    View.ld v (Rect.unit ![3, 0, 0] ![1, 1024, 512] inb_S4x1024x512_S1x1024x512_3_0_0) (ix3 0 x z) = v (ix3 3 x z) := by
  unfold View.ld
  blk_ext
  all_goals refine (Rect.idx_unit_val _ _ _ _ _).trans ?_
  all_goals simp

/-! ## The blocks -/

theorem index0 : ∀ t : Fin grid0.N,
    win0_0.index t = ![min (t.val / 4) 3, 0] ∧ win0_1.index t = ![min (t.val / 4) 3, 0]
    ∧ win0_2.index t = ![min (t.val / 4) 3, 0] ∧ win0_3.index t = ![min (t.val / 4) 3, 0]
    ∧ win0_4.index t = ![t.val / 4 - 4, 0] ∧ win0_5.index t = ![t.val / 4 - 4, 0]
    ∧ win0_6.index t = ![t.val / 4 - 4, 0] ∧ win0_7.index t = ![t.val / 4 - 4, 0]
    ∧ win0_8.index t = ![t.val / 4, t.val % 4] ∧ win0_9.index t = ![t.val / 4, 4 + t.val % 4]
    ∧ win0_10.index t = ![t.val / 4, 8 + t.val % 4] ∧ win0_11.index t = ![t.val / 4, 12 + t.val % 4]
    ∧ win0_12.index t = ![0, 0, t.val % 4] ∧ win0_13.index t = ![t.val / 4, t.val % 4] := by decide +kernel

theorem index1 : ∀ t : Fin grid1.N,
    win1_0.index t = ![t.val / 4, 0] ∧ win1_1.index t = ![0, t.val % 4] ∧ win1_2.index t = ![t.val / 4, t.val % 4]
    ∧ win1_3.index t = ![(if t.val / 4 < 4 then 0 else 1 + (t.val / 4 - 4) / 2) * 6 + 2, 0, t.val % 4]
    ∧ win1_4.index t = ![t.val / 4, t.val % 4] := by decide +kernel

variable (V : (c : Dev nD) → (b : Ref sig .tc) → Buf (Elt Ideal) ((c : Thread nD τ).loc b))

theorem final1 (c : Dev nD) (x : FVec Ideal S12288x2048 .f32) (mods : FVec Ideal S48x1x2048 .f32) (h : FVec Ideal S12288x2048 .bf16) (w : FVec Ideal S2048x2048 .f32)
    (hx : V c main_arg11 = x) (hm : V c main_arg12 = mods) (hh : V c main_v1 = h) (hw : ∀ y z : Fin 2048, V c main_v2 (ix2 y z) = w (ix2 y z)) :
    (dat1 V c).arrAt 4 cfg1.N = resid x mods h w := by
  refine (dat1 V c).arrAt_eq_of_covers 4 _ (by decide +kernel) (fun t _ y => ?_)
  blk_simp
  rw [after1_4]
  frame_out
  obtain ⟨r, z, rfl⟩ : ∃ (r : Fin 1024) (z : Fin 512), y = ix2 r z := ⟨y 0, y 1, by blk_ext⟩
  have e := index1 t
  have ht : t.val < 48 := t.isLt
  have hs := slot_tile (t.val / 4) (by omega) r 2
  have hi : ((View.whole main_v3).slice (win1_4.rect t)).emb (ix2 r z)
      = ix2 (⟨t.val / 4 * 1024 + r.val, by omega⟩ : Fin 12288) (⟨t.val % 4 * 512 + z.val, by omega⟩ : Fin 2048) := by
    blk_ext [e]
  rw [hi, resid_pay_at]
  refine resid_at _ _ _ _ _ _ _ _ _ _ ?_ ?_ (fun x => ?_) (fun x => ?_)
  · rw [← hx]
    unfold iblk1
    blk_ext [e]
  · rw [← hm]
    unfold iblk1
    blk_ext [e, hs]
  · rw [← hh]
    unfold iblk1
    blk_ext [e]
  · refine Eq.trans ?_ (hw x _)
    unfold iblk1
    blk_ext [e]

set_option maxHeartbeats 1600000 in
theorem tile_ctx (c : Dev nD) (a0 a1 a2 a3 : FVec Ideal S4096x1024 .bf16) (l0 l1 l2 l3 : FVec Ideal S8192x1024 .bf16) (g : FVec Ideal S12288x8192 .bf16) (w : FVec Ideal S4x1024x2048 .f32)
    (ha0 : V c main_arg0 = a0) (ha1 : V c main_arg1 = a1) (ha2 : V c main_arg2 = a2) (ha3 : V c main_arg3 = a3)
    (hl0 : V c main_arg4 = l0) (hl1 : V c main_arg5 = l1) (hl2 : V c main_arg6 = l2) (hl3 : V c main_arg7 = l3)
    (hg : V c main_arg8 = g) (hw : ∀ (n : Fin 4) (y : Fin 1024) (z : Fin 2048), V c main_v0 (ix3 n y z) = w (ix3 n y z))
    (t : Fin cfg0.N) (ht : t.val < 48) (h : t.val < 16) (r : Fin 1024) (z : Fin 512) :
    outsAt0 V c t.val t.isLt (ix2 r z) = mergedArray a0 a1 a2 a3 l0 l1 l2 l3 g w
      (ix2 (⟨t.val / 4 * 1024 + r.val, by omega⟩ : Fin 12288) (⟨t.val % 4 * 512 + z.val, by omega⟩ : Fin 2048)) := by
  have e := index0 t
  rw [outsAt0_A V c t h (by omega)]
  frame_out
  have hr : (⟨t.val / 4 * 1024 + r.val, by omega⟩ : Fin 12288).val < 4096 := by simp only; omega
  rw [last_at, three_at, dot_at]
  refine merged_at _ _ _ _ _ _ _ _ _ _ _ _ _ _ _ _ _ _ _ _ _ _ _ _ ?_ ?_ ?_ ?_ (fun x => ?_) (fun x => ?_) (fun x => ?_) (fun x => ?_) (fun x => ?_) (fun x => ?_) (fun x => ?_) (fun x => ?_)
  · unfold gate iblk0
    rw [← hg]
    blk_ext [e]
  · unfold gate iblk0
    rw [← hg]
    blk_ext [e]
  · unfold gate iblk0
    rw [← hg]
    blk_ext [e]
  · unfold gate iblk0
    rw [← hg]
    blk_ext [e]
  · rw [row_ctx _ _ _ hr, ← ha0]
    unfold iblk0
    blk_ext [e]
  · rw [row_ctx _ _ _ hr, ← ha1]
    unfold iblk0
    blk_ext [e]
  · rw [row_ctx _ _ _ hr, ← ha2]
    unfold iblk0
    blk_ext [e]
  · rw [row_ctx _ _ _ hr, ← ha3]
    unfold iblk0
    blk_ext [e]
  · rw [ld0]
    refine Eq.trans ?_ (hw 0 x _)
    unfold iblk0
    blk_ext [e]
  · rw [ld1]
    refine Eq.trans ?_ (hw 1 x _)
    unfold iblk0
    blk_ext [e]
  · rw [ld2]
    refine Eq.trans ?_ (hw 2 x _)
    unfold iblk0
    blk_ext [e]
  · rw [ld3]
    refine Eq.trans ?_ (hw 3 x _)
    unfold iblk0
    blk_ext [e]

set_option maxHeartbeats 1600000 in
theorem tile_lat (c : Dev nD) (a0 a1 a2 a3 : FVec Ideal S4096x1024 .bf16) (l0 l1 l2 l3 : FVec Ideal S8192x1024 .bf16) (g : FVec Ideal S12288x8192 .bf16) (w : FVec Ideal S4x1024x2048 .f32)
    (ha0 : V c main_arg0 = a0) (ha1 : V c main_arg1 = a1) (ha2 : V c main_arg2 = a2) (ha3 : V c main_arg3 = a3)
    (hl0 : V c main_arg4 = l0) (hl1 : V c main_arg5 = l1) (hl2 : V c main_arg6 = l2) (hl3 : V c main_arg7 = l3)
    (hg : V c main_arg8 = g) (hw : ∀ (n : Fin 4) (y : Fin 1024) (z : Fin 2048), V c main_v0 (ix3 n y z) = w (ix3 n y z))
    (t : Fin cfg0.N) (ht : t.val < 48) (h : ¬ t.val < 16) (r : Fin 1024) (z : Fin 512) :
    outsAt0 V c t.val t.isLt (ix2 r z) = mergedArray a0 a1 a2 a3 l0 l1 l2 l3 g w
      (ix2 (⟨t.val / 4 * 1024 + r.val, by omega⟩ : Fin 12288) (⟨t.val % 4 * 512 + z.val, by omega⟩ : Fin 2048)) := by
  have e := index0 t
  rw [outsAt0_B V c t h (by omega)]
  frame_out
  have hr : ¬ (⟨t.val / 4 * 1024 + r.val, by omega⟩ : Fin 12288).val < 4096 := by simp only; omega
  rw [last_at', three_at', dot_at']
  refine merged_at _ _ _ _ _ _ _ _ _ _ _ _ _ _ _ _ _ _ _ _ _ _ _ _ ?_ ?_ ?_ ?_ (fun x => ?_) (fun x => ?_) (fun x => ?_) (fun x => ?_) (fun x => ?_) (fun x => ?_) (fun x => ?_) (fun x => ?_)
  · unfold gate iblk0
    rw [← hg]
    blk_ext [e]
  · unfold gate iblk0
    rw [← hg]
    blk_ext [e]
  · unfold gate iblk0
    rw [← hg]
    blk_ext [e]
  · unfold gate iblk0
    rw [← hg]
    blk_ext [e]
  · rw [row_lat _ _ _ hr, ← hl0]
    unfold iblk0
    blk_ext [e]
  · rw [row_lat _ _ _ hr, ← hl1]
    unfold iblk0
    blk_ext [e]
  · rw [row_lat _ _ _ hr, ← hl2]
    unfold iblk0
    blk_ext [e]
  · rw [row_lat _ _ _ hr, ← hl3]
    unfold iblk0
    blk_ext [e]
  · rw [ld0]
    refine Eq.trans ?_ (hw 0 x _)
    unfold iblk0
    blk_ext [e]
  · rw [ld1]
    refine Eq.trans ?_ (hw 1 x _)
    unfold iblk0
    blk_ext [e]
  · rw [ld2]
    refine Eq.trans ?_ (hw 2 x _)
    unfold iblk0
    blk_ext [e]
  · rw [ld3]
    refine Eq.trans ?_ (hw 3 x _)
    unfold iblk0
    blk_ext [e]

theorem final0 (c : Dev nD) (a0 a1 a2 a3 : FVec Ideal S4096x1024 .bf16) (l0 l1 l2 l3 : FVec Ideal S8192x1024 .bf16) (g : FVec Ideal S12288x8192 .bf16) (w : FVec Ideal S4x1024x2048 .f32)
    (ha0 : V c main_arg0 = a0) (ha1 : V c main_arg1 = a1) (ha2 : V c main_arg2 = a2) (ha3 : V c main_arg3 = a3)
    (hl0 : V c main_arg4 = l0) (hl1 : V c main_arg5 = l1) (hl2 : V c main_arg6 = l2) (hl3 : V c main_arg7 = l3)
    (hg : V c main_arg8 = g) (hw : ∀ (n : Fin 4) (y : Fin 1024) (z : Fin 2048), V c main_v0 (ix3 n y z) = w (ix3 n y z)) :
    (dat0 V c).arrAt 13 cfg0.N = mergedArray a0 a1 a2 a3 l0 l1 l2 l3 g w := by
  refine (dat0 V c).arrAt_eq_of_covers 13 _ (by decide +kernel) (fun t _ y => ?_)
  blk_simp
  rw [after0_13]
  obtain ⟨r, z, rfl⟩ : ∃ (r : Fin 1024) (z : Fin 512), y = ix2 r z := ⟨y 0, y 1, by blk_ext⟩
  have e := index0 t
  have ht : t.val < 48 := t.isLt
  have hi : ((View.whole main_v1).slice (win0_13.rect t)).emb (ix2 r z)
      = ix2 (⟨t.val / 4 * 1024 + r.val, by omega⟩ : Fin 12288) (⟨t.val % 4 * 512 + z.val, by omega⟩ : Fin 2048) := by
    blk_ext [e]
  rw [hi]
  by_cases h : t.val < 16
  · exact tile_ctx V c a0 a1 a2 a3 l0 l1 l2 l3 g w ha0 ha1 ha2 ha3 hl0 hl1 hl2 hl3 hg hw t ht h r z
  · exact tile_lat V c a0 a1 a2 a3 l0 l1 l2 l3 g w ha0 ha1 ha2 ha3 hl0 hl1 hl2 hl3 hg hw t ht h r z

/-! ## The run -/

section
open Idealize.SL Idealize.SL.RA Idealize.SL.BI Idealize.SL.BI.BIBase Idealize.SL.BI.Laws Idealize.SL.ProofMode
open scoped Idealize.SL.BI
open Idealize.ShloMosaic.Rounds

set_option backward.isDefEq.respectTransparency.types false in
/-- Every run ends, and leaves the arrays as the last boundary has them. -/
theorem run (m : (ℓ : Loc nD τ sig) → Buf (Elt Ideal) ℓ) (ρ : Dev nD → PrngReg) :
    θ_run defs (onTc (τ := τ) (main (F := Ideal))) ⟨m, fun _ => 0, ρ⟩
      (fun r => ∀ c : Dev nD, ∀ b ∈ Pipeline.ucRefs τ sig, r.2.mem ((c : Thread nD τ).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W4 m ρ c b)
    (hfin := fun c s' => by
      iintro ⟨⟨Hh, -⟩, HSI⟩
      unfold StableHlo.held
      imodintro
      iapply (pointsTo_read_all (Pipeline.ucRefs τ sig) (fun b => ((c : Thread nD τ).1, b)) (W4 m ρ c) s')
      isplitl [Hh] <;> iassumption)
    (hQ := fun _ h _ => h)

end

/-! ## The result from the arguments -/

theorem result (m : (ℓ : Loc nD τ sig) → Buf (Elt Ideal) ℓ) (ρ : Dev nD → PrngReg) (c : Dev nD) :
    W4 m ρ c (Proc.devRef .tc main_v3)
      = resid (m ((c : Thread nD τ).loc main_arg11)) (m ((c : Thread nD τ).loc main_arg12))
          (mergedArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
          (m ((c : Thread nD τ).loc main_arg10)) := by
  have hw0 : V1 m ρ c main_v0 = truncf (F := Ideal) .bf16 (m ((c : Thread nD τ).loc main_arg9)) bitsLt_bf16_f32 := by
    unfold V1 W1
    simp only [hostOps0]
    after_reads_simp <;> rfl
  have hw1 : V3 m ρ c main_v2 = truncf (F := Ideal) .bf16 (m ((c : Thread nD τ).loc main_arg10)) bitsLt_bf16_f32 := by
    rw [← W2_args m ρ c main_arg10 (by decide)]
    unfold V3 W3
    simp only [hostOps1]
    after_reads_simp <;> rfl
  have hh : V3 m ρ c main_v1 = mergedArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
    (W3_of m ρ c main_v1 (by decide)).trans <| (W2_arr m ρ c 13).trans <|
      final0 (V1 m ρ) c _ _ _ _ _ _ _ _ _ _ (W1_args m ρ c main_arg0 (by decide)) (W1_args m ρ c main_arg1 (by decide)) (W1_args m ρ c main_arg2 (by decide)) (W1_args m ρ c main_arg3 (by decide)) (W1_args m ρ c main_arg4 (by decide)) (W1_args m ρ c main_arg5 (by decide)) (W1_args m ρ c main_arg6 (by decide)) (W1_args m ρ c main_arg7 (by decide)) (W1_args m ρ c main_arg8 (by decide))
        fun n y z => by rw [hw0]; rfl
  exact (W4_arr m ρ c 4).trans <| final1 (V3 m ρ) c _ _ _ _ (W3_args m ρ c main_arg11 (by decide)) (W3_args m ρ c main_arg12 (by decide)) hh
    fun y z => by rw [hw1]; rfl

end Cert.Merge

end
-- ==== Proof.RefMerge.lean ====
/- The reference's merge and output projection, index by index. -/
module

public import proofs.«01_k».proof.Proof.Gen.Reference3Ideal.Read
public import proofs.«01_k».proof.Proof.MergeArray

@[expose] public section

set_option maxRecDepth 16384

noncomputable section

namespace Cert.RefMerge

open Idealize.ShloMosaic Cert.Reference3Ideal Cert.Reference3Ideal.Gen Cert.Reference3Ideal.Read Cert.Layer Pointwise
open scoped BigOperators

variable (x0 x1 x2 x3 : FVec Ideal S4096x1024 .bf16) (x4 x5 x6 x7 : FVec Ideal S8192x1024 .bf16) (x8 : FVec Ideal S12288x8192 .bf16)
  (x9 : FVec Ideal S4x1024x2048 .f32) (x10 : FVec Ideal S2048x2048 .f32) (x11 : FVec Ideal S12288x2048 .f32) (x12 : FVec Ideal S48x1x2048 .f32)

/-! ## The rows of the conditions -/

theorem gate_at (i : Fin 8) (z : Fin 2048) : val_main_v2 (F := Ideal) x12 (ix2 i z) = x12 (ix3 (⟨i.val * 6 + 2, by omega⟩ : Fin 48) 0 z) := by
  rw [val_main_v2_apply, val_main_v1_apply, val_main_v0_apply]
  blk_ext

/-- One branch's part, with the weight's factor first. -/
theorem gated_of (g g' : EReal) (p q p' q' : Fin 1024 → EReal) (hg : g = g') (hp : ∀ y, p y = p' y) (hq : ∀ y, q y = q' y) :
    Ideal.logistic g * ∑ y : Fin 1024, q y * p y = gated g' p' q' := by
  rw [hg, funext hp, funext hq]
  exact congrArg (Ideal.logistic g' * ·) (Finset.sum_congr rfl fun y _ => mul_comm (q' y) (p' y))

/-! ## The context's tokens -/

theorem ctx_part (b : Fin 16) (l : Fin 256) (n : Fin 4) (z : Fin 2048) :
    val_main_v29 (F := Ideal) x0 x1 x2 x3 x8 x9 (ix4 b l n z)
      = Ideal.logistic (val_main_v12 (F := Ideal) x8 (ix3 b l (⟨n.val * 2048 + z.val, by omega⟩ : Fin 8192)))
        * ∑ y : Fin 1024, x9 (ix3 n y z) * val_main_v17 (F := Ideal) x0 x1 x2 x3 (ix4 b l n y) := by
  unfold val_main_v29 val_main_v28 val_main_v27 val_main_cst_0 val_main_v26 val_main_v25 val_main_cst val_main_v24 val_main_v23 val_main_v22 val_main_v21 val_main_v20 val_main_v19 val_main_v18
  generalize val_main_v12 (F := Ideal) x8 = a
  generalize val_main_v17 (F := Ideal) x0 x1 x2 x3 = q
  pointwise
  rfl

theorem ctx_branch (b : Fin 16) (l : Fin 256) (n : Fin 4) (y : Fin 1024) :
    val_main_v17 (F := Ideal) x0 x1 x2 x3 (ix4 b l n y)
      = (![x0, x1, x2, x3] n) (ix2 (⟨b.val * 256 + l.val, by omega⟩ : Fin 4096) y) := by
  fin_cases n <;> unfold val_main_v17 val_main_v16 val_main_v15 val_main_v14 val_main_v13 val_main_v10 val_main_v9 val_main_v8 val_main_v7 <;> pointwise

theorem ctx_gates (b : Fin 16) (l : Fin 256) (z : Fin 8192) :
    val_main_v12 (F := Ideal) x8 (ix3 b l z) = x8 (ix2 (⟨b.val * 256 + l.val, by omega⟩ : Fin 12288) z) := by
  rw [val_main_v12_apply, val_main_v11_apply]
  blk_ext

/-! ## The latents' tokens -/

theorem lat_part (b : Fin 4) (l : Fin 2048) (n : Fin 4) (z : Fin 2048) :
    val_main_v62 (F := Ideal) x4 x5 x6 x7 x8 x9 (ix4 b l n z)
      = Ideal.logistic (val_main_v45 (F := Ideal) x8 (ix3 b l (⟨n.val * 2048 + z.val, by omega⟩ : Fin 8192)))
        * ∑ y : Fin 1024, x9 (ix3 n y z) * val_main_v50 (F := Ideal) x4 x5 x6 x7 (ix4 b l n y) := by
  unfold val_main_v62 val_main_v61 val_main_v60 val_main_cst_3 val_main_v59 val_main_v58 val_main_cst_2 val_main_v57 val_main_v56 val_main_v55 val_main_v54 val_main_v53 val_main_v52 val_main_v51
  generalize val_main_v45 (F := Ideal) x8 = a
  generalize val_main_v50 (F := Ideal) x4 x5 x6 x7 = q
  pointwise
  rfl

theorem lat_branch (b : Fin 4) (l : Fin 2048) (n : Fin 4) (y : Fin 1024) :
    val_main_v50 (F := Ideal) x4 x5 x6 x7 (ix4 b l n y)
      = (![x4, x5, x6, x7] n) (ix2 (⟨b.val * 2048 + l.val, by omega⟩ : Fin 8192) y) := by
  fin_cases n <;> unfold val_main_v50 val_main_v49 val_main_v48 val_main_v47 val_main_v46 val_main_v43 val_main_v42 val_main_v41 val_main_v40 <;> pointwise

theorem lat_gates (b : Fin 4) (l : Fin 2048) (z : Fin 8192) :
    val_main_v45 (F := Ideal) x8 (ix3 b l z) = x8 (ix2 (⟨4096 + (b.val * 2048 + l.val), by omega⟩ : Fin 12288) z) := by
  rw [val_main_v45_apply, val_main_v44_apply]
  blk_ext

/-! ## The merge -/

theorem ctx_merged (b : Fin 16) (l : Fin 256) (z : Fin 2048) (r : Fin 12288) (hr : r.val = b.val * 256 + l.val) :
    val_main_v30 (F := Ideal) x0 x1 x2 x3 x8 x9 (ix3 b l z) = merged x0 x1 x2 x3 x4 x5 x6 x7 x8 x9 r z := by
  have h : r.val < 4096 := by omega
  have hi : ∀ k : Fin 4, idx_main_v30 (ix3 b l z) k = ix4 b l k z := fun k => by blk_ext
  have hc : (val_main_cst_1 (F := Ideal)) (Shape.Idx.first h_S_) = 0 := by
    unfold val_main_cst_1
    pointwise
  rw [val_main_v30_apply, hc, zero_add, Fin.sum_univ_four, hi, hi, hi, hi, ctx_part, ctx_part, ctx_part, ctx_part]
  unfold merged
  refine congrArg₂ (· + ·) (congrArg₂ (· + ·) (congrArg₂ (· + ·) ?_ ?_) ?_) ?_
  · refine gated_of _ _ _ _ _ _ ?_ (fun y => ?_) (fun y => rfl)
    · rw [ctx_gates]
      unfold gate
      blk_ext [hr]
    · rw [ctx_branch, row_ctx _ _ _ h]
      show x0 _ = x0 _
      blk_ext [hr]
  · refine gated_of _ _ _ _ _ _ ?_ (fun y => ?_) (fun y => rfl)
    · rw [ctx_gates]
      unfold gate
      blk_ext [hr]
    · rw [ctx_branch, row_ctx _ _ _ h]
      show x1 _ = x1 _
      blk_ext [hr]
  · refine gated_of _ _ _ _ _ _ ?_ (fun y => ?_) (fun y => rfl)
    · rw [ctx_gates]
      unfold gate
      blk_ext [hr]
    · rw [ctx_branch, row_ctx _ _ _ h]
      show x2 _ = x2 _
      blk_ext [hr]
  · refine gated_of _ _ _ _ _ _ ?_ (fun y => ?_) (fun y => rfl)
    · rw [ctx_gates]
      unfold gate
      blk_ext [hr]
    · rw [ctx_branch, row_ctx _ _ _ h]
      show x3 _ = x3 _
      blk_ext [hr]

theorem lat_merged (b : Fin 4) (l : Fin 2048) (z : Fin 2048) (r : Fin 12288) (hr : r.val = 4096 + (b.val * 2048 + l.val)) :
    val_main_v63 (F := Ideal) x4 x5 x6 x7 x8 x9 (ix3 b l z) = merged x0 x1 x2 x3 x4 x5 x6 x7 x8 x9 r z := by
  have h : ¬ r.val < 4096 := by omega
  have hi : ∀ k : Fin 4, idx_main_v63 (ix3 b l z) k = ix4 b l k z := fun k => by blk_ext
  have hc : (val_main_cst_4 (F := Ideal)) (Shape.Idx.first h_S_) = 0 := by
    unfold val_main_cst_4
    pointwise
  rw [val_main_v63_apply, hc, zero_add, Fin.sum_univ_four, hi, hi, hi, hi, lat_part, lat_part, lat_part, lat_part]
  unfold merged
  refine congrArg₂ (· + ·) (congrArg₂ (· + ·) (congrArg₂ (· + ·) ?_ ?_) ?_) ?_
  · refine gated_of _ _ _ _ _ _ ?_ (fun y => ?_) (fun y => rfl)
    · rw [lat_gates]
      unfold gate
      blk_ext [hr]
    · rw [lat_branch, row_lat _ _ _ h]
      show x4 _ = x4 _
      blk_ext [hr]
  · refine gated_of _ _ _ _ _ _ ?_ (fun y => ?_) (fun y => rfl)
    · rw [lat_gates]
      unfold gate
      blk_ext [hr]
    · rw [lat_branch, row_lat _ _ _ h]
      show x5 _ = x5 _
      blk_ext [hr]
  · refine gated_of _ _ _ _ _ _ ?_ (fun y => ?_) (fun y => rfl)
    · rw [lat_gates]
      unfold gate
      blk_ext [hr]
    · rw [lat_branch, row_lat _ _ _ h]
      show x6 _ = x6 _
      blk_ext [hr]
  · refine gated_of _ _ _ _ _ _ ?_ (fun y => ?_) (fun y => rfl)
    · rw [lat_gates]
      unfold gate
      blk_ext [hr]
    · rw [lat_branch, row_lat _ _ _ h]
      show x7 _ = x7 _
      blk_ext [hr]

/-! ## The residual -/

theorem ctx_x (b : Fin 16) (l : Fin 256) (z : Fin 2048) :
    val_main_v4 (F := Ideal) x11 (ix3 b l z) = x11 (ix2 (⟨b.val * 256 + l.val, by omega⟩ : Fin 12288) z) := by
  rw [val_main_v4_apply, val_main_v3_apply]
  blk_ext

theorem lat_x (b : Fin 4) (l z : Fin 2048) :
    val_main_v37 (F := Ideal) x11 (ix3 b l z) = x11 (ix2 (⟨4096 + (b.val * 2048 + l.val), by omega⟩ : Fin 12288) z) := by
  rw [val_main_v37_apply, val_main_v36_apply]
  blk_ext

theorem ctx_gate (z : Fin 2048) : val_main_v6 (F := Ideal) x12 (ix1 z) = val_main_v2 (F := Ideal) x12 (ix2 0 z) := by
  rw [val_main_v6_apply, val_main_v5_apply]
  blk_ext

theorem lat_gate (b : Fin 4) (z : Fin 2048) :
    val_main_v39 (F := Ideal) x12 (ix3 b 0 z) = val_main_v2 (F := Ideal) x12 (ix2 (⟨1 + b.val, by omega⟩ : Fin 8) z) := by
  rw [val_main_v39_apply, val_main_v38_apply]
  blk_ext

theorem ctx_row (b : Fin 16) (l : Fin 256) (z : Fin 2048) :
    val_main_v35 (F := Ideal) x0 x1 x2 x3 x8 x9 x10 x11 x12 (ix3 b l z)
      = val_main_v4 (F := Ideal) x11 (ix3 b l z) + val_main_v6 (F := Ideal) x12 (ix1 z)
        * ∑ y : Fin 2048, val_main_v30 (F := Ideal) x0 x1 x2 x3 x8 x9 (ix3 b l y) * x10 (ix2 y z) := by
  unfold val_main_v35 val_main_v34 val_main_v33 val_main_v32 val_main_v31
  generalize val_main_v4 (F := Ideal) x11 = p
  generalize val_main_v6 (F := Ideal) x12 = q
  generalize val_main_v30 (F := Ideal) x0 x1 x2 x3 x8 x9 = a
  pointwise

theorem lat_row (b : Fin 4) (l z : Fin 2048) :
    val_main_v67 (F := Ideal) x4 x5 x6 x7 x8 x9 x10 x11 x12 (ix3 b l z)
      = val_main_v37 (F := Ideal) x11 (ix3 b l z) + val_main_v39 (F := Ideal) x12 (ix3 b 0 z)
        * ∑ y : Fin 2048, val_main_v63 (F := Ideal) x4 x5 x6 x7 x8 x9 (ix3 b l y) * x10 (ix2 y z) := by
  unfold val_main_v67 val_main_v66 val_main_v65 val_main_v64
  generalize val_main_v37 (F := Ideal) x11 = p
  generalize val_main_v39 (F := Ideal) x12 = q
  generalize val_main_v63 (F := Ideal) x4 x5 x6 x7 x8 x9 = a
  pointwise

theorem join_at (r : Fin 12288) (z : Fin 2048) :
    val_main_v70 (F := Ideal) x0 x1 x2 x3 x4 x5 x6 x7 x8 x9 x10 x11 x12 (ix2 r z)
      = if h : r.val < 4096 then val_main_v68 (F := Ideal) x0 x1 x2 x3 x8 x9 x10 x11 x12 (ix2 (⟨r.val, h⟩ : Fin 4096) z)
        else val_main_v69 (F := Ideal) x4 x5 x6 x7 x8 x9 x10 x11 x12 (ix2 (⟨r.val - 4096, by omega⟩ : Fin 8192) z) := by
  unfold val_main_v70
  generalize val_main_v68 (F := Ideal) x0 x1 x2 x3 x8 x9 x10 x11 x12 = a
  generalize val_main_v69 (F := Ideal) x4 x5 x6 x7 x8 x9 x10 x11 x12 = b
  pointwise

theorem result : val_main_v70 (F := Ideal) x0 x1 x2 x3 x4 x5 x6 x7 x8 x9 x10 x11 x12
    = resid x11 x12 (mergedArray x0 x1 x2 x3 x4 x5 x6 x7 x8 x9) x10 := by
  funext i
  obtain ⟨r, z, rfl⟩ : ∃ (r : Fin 12288) (z : Fin 2048), i = ix2 r z := ⟨i 0, i 1, by blk_ext⟩
  rw [join_at]
  split
  · next h =>
    rw [val_main_v68_apply]
    have e : idx_main_v68 (ix2 (⟨r.val, h⟩ : Fin 4096) z) = ix3 (⟨r.val / 256, by omega⟩ : Fin 16) (⟨r.val % 256, by omega⟩ : Fin 256) z := by blk_ext
    rw [e, ctx_row]
    have ha := slot_ctx r 2 h
    refine resid_at _ _ _ _ _ _ _ _ _ _ ?_ ?_ (fun y => ?_) (fun y => rfl)
    · rw [ctx_x]
      blk_ext
    · rw [ctx_gate, gate_at]
      blk_ext [ha]
    · exact ctx_merged x0 x1 x2 x3 x4 x5 x6 x7 x8 x9 _ _ y r (by simp only; omega)
  · next h =>
    rw [val_main_v69_apply]
    have e : idx_main_v69 (ix2 (⟨r.val - 4096, by omega⟩ : Fin 8192) z)
        = ix3 (⟨(r.val - 4096) / 2048, by omega⟩ : Fin 4) (⟨(r.val - 4096) % 2048, by omega⟩ : Fin 2048) z := by blk_ext
    rw [e, lat_row]
    have ha := slot_lat r 2 h
    refine resid_at _ _ _ _ _ _ _ _ _ _ ?_ ?_ (fun y => ?_) (fun y => rfl)
    · rw [lat_x]
      blk_ext
    · rw [lat_gate, gate_at]
      blk_ext [ha]
    · exact lat_merged x0 x1 x2 x3 x4 x5 x6 x7 x8 x9 _ _ y r (by simp only; omega)

end Cert.RefMerge

end
-- ==== Proof.Experts.lean ====
/- The second modulated norm and the experts' queries: what the two calls leave in memory, index by index. -/
module

public import proofs.«01_k».proof.Proof.Gen.Kernel4Ideal.Frame
public import proofs.«01_k».proof.Proof.Norm
public import Idealize.ShloMosaic.Lib.StableHlo.RunRead

@[expose] public section

set_option maxRecDepth 16384

noncomputable section

namespace Cert.Experts

open Idealize.ShloMosaic Idealize.ShloMosaic.TcCoe Idealize.ShloMosaic.Pipeline Idealize.SL.Sem Cert.Kernel4Ideal Cert.Kernel4Ideal.Gen Cert.Layer Pointwise
open scoped BigOperators

/-! ## The two bodies at an index -/

theorem norm_at (v0 : Vec Ideal S1024x2048 .f32) (v1 : Vec Ideal S1x2048 .f32) (v15 v21 : Vec Ideal S1x1x2048 .f32) (r : Fin 1024) (z : Fin 2048) :
    k0_pay1 v0 v1 v15 v21 (ix2 r z)
      = modRow (fun y => v0 (ix2 r y)) (fun y => v1 (ix2 0 y)) (fun y => v21 (ix3 0 0 y)) (fun y => v15 (ix3 0 0 y)) z := by
  unfold modRow
  pointwise [k0_pay1]

theorem dot_at (v0 : Vec Ideal S1024x2048 .bf16) (v2 : Vec Ideal S2048x512 .bf16) (r : Fin 1024) (z : Fin 512) :
    k1_pay1 v0 v2 (ix2 r z) = ∑ y : Fin 2048, v0 (ix2 r y) * v2 (ix2 y z) := by
  pointwise [k1_pay1]

/-! ## The blocks -/

theorem index0 : ∀ t : Fin grid0.N,
    win0_0.index t = ![t.val, 0] ∧ win0_1.index t = ![0, 0]
    ∧ win0_2.index t = ![(if t.val < 4 then 0 else 1 + (t.val - 4) / 2) * 6 + 3, 0, 0]
    ∧ win0_3.index t = ![(if t.val < 4 then 0 else 1 + (t.val - 4) / 2) * 6 + 4, 0, 0]
    ∧ win0_4.index t = ![t.val, 0] := by decide +kernel

theorem index1 : ∀ t : Fin grid1.N,
    win1_0.index t = ![t.val / 4, 0] ∧ win1_1.index t = ![0, t.val % 4] ∧ win1_2.index t = ![t.val / 4, t.val % 4] := by decide +kernel

variable (V : (c : Dev nD) → (b : Ref sig .tc) → Buf (Elt Ideal) ((c : Thread nD τ).loc b))

theorem final1 (c : Dev nD) : (dat1 V c).arrAt 2 cfg1.N = product (s := .bf16) (t := .bf16) .f32 (V c main_v1) (V c main_v2) := by
  refine (dat1 V c).arrAt_eq_of_covers 2 _ (by decide +kernel) (fun t _ y => ?_)
  blk_simp
  rw [after1_2]
  frame_out
  obtain ⟨r, z, rfl⟩ : ∃ (r : Fin 1024) (z : Fin 512), y = ix2 r z := ⟨y 0, y 1, by blk_ext⟩
  have e := index1 t
  have ht : t.val < 48 := t.isLt
  have hi : ((View.whole main_v3).slice (win1_2.rect t)).emb (ix2 r z)
      = ix2 (⟨t.val / 4 * 1024 + r.val, by omega⟩ : Fin 12288) (⟨t.val % 4 * 512 + z.val, by omega⟩ : Fin 2048) := by
    blk_ext [e]
  rw [hi, dot_at]
  refine product_at _ _ _ _ _ _ _ (fun x => ?_) (fun x => ?_)
  · unfold iblk1
    blk_ext [e]
  · unfold iblk1
    blk_ext [e]

theorem final0 (c : Dev nD) (x : FVec Ideal S12288x2048 .f32) (g : FVec Ideal S2048 .f32) (mods : FVec Ideal S48x1x2048 .f32)
    (hx : V c main_arg0 = x) (hm : V c main_arg2 = mods) (hg : ∀ y : Fin 2048, V c main_v0 (ix2 0 y) = g (ix1 y)) :
    (dat0 V c).arrAt 4 cfg0.N = normArray x g mods 3 4 := by
  refine (dat0 V c).arrAt_eq_of_covers 4 _ (by decide +kernel) (fun t _ y => ?_)
  blk_simp
  rw [after0_4]
  frame_out
  obtain ⟨r, z, rfl⟩ : ∃ (r : Fin 1024) (z : Fin 2048), y = ix2 r z := ⟨y 0, y 1, by blk_ext⟩
  have e := index0 t
  have ht : t.val < 12 := t.isLt
  have hs := slot_tile t.val ht r
  have hi : ((View.whole main_v1).slice (win0_4.rect t)).emb (ix2 r z) = ix2 (⟨t.val * 1024 + r.val, by omega⟩ : Fin 12288) z := by
    blk_ext [e]
  rw [hi, norm_at]
  refine normArray_at _ _ _ _ _ _ _ _ _ _ _ (fun k => ?_) (fun k => ?_) (fun k => ?_) (fun k => ?_)
  · rw [← hx]
    unfold iblk0
    blk_ext [e]
  · refine Eq.trans ?_ (hg k)
    unfold iblk0
    blk_ext [e]
  · rw [← hm]
    unfold iblk0
    blk_ext [e, hs]
  · rw [← hm]
    unfold iblk0
    blk_ext [e, hs]

/-! ## The run -/

section
open Idealize.SL Idealize.SL.RA Idealize.SL.BI Idealize.SL.BI.BIBase Idealize.SL.BI.Laws Idealize.SL.ProofMode
open scoped Idealize.SL.BI
open Idealize.ShloMosaic.Rounds

set_option backward.isDefEq.respectTransparency.types false in
/-- Every run ends, and leaves the arrays as the last boundary has them. -/
theorem run (m : (ℓ : Loc nD τ sig) → Buf (Elt Ideal) ℓ) (ρ : Dev nD → PrngReg) :
    θ_run defs (onTc (τ := τ) (main (F := Ideal))) ⟨m, fun _ => 0, ρ⟩
      (fun r => ∀ c : Dev nD, ∀ b ∈ Pipeline.ucRefs τ sig, r.2.mem ((c : Thread nD τ).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W4 m ρ c b)
    (hfin := fun c s' => by
      iintro ⟨⟨Hh, -⟩, HSI⟩
      unfold StableHlo.held
      imodintro
      iapply (pointsTo_read_all (Pipeline.ucRefs τ sig) (fun b => ((c : Thread nD τ).1, b)) (W4 m ρ c) s')
      isplitl [Hh] <;> iassumption)
    (hQ := fun _ h _ => h)

end

/-! ## The result from the arguments -/

theorem result (m : (ℓ : Loc nD τ sig) → Buf (Elt Ideal) ℓ) (ρ : Dev nD → PrngReg) (c : Dev nD) :
    W4 m ρ c (Proc.devRef .tc main_v3)
      = product (s := .bf16) (t := .f32) .f32 (normArray (m ((c : Thread nD τ).loc main_arg0)) (m ((c : Thread nD τ).loc main_arg1)) (m ((c : Thread nD τ).loc main_arg2)) 3 4)
          (m ((c : Thread nD τ).loc main_arg3)) := by
  have hh : V3 m ρ c main_v1 = normArray (m ((c : Thread nD τ).loc main_arg0)) (m ((c : Thread nD τ).loc main_arg1)) (m ((c : Thread nD τ).loc main_arg2)) 3 4 :=
    (W3_of m ρ c main_v1 (by decide)).trans <| (W2_arr m ρ c 4).trans <|
      final0 (V1 m ρ) c _ _ _ (W1_args m ρ c main_arg0 (by decide)) (W1_args m ρ c main_arg2 (by decide)) fun y => by
        have e : V1 m ρ c main_v0 = shapeCast S1x2048 (m ((c : Thread nD τ).loc main_arg1)) shapeCasts_S2048_S1x2048 := by
          unfold V1 W1
          simp only [hostOps0]
          after_reads_simp <;> rfl
        rw [e]
        pointwise
  have hw : V3 m ρ c main_v2 = truncf (F := Ideal) .bf16 (m ((c : Thread nD τ).loc main_arg3)) bitsLt_bf16_f32 := by
    rw [← W2_args m ρ c main_arg3 (by decide)]
    unfold V3 W3
    simp only [hostOps1]
    after_reads_simp <;> rfl
  refine (W4_arr m ρ c 2).trans <| (final1 (V3 m ρ) c).trans ?_
  rw [hh, hw]
  rfl

end Cert.Experts

end
-- ==== Proof.RefNorm4.lean ====
/- The reference's second modulated norm, index by index. -/
module

public import proofs.«01_k».proof.Proof.Gen.Reference4Ideal.Read
public import proofs.«01_k».proof.Proof.Norm

@[expose] public section

set_option maxRecDepth 16384

noncomputable section

namespace Cert.RefNorm4

open Idealize.ShloMosaic Cert.Reference4Ideal Cert.Reference4Ideal.Gen Cert.Reference4Ideal.Read Cert.Layer Pointwise
open scoped BigOperators

variable (x0 : FVec Ideal S12288x2048 .f32) (x1 : FVec Ideal S2048 .f32) (x2 : FVec Ideal S48x1x2048 .f32)

/-! ## The rows of the conditions -/

theorem shift_at (i : Fin 8) (z : Fin 2048) : val_main_v2 (F := Ideal) x2 (ix2 i z) = x2 (ix3 (⟨i.val * 6 + 3, by omega⟩ : Fin 48) 0 z) := by
  rw [val_main_v2_apply, val_main_v1_apply, val_main_v0_apply]
  blk_ext

theorem scale_at (i : Fin 8) (z : Fin 2048) : val_main_v4 (F := Ideal) x2 (ix2 i z) = x2 (ix3 (⟨i.val * 6 + 4, by omega⟩ : Fin 48) 0 z) := by
  rw [val_main_v4_apply, val_main_v3_apply, val_main_v0_apply]
  blk_ext

/-! ## The context's tokens -/

theorem ctx_x (b : Fin 16) (l : Fin 256) (z : Fin 2048) :
    val_main_v6 (F := Ideal) x0 (ix3 b l z) = x0 (ix2 (⟨b.val * 256 + l.val, by omega⟩ : Fin 12288) z) := by
  rw [val_main_v6_apply, val_main_v5_apply]
  blk_ext

theorem ctx_scale (z : Fin 2048) : val_main_v21 (F := Ideal) x2 (ix1 z) = val_main_v4 (F := Ideal) x2 (ix2 0 z) := by
  rw [val_main_v21_apply, val_main_v20_apply]
  blk_ext

theorem ctx_shift (z : Fin 2048) : val_main_v28 (F := Ideal) x2 (ix1 z) = val_main_v2 (F := Ideal) x2 (ix2 0 z) := by
  rw [val_main_v28_apply, val_main_v27_apply]
  blk_ext

theorem ctx_row (b : Fin 16) (l : Fin 256) (z : Fin 2048) :
    val_main_v31 (F := Ideal) x0 x1 x2 (ix3 b l z)
      = modRow (fun y => val_main_v6 (F := Ideal) x0 (ix3 b l y)) (fun y => x1 (ix1 y)) (fun y => val_main_v28 (F := Ideal) x2 (ix1 y))
          (fun y => val_main_v21 (F := Ideal) x2 (ix1 y)) z := by
  unfold val_main_v31 val_main_v30 val_main_v29 val_main_v26 val_main_v25 val_main_v24 val_main_v23 val_main_v22 val_main_cst_2 val_main_v19 val_main_v18 val_main_v17 val_main_v16 val_main_v15 val_main_v14 val_main_v13 val_main_v12 val_main_cst_1 val_main_v11 val_main_v10 val_main_cst_0 val_main_v9 val_main_v8 val_main_cst val_main_v7 modRow
  generalize val_main_v6 (F := Ideal) x0 = a
  generalize val_main_v28 (F := Ideal) x2 = p
  generalize val_main_v21 (F := Ideal) x2 = q
  pointwise

/-! ## The latents' tokens -/

theorem lat_x (b : Fin 4) (l z : Fin 2048) :
    val_main_v33 (F := Ideal) x0 (ix3 b l z) = x0 (ix2 (⟨4096 + (b.val * 2048 + l.val), by omega⟩ : Fin 12288) z) := by
  rw [val_main_v33_apply, val_main_v32_apply]
  blk_ext

theorem lat_row (b : Fin 4) (l z : Fin 2048) :
    val_main_v56 (F := Ideal) x0 x1 x2 (ix3 b l z)
      = modRow (fun y => val_main_v33 (F := Ideal) x0 (ix3 b l y)) (fun y => x1 (ix1 y)) (fun y => val_main_v53 (F := Ideal) x2 (ix2 b y))
          (fun y => val_main_v47 (F := Ideal) x2 (ix2 b y)) z := by
  unfold val_main_v56 val_main_v55 val_main_v54 val_main_v52 val_main_v51 val_main_v50 val_main_v49 val_main_cst_6 val_main_v48 val_main_v46 val_main_v45 val_main_v44 val_main_v43 val_main_v42 val_main_v41 val_main_v40 val_main_v39 val_main_cst_5 val_main_v38 val_main_v37 val_main_cst_4 val_main_v36 val_main_v35 val_main_cst_3 val_main_v34 modRow
  generalize val_main_v33 (F := Ideal) x0 = a
  generalize val_main_v53 (F := Ideal) x2 = p
  generalize val_main_v47 (F := Ideal) x2 = q
  pointwise

theorem lat_scale (b : Fin 4) (z : Fin 2048) :
    val_main_v47 (F := Ideal) x2 (ix2 b z) = val_main_v4 (F := Ideal) x2 (ix2 (⟨1 + b.val, by omega⟩ : Fin 8) z) := by
  rw [val_main_v47_apply]
  blk_ext

theorem lat_shift (b : Fin 4) (z : Fin 2048) :
    val_main_v53 (F := Ideal) x2 (ix2 b z) = val_main_v2 (F := Ideal) x2 (ix2 (⟨1 + b.val, by omega⟩ : Fin 8) z) := by
  rw [val_main_v53_apply]
  blk_ext

/-! ## All tokens -/

theorem join_at (r : Fin 12288) (z : Fin 2048) :
    val_main_v59 (F := Ideal) x0 x1 x2 (ix2 r z)
      = if h : r.val < 4096 then val_main_v57 (F := Ideal) x0 x1 x2 (ix2 (⟨r.val, h⟩ : Fin 4096) z)
        else val_main_v58 (F := Ideal) x0 x1 x2 (ix2 (⟨r.val - 4096, by omega⟩ : Fin 8192) z) := by
  unfold val_main_v59
  generalize val_main_v57 (F := Ideal) x0 x1 x2 = a
  generalize val_main_v58 (F := Ideal) x0 x1 x2 = b
  pointwise

theorem norm_eq : val_main_v59 (F := Ideal) x0 x1 x2 = normArray x0 x1 x2 3 4 := by
  funext i
  obtain ⟨r, z, rfl⟩ : ∃ (r : Fin 12288) (z : Fin 2048), i = ix2 r z := ⟨i 0, i 1, by blk_ext⟩
  rw [join_at]
  split
  · next h =>
    rw [val_main_v57_apply]
    have e : idx_main_v57 (ix2 (⟨r.val, h⟩ : Fin 4096) z) = ix3 (⟨r.val / 256, by omega⟩ : Fin 16) (⟨r.val % 256, by omega⟩ : Fin 256) z := by blk_ext
    rw [e, ctx_row]
    have ha := slot_ctx r 3 h
    have hb := slot_ctx r 4 h
    refine normArray_at _ _ _ _ _ _ _ _ _ _ _ (fun y => ?_) (fun y => rfl) (fun y => ?_) (fun y => ?_)
    · rw [ctx_x]
      blk_ext
    · rw [ctx_shift, shift_at]
      blk_ext [ha]
    · rw [ctx_scale, scale_at]
      blk_ext [hb]
  · next h =>
    rw [val_main_v58_apply]
    have e : idx_main_v58 (ix2 (⟨r.val - 4096, by omega⟩ : Fin 8192) z)
        = ix3 (⟨(r.val - 4096) / 2048, by omega⟩ : Fin 4) (⟨(r.val - 4096) % 2048, by omega⟩ : Fin 2048) z := by blk_ext
    rw [e, lat_row]
    have ha := slot_lat r 3 h
    have hb := slot_lat r 4 h
    refine normArray_at _ _ _ _ _ _ _ _ _ _ _ (fun y => ?_) (fun y => rfl) (fun y => ?_) (fun y => ?_)
    · rw [lat_x]
      blk_ext
    · rw [lat_shift, shift_at]
      blk_ext [ha]
    · rw [lat_scale, scale_at]
      blk_ext [hb]

theorem result (x3 : FVec Ideal S2048x2048 .f32) :
    val_main_v60 (F := Ideal) x0 x1 x2 x3 = product (s := .bf16) (t := .f32) .f32 (normArray x0 x1 x2 3 4) x3 := by
  funext i
  obtain ⟨r, z, rfl⟩ : ∃ (r : Fin 12288) (z : Fin 2048), i = ix2 r z := ⟨i 0, i 1, by blk_ext⟩
  rw [val_main_v60_apply]
  refine product_at _ _ _ _ _ _ _ (fun y => ?_) (fun y => ?_)
  · rw [norm_eq]
    blk_ext
  · blk_ext

end Cert.RefNorm4

end
-- ==== Proof.LowRankArray.lean ====
/- A row divided by the root of its mean square, over part of an array, and the product of an array with chosen columns of another. -/
module

public import Idealize.ShloMosaic.Lib.Pipeline.ValueKit

@[expose] public section

set_option maxRecDepth 16384

noncomputable section

namespace Cert.Layer

open Idealize.ShloMosaic Pointwise
open scoped BigOperators

/-- Lane `z` of a row `x` of `d` lanes divided by the root of its mean square, times `g`. -/
def rmsRow {K : ℕ} (d : EReal) (x g : Fin K → EReal) (z : Fin K) : EReal :=
  x z * Ideal.rsqrt (Ideal.div (∑ y : Fin K, x y * x y) d + Ideal.ofBits .f32 0x358637BD#32) * g z

/-- The norm of lanes `b` to `b + K` of the rows `a` to `a + R`. -/
def rmsArray (v : FTy) {R K A B : ℕ} (d : EReal) (a b : ℕ) (ha : a + R ≤ A) (hb : b + K ≤ B) (x : FVec Ideal ⟨2, ![A, B]⟩ .f32)
    (g : FVec Ideal ⟨1, ![K]⟩ .f32) : FVec Ideal ⟨2, ![R, K]⟩ v := fun i =>
  rmsRow d (fun y => x (ix2 (⟨a + (i 0 : Fin R).val, (Nat.add_lt_add_left (i 0 : Fin R).isLt a).trans_le ha⟩ : Fin A)
    (⟨b + y.val, (Nat.add_lt_add_left y.isLt b).trans_le hb⟩ : Fin B))) (fun y => g (ix1 y)) (i 1 : Fin K)

/-- A lane of the norm, from what a tile's row holds of the two arrays. -/
theorem rmsArray_at (v : FTy) {R K A B : ℕ} (d : EReal) (a b : ℕ) (ha : a + R ≤ A) (hb : b + K ≤ B) (x : FVec Ideal ⟨2, ![A, B]⟩ .f32)
    (g : FVec Ideal ⟨1, ![K]⟩ .f32) (r : Fin R) (z : Fin K) (p q : Fin K → EReal)
    (hp : ∀ y : Fin K, p y = x (ix2 (⟨a + r.val, (Nat.add_lt_add_left r.isLt a).trans_le ha⟩ : Fin A)
      (⟨b + y.val, (Nat.add_lt_add_left y.isLt b).trans_le hb⟩ : Fin B)))
    (hq : ∀ y, q y = g (ix1 y)) :
    rmsRow d p q z = rmsArray v d a b ha hb x g (ix2 r z) := by
  rw [funext hp, funext hq]
  rfl

/-- The product of `h` with the columns `f` of `w`. -/
def columns {s t : FTy} (v : FTy) {R K N M : ℕ} (f : Fin N → Fin M) (h : FVec Ideal ⟨2, ![R, K]⟩ s) (w : FVec Ideal ⟨2, ![K, M]⟩ t) :
    FVec Ideal ⟨2, ![R, N]⟩ v :=
  fun i => ∑ y : Fin K, h (ix2 (i 0 : Fin R) y) * w (ix2 y (f (i 1 : Fin N)))

/-- An element of the product, from what a tile's row and column hold of the two arrays. -/
theorem columns_at {s t : FTy} (v : FTy) {R K N M : ℕ} (f : Fin N → Fin M) (h : FVec Ideal ⟨2, ![R, K]⟩ s) (w : FVec Ideal ⟨2, ![K, M]⟩ t)
    (r : Fin R) (z : Fin N) (p q : Fin K → EReal) (hp : ∀ y, p y = h (ix2 r y)) (hq : ∀ y, q y = w (ix2 y (f z))) :
    ∑ y : Fin K, p y * q y = columns v f h w (ix2 r z) :=
  Finset.sum_congr rfl fun y _ => congrArg₂ (· * ·) (hp y) (hq y)

/-- Of each head's 192 columns the first 128. -/
def nope (z : Fin 1024) : Fin 1536 := ⟨z.val / 128 * 192 + z.val % 128, by omega⟩

/-- Of each head's 192 columns the last 64. -/
def rope (z : Fin 512) : Fin 1536 := ⟨z.val / 64 * 192 + (128 + z.val % 64), by omega⟩

/-- The cached rows of the four samples one after the other. -/
def cached (x : FVec Ideal ⟨3, ![4, 512, 256]⟩ .f32) : FVec Ideal ⟨2, ![2048, 256]⟩ .bf16 := fun i =>
  x (ix3 (⟨(i 0 : Fin 2048).val / 512, Nat.div_lt_of_lt_mul (i 0 : Fin 2048).isLt⟩ : Fin 4)
    (⟨(i 0 : Fin 2048).val % 512, Nat.mod_lt _ (by decide)⟩ : Fin 512) (i 1 : Fin 256))

end Cert.Layer

end
-- ==== Proof.LowRank.lean ====
/- The norms and the low-rank products of the latent attention: what the six calls leave in memory, index by index. -/
module

public import proofs.«01_k».proof.Proof.Gen.Kernel5Ideal.Frame
public import proofs.«01_k».proof.Proof.LowRankArray
public import Idealize.ShloMosaic.Lib.StableHlo.RunRead

@[expose] public section

set_option maxRecDepth 16384

noncomputable section

namespace Cert.LowRank

open Idealize.ShloMosaic Idealize.ShloMosaic.TcCoe Idealize.ShloMosaic.Pipeline Idealize.SL.Sem Cert.Kernel5Ideal Cert.Kernel5Ideal.Gen Cert.Layer Pointwise
open scoped BigOperators

/-! ## The bodies at an index -/

theorem norm_at0 (v0 : Vec Ideal S1024x512 .f32) (v2 : Vec Ideal S1x512 .f32) (r : Fin 1024) (z : Fin 512) :
    k0_pay1 v0 v2 (ix2 r z) = rmsRow (Ideal.ofBits .f32 0x44000000#32) (fun y => v0 (ix2 r y)) (fun y => v2 (ix2 0 y)) z := by
  unfold rmsRow
  pointwise [k0_pay1]

theorem norm_at1 (v0 : Vec Ideal S1024x256 .f32) (v2 : Vec Ideal S1x256 .f32) (r : Fin 1024) (z : Fin 256) :
    k1_pay1 v0 v2 (ix2 r z) = rmsRow (Ideal.ofBits .f32 0x43800000#32) (fun y => v0 (ix2 r y)) (fun y => v2 (ix2 0 y)) z := by
  unfold rmsRow
  pointwise [k1_pay1]

theorem dot_at2 (v0 : Vec Ideal S1024x512 .bf16) (v2 : Vec Ideal S512x512 .bf16) (r : Fin 1024) (z : Fin 512) :
    k2_pay1 v0 v2 (ix2 r z) = ∑ y : Fin 512, v0 (ix2 r y) * v2 (ix2 y z) := by
  pointwise [k2_pay1]

theorem dot_at3 (v0 : Vec Ideal S1024x512 .bf16) (v2 : Vec Ideal S512x512 .bf16) (r : Fin 1024) (z : Fin 512) :
    k3_pay1 v0 v2 (ix2 r z) = ∑ y : Fin 512, v0 (ix2 r y) * v2 (ix2 y z) := by
  pointwise [k3_pay1]

theorem dot_at4 (v0 : Vec Ideal S1024x256 .bf16) (v2 : Vec Ideal S256x512 .bf16) (r : Fin 1024) (z : Fin 512) :
    k4_pay1 v0 v2 (ix2 r z) = ∑ y : Fin 256, v0 (ix2 r y) * v2 (ix2 y z) := by
  pointwise [k4_pay1]

theorem dot_at5 (v0 : Vec Ideal S1024x256 .bf16) (v2 : Vec Ideal S256x512 .bf16) (r : Fin 1024) (z : Fin 512) :
    k5_pay1 v0 v2 (ix2 r z) = ∑ y : Fin 256, v0 (ix2 r y) * v2 (ix2 y z) := by
  pointwise [k5_pay1]

/-! ## The blocks -/

theorem index0 : ∀ t : Fin grid0.N, win0_0.index t = ![t.val, 0] ∧ win0_1.index t = ![0, 0] ∧ win0_2.index t = ![t.val, 0] := by decide +kernel

theorem index1 : ∀ t : Fin grid1.N, win1_0.index t = ![t.val, 0] ∧ win1_1.index t = ![0, 0] ∧ win1_2.index t = ![t.val, 0] := by decide +kernel

theorem index2 : ∀ t : Fin grid2.N, win2_0.index t = ![t.val / 2, 0] ∧ win2_1.index t = ![0, t.val % 2] ∧ win2_2.index t = ![t.val / 2, t.val % 2] := by decide +kernel

theorem index3 : ∀ t : Fin grid3.N, win3_0.index t = ![t.val, 0] ∧ win3_1.index t = ![0, 0] ∧ win3_2.index t = ![t.val, 0] := by decide +kernel

theorem index4 : ∀ t : Fin grid4.N, win4_0.index t = ![t.val / 4, 0] ∧ win4_1.index t = ![0, t.val % 4] ∧ win4_2.index t = ![t.val / 4, t.val % 4] := by decide +kernel

theorem index5 : ∀ t : Fin grid5.N, win5_0.index t = ![t.val / 4, 0] ∧ win5_1.index t = ![0, t.val % 4] ∧ win5_2.index t = ![t.val / 4, t.val % 4] := by decide +kernel

variable (V : (c : Dev nD) → (b : Ref sig .tc) → Buf (Elt Ideal) ((c : Thread nD τ).loc b))

theorem final0 (c : Dev nD) (x : FVec Ideal S12288x832 .f32) (g : FVec Ideal S512 .f32)
    (hx : ∀ (r : Fin 12288) (y : Fin 512), V c main_v0 (ix2 r y) = x (ix2 r (⟨0 + y.val, by omega⟩ : Fin 832)))
    (hg : ∀ y : Fin 512, V c main_v2 (ix2 0 y) = g (ix1 y)) :
    (dat0 V c).arrAt 2 cfg0.N = rmsArray (R := 12288) .bf16 (Ideal.ofBits .f32 0x44000000#32) 0 0 (by omega) (by omega) x g := by
  refine (dat0 V c).arrAt_eq_of_covers 2 _ (by decide +kernel) (fun t _ y => ?_)
  blk_simp
  rw [after0_2]
  frame_out
  obtain ⟨r, z, rfl⟩ : ∃ (r : Fin 1024) (z : Fin 512), y = ix2 r z := ⟨y 0, y 1, by blk_ext⟩
  have e := index0 t
  have ht : t.val < 12 := t.isLt
  have hi : ((View.whole main_v3).slice (win0_2.rect t)).emb (ix2 r z) = ix2 (⟨t.val * 1024 + r.val, by omega⟩ : Fin 12288) z := by
    blk_ext [e]
  rw [hi, norm_at0]
  refine rmsArray_at _ _ _ _ _ _ _ _ _ _ _ _ (fun y => ?_) (fun y => ?_)
  · refine Eq.trans ?_ ((hx (⟨t.val * 1024 + r.val, by omega⟩ : Fin 12288) y).trans ?_)
    rotate_left
    · blk_ext
    unfold iblk0
    blk_ext [e]
  · refine Eq.trans ?_ (hg y)
    unfold iblk0
    blk_ext [e]

theorem final1 (c : Dev nD) (x : FVec Ideal S12288x832 .f32) (g : FVec Ideal S256 .f32)
    (hx : ∀ (r : Fin 12288) (y : Fin 256), V c main_v1 (ix2 r y) = x (ix2 r (⟨512 + y.val, by omega⟩ : Fin 832)))
    (hg : ∀ y : Fin 256, V c main_v4 (ix2 0 y) = g (ix1 y)) :
    (dat1 V c).arrAt 2 cfg1.N = rmsArray (R := 12288) .f32 (Ideal.ofBits .f32 0x43800000#32) 0 512 (by omega) (by omega) x g := by
  refine (dat1 V c).arrAt_eq_of_covers 2 _ (by decide +kernel) (fun t _ y => ?_)
  blk_simp
  rw [after1_2]
  frame_out
  obtain ⟨r, z, rfl⟩ : ∃ (r : Fin 1024) (z : Fin 256), y = ix2 r z := ⟨y 0, y 1, by blk_ext⟩
  have e := index1 t
  have ht : t.val < 12 := t.isLt
  have hi : ((View.whole main_v5).slice (win1_2.rect t)).emb (ix2 r z) = ix2 (⟨t.val * 1024 + r.val, by omega⟩ : Fin 12288) z := by
    blk_ext [e]
  rw [hi, norm_at1]
  refine rmsArray_at _ _ _ _ _ _ _ _ _ _ _ _ (fun y => ?_) (fun y => ?_)
  · refine Eq.trans ?_ ((hx (⟨t.val * 1024 + r.val, by omega⟩ : Fin 12288) y).trans ?_)
    rotate_left
    · blk_ext
    unfold iblk1
    blk_ext [e]
  · refine Eq.trans ?_ (hg y)
    unfold iblk1
    blk_ext [e]

theorem final2 (c : Dev nD) (f : Fin 1024 → Fin 1536) (h : FVec Ideal S12288x512 .bf16) (w : FVec Ideal S512x1536 .f32) (hh : V c main_v3 = h)
    (hw : ∀ (y : Fin 512) (z : Fin 1024), V c main_v9 (ix2 y z) = w (ix2 y (f z))) :
    (dat2 V c).arrAt 2 cfg2.N = columns .bf16 f h w := by
  refine (dat2 V c).arrAt_eq_of_covers 2 _ (by decide +kernel) (fun t _ y => ?_)
  blk_simp
  rw [after2_2]
  frame_out
  obtain ⟨r, z, rfl⟩ : ∃ (r : Fin 1024) (z : Fin 512), y = ix2 r z := ⟨y 0, y 1, by blk_ext⟩
  have e := index2 t
  have ht : t.val < 24 := t.isLt
  have hi : ((View.whole main_v10).slice (win2_2.rect t)).emb (ix2 r z) = ix2 (⟨t.val / 2 * 1024 + r.val, by omega⟩ : Fin 12288) (⟨t.val % 2 * 512 + z.val, by omega⟩ : Fin 1024) := by
    blk_ext [e]
  rw [hi, dot_at2]
  refine columns_at _ _ _ _ _ _ _ _ (fun y => ?_) (fun y => ?_)
  · rw [← hh]
    unfold iblk2
    blk_ext [e]
  · refine Eq.trans ?_ (hw y _)
    unfold iblk2
    blk_ext [e]

theorem final3 (c : Dev nD) (f : Fin 512 → Fin 1536) (h : FVec Ideal S12288x512 .bf16) (w : FVec Ideal S512x1536 .f32) (hh : V c main_v3 = h)
    (hw : ∀ (y : Fin 512) (z : Fin 512), V c main_v13 (ix2 y z) = w (ix2 y (f z))) :
    (dat3 V c).arrAt 2 cfg3.N = columns .f32 f h w := by
  refine (dat3 V c).arrAt_eq_of_covers 2 _ (by decide +kernel) (fun t _ y => ?_)
  blk_simp
  rw [after3_2]
  frame_out
  obtain ⟨r, z, rfl⟩ : ∃ (r : Fin 1024) (z : Fin 512), y = ix2 r z := ⟨y 0, y 1, by blk_ext⟩
  have e := index3 t
  have ht : t.val < 12 := t.isLt
  have hi : ((View.whole main_v14).slice (win3_2.rect t)).emb (ix2 r z) = ix2 (⟨t.val * 1024 + r.val, by omega⟩ : Fin 12288) z := by
    blk_ext [e]
  rw [hi, dot_at3]
  refine columns_at _ _ _ _ _ _ _ _ (fun y => ?_) (fun y => ?_)
  · rw [← hh]
    unfold iblk3
    blk_ext [e]
  · refine Eq.trans ?_ (hw y _)
    unfold iblk3
    blk_ext [e]

theorem final4 (c : Dev nD) (f : Fin 2048 → Fin 2048) (h : FVec Ideal S12288x256 .bf16) (w : FVec Ideal S256x2048 .f32) (hh : V c main_v16 = h)
    (hw : ∀ (y : Fin 256) (z : Fin 2048), V c main_v15 (ix2 y z) = w (ix2 y (f z))) :
    (dat4 V c).arrAt 2 cfg4.N = columns .bf16 f h w := by
  refine (dat4 V c).arrAt_eq_of_covers 2 _ (by decide +kernel) (fun t _ y => ?_)
  blk_simp
  rw [after4_2]
  frame_out
  obtain ⟨r, z, rfl⟩ : ∃ (r : Fin 1024) (z : Fin 512), y = ix2 r z := ⟨y 0, y 1, by blk_ext⟩
  have e := index4 t
  have ht : t.val < 48 := t.isLt
  have hi : ((View.whole main_v17).slice (win4_2.rect t)).emb (ix2 r z) = ix2 (⟨t.val / 4 * 1024 + r.val, by omega⟩ : Fin 12288) (⟨t.val % 4 * 512 + z.val, by omega⟩ : Fin 2048) := by
    blk_ext [e]
  rw [hi, dot_at4]
  refine columns_at _ _ _ _ _ _ _ _ (fun y => ?_) (fun y => ?_)
  · rw [← hh]
    unfold iblk4
    blk_ext [e]
  · refine Eq.trans ?_ (hw y _)
    unfold iblk4
    blk_ext [e]

theorem final5 (c : Dev nD) (f : Fin 2048 → Fin 2048) (h : FVec Ideal S2048x256 .bf16) (w : FVec Ideal S256x2048 .f32) (hh : V c main_v19 = h)
    (hw : ∀ (y : Fin 256) (z : Fin 2048), V c main_v15 (ix2 y z) = w (ix2 y (f z))) :
    (dat5 V c).arrAt 2 cfg5.N = columns .bf16 f h w := by
  refine (dat5 V c).arrAt_eq_of_covers 2 _ (by decide +kernel) (fun t _ y => ?_)
  blk_simp
  rw [after5_2]
  frame_out
  obtain ⟨r, z, rfl⟩ : ∃ (r : Fin 1024) (z : Fin 512), y = ix2 r z := ⟨y 0, y 1, by blk_ext⟩
  have e := index5 t
  have ht : t.val < 8 := t.isLt
  have hi : ((View.whole main_v20).slice (win5_2.rect t)).emb (ix2 r z) = ix2 (⟨t.val / 4 * 1024 + r.val, by omega⟩ : Fin 2048) (⟨t.val % 4 * 512 + z.val, by omega⟩ : Fin 2048) := by
    blk_ext [e]
  rw [hi, dot_at5]
  refine columns_at _ _ _ _ _ _ _ _ (fun y => ?_) (fun y => ?_)
  · rw [← hh]
    unfold iblk5
    blk_ext [e]
  · refine Eq.trans ?_ (hw y _)
    unfold iblk5
    blk_ext [e]

/-! ## The run -/

section
open Idealize.SL Idealize.SL.RA Idealize.SL.BI Idealize.SL.BI.BIBase Idealize.SL.BI.Laws Idealize.SL.ProofMode
open scoped Idealize.SL.BI
open Idealize.ShloMosaic.Rounds

set_option backward.isDefEq.respectTransparency.types false in
/-- Every run ends, and leaves the arrays as the last boundary has them. -/
theorem run (m : (ℓ : Loc nD τ sig) → Buf (Elt Ideal) ℓ) (ρ : Dev nD → PrngReg) :
    θ_run defs (onTc (τ := τ) (main (F := Ideal))) ⟨m, fun _ => 0, ρ⟩
      (fun r => ∀ c : Dev nD, ∀ b ∈ Pipeline.ucRefs τ sig, r.2.mem ((c : Thread nD τ).1, b) = W12 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W12 m ρ c b)
    (hfin := fun c s' => by
      iintro ⟨⟨Hh, -⟩, HSI⟩
      unfold StableHlo.held
      imodintro
      iapply (pointsTo_read_all (Pipeline.ucRefs τ sig) (fun b => ((c : Thread nD τ).1, b)) (W12 m ρ c) s')
      isplitl [Hh] <;> iassumption)
    (hQ := fun _ h _ => h)

end

/-! ## The results from the arguments -/

variable (m : (ℓ : Loc nD τ sig) → Buf (Elt Ideal) ℓ) (ρ : Dev nD → PrngReg) (c : Dev nD)

/-- The norm of the latent's query lanes. -/
def queryOf : FVec Ideal S12288x512 .bf16 := rmsArray .bf16 (Ideal.ofBits .f32 0x44000000#32) 0 0 (by omega) (by omega) (m ((c : Thread nD τ).loc main_arg0)) (m ((c : Thread nD τ).loc main_arg1))

/-- The norm of the latent's key and value lanes. -/
def latentOf : FVec Ideal S12288x256 .f32 := rmsArray .f32 (Ideal.ofBits .f32 0x43800000#32) 0 512 (by omega) (by omega) (m ((c : Thread nD τ).loc main_arg0)) (m ((c : Thread nD τ).loc main_arg3))

theorem query_x (r : Fin 12288) (y : Fin 512) : V1 m ρ c main_v0 (ix2 r y) = (m ((c : Thread nD τ).loc main_arg0)) (ix2 r (⟨0 + y.val, by omega⟩ : Fin 832)) := by
  have e : V1 m ρ c main_v0 = extractStridedSlice S12288x512 ![0, 0] (m ((c : Thread nD τ).loc main_arg0)) slices_S12288x832_S12288x512_0_0 := by
    unfold V1 W1
    simp only [hostOps0]
    after_reads_simp <;> rfl
  rw [e]
  pointwise

theorem query_g (y : Fin 512) : V1 m ρ c main_v2 (ix2 0 y) = (m ((c : Thread nD τ).loc main_arg1)) (ix1 y) := by
  have e : V1 m ρ c main_v2 = shapeCast S1x512 (m ((c : Thread nD τ).loc main_arg1)) shapeCasts_S512_S1x512 := by
    unfold V1 W1
    simp only [hostOps0]
    after_reads_simp <;> rfl
  rw [e]
  pointwise

theorem query_eq : V3 m ρ c main_v3 = queryOf m c :=
  (W3_of m ρ c main_v3 (by decide)).trans <| (W2_arr m ρ c 2).trans <| final0 (V1 m ρ) c _ _ (query_x m ρ c) (query_g m ρ c)

theorem latent_x (r : Fin 12288) (y : Fin 256) : V3 m ρ c main_v1 (ix2 r y) = (m ((c : Thread nD τ).loc main_arg0)) (ix2 r (⟨512 + y.val, by omega⟩ : Fin 832)) := by
  have e : V1 m ρ c main_v1 = extractStridedSlice S12288x256 ![0, 512] (m ((c : Thread nD τ).loc main_arg0)) slices_S12288x832_S12288x256_0_512 := by
    unfold V1 W1
    simp only [hostOps0]
    after_reads_simp <;> rfl
  have e' : V3 m ρ c main_v1 = V1 m ρ c main_v1 := (W3_of m ρ c main_v1 (by decide)).trans (W2_of m ρ c main_v1 (by decide +kernel))
  rw [e', e]
  pointwise

theorem latent_g (y : Fin 256) : V3 m ρ c main_v4 (ix2 0 y) = (m ((c : Thread nD τ).loc main_arg3)) (ix1 y) := by
  have e : V3 m ρ c main_v4 = shapeCast S1x256 (m ((c : Thread nD τ).loc main_arg3)) shapeCasts_S256_S1x256 := by
    rw [← W2_args m ρ c main_arg3 (by decide)]
    unfold V3 W3
    simp only [hostOps1]
    after_reads_simp <;> rfl
  rw [e]
  pointwise

theorem latent_eq : W4 m ρ c (Proc.devRef .tc main_v5) = latentOf m c :=
  (W4_arr m ρ c 2).trans <| final1 (V3 m ρ) c _ _ (latent_x m ρ c) (latent_g m ρ c)

theorem weight2 (y : Fin 512) (z : Fin 1024) : V5 m ρ c main_v9 (ix2 y z) = (m ((c : Thread nD τ).loc main_arg2)) (ix2 y (nope z)) := by
  have e : V5 m ρ c main_v9 = truncf (F := Ideal) .bf16 (shapeCast S512x1024 (extractStridedSlice S512x8x128 ![0, 0, 0]
      (shapeCast S512x8x192 (m ((c : Thread nD τ).loc main_arg2)) shapeCasts_S512x1536_S512x8x192) slices_S512x8x192_S512x8x128_0_0_0) shapeCasts_S512x8x128_S512x1024) bitsLt_bf16_f32 := by
    rw [← W4_args m ρ c main_arg2 (by decide)]
    unfold V5 W5
    simp only [hostOps2]
    after_reads_simp <;> rfl
  rw [e]
  unfold nope
  pointwise

theorem weight3 (y : Fin 512) (z : Fin 512) : V7 m ρ c main_v13 (ix2 y z) = (m ((c : Thread nD τ).loc main_arg2)) (ix2 y (rope z)) := by
  have e6 : W6 m ρ c (Proc.devRef .tc main_v6) = shapeCast S512x8x192 (m ((c : Thread nD τ).loc main_arg2)) shapeCasts_S512x1536_S512x8x192 := by
    refine (W6_of m ρ c main_v6 (by decide +kernel)).trans ?_
    rw [← W4_args m ρ c main_arg2 (by decide)]
    unfold W5
    simp only [hostOps2]
    after_reads_simp <;> rfl
  have e : V7 m ρ c main_v13 = truncf (F := Ideal) .bf16 (shapeCast S512x512 (extractStridedSlice S512x8x64 ![0, 0, 128]
      (shapeCast S512x8x192 (m ((c : Thread nD τ).loc main_arg2)) shapeCasts_S512x1536_S512x8x192) slices_S512x8x192_S512x8x64_0_0_128) shapeCasts_S512x8x64_S512x512) bitsLt_bf16_f32 := by
    rw [← e6]
    unfold V7 W7
    simp only [hostOps3]
    after_reads_simp <;> rfl
  rw [e]
  unfold rope
  pointwise

theorem weight4 : V9 m ρ c main_v15 = truncf (F := Ideal) .bf16 (m ((c : Thread nD τ).loc main_arg4)) bitsLt_bf16_f32 := by
  rw [← W8_args m ρ c main_arg4 (by decide)]
  unfold V9 W9
  simp only [hostOps4]
  after_reads_simp <;> rfl

theorem latent_in : V9 m ρ c main_v16 = truncf (F := Ideal) .bf16 (latentOf m c) bitsLt_bf16_f32 := by
  have e : W8 m ρ c (Proc.devRef .tc main_v5) = latentOf m c :=
    (W8_of m ρ c main_v5 (by decide +kernel)).trans <| (W7_of m ρ c main_v5 (by decide)).trans <| (W6_of m ρ c main_v5 (by decide +kernel)).trans <|
      (W5_of m ρ c main_v5 (by decide)).trans (latent_eq m ρ c)
  rw [← e]
  unfold V9 W9
  simp only [hostOps4]
  after_reads_simp <;> rfl

theorem weight5 : V11 m ρ c main_v15 = truncf (F := Ideal) .bf16 (m ((c : Thread nD τ).loc main_arg4)) bitsLt_bf16_f32 :=
  (W11_of m ρ c main_v15 (by decide)).trans <| (W10_of m ρ c main_v15 (by decide +kernel)).trans (weight4 m ρ c)

theorem flat_at (x : FVec Ideal S4x512x256 .f32) (r : Fin 2048) (z : Fin 256) :
    shapeCast S2048x256 x shapeCasts_S4x512x256_S2048x256 (ix2 r z) = x (ix3 (⟨r.val / 512, by omega⟩ : Fin 4) (⟨r.val % 512, by omega⟩ : Fin 512) z) :=
  shapeCast_apply x shapeCasts_S4x512x256_S2048x256 (ix2 r z) (ix3 (⟨r.val / 512, by omega⟩ : Fin 4) (⟨r.val % 512, by omega⟩ : Fin 512) z)
    (by
      rewrite [Shape.rowMajor_val_three, Shape.rowMajor_val_two]
      show (r.val / 512 * 512 + r.val % 512) * 256 + z.val = r.val * 256 + z.val
      omega)

theorem cached_at (r : Fin 2048) (z : Fin 256) :
    V11 m ρ c main_v19 (ix2 r z) = (m ((c : Thread nD τ).loc main_arg5)) (ix3 (⟨r.val / 512, by omega⟩ : Fin 4) (⟨r.val % 512, by omega⟩ : Fin 512) z) := by
  have e : V11 m ρ c main_v19 = truncf (F := Ideal) .bf16 (shapeCast S2048x256 (m ((c : Thread nD τ).loc main_arg5)) shapeCasts_S4x512x256_S2048x256) bitsLt_bf16_f32 := by
    rw [← W10_args m ρ c main_arg5 (by decide)]
    unfold V11 W11
    simp only [hostOps5]
    after_reads_simp <;> rfl
  rw [e]
  exact flat_at _ r z

theorem cached_eq : V11 m ρ c main_v19 = cached (m ((c : Thread nD τ).loc main_arg5)) := by
  funext i
  obtain ⟨r, z, rfl⟩ : ∃ (r : Fin 2048) (z : Fin 256), i = ix2 r z := ⟨i 0, i 1, by blk_ext⟩
  exact cached_at m ρ c r z

theorem result1 : W12 m ρ c (Proc.devRef .tc main_v5) = latentOf m c :=
  (W12_of m ρ c main_v5 (by decide +kernel)).trans <|
    (W11_of m ρ c main_v5 (by decide)).trans <|
    (W10_of m ρ c main_v5 (by decide +kernel)).trans <|
    (W9_of m ρ c main_v5 (by decide)).trans <|
    (W8_of m ρ c main_v5 (by decide +kernel)).trans <|
    (W7_of m ρ c main_v5 (by decide)).trans <|
    (W6_of m ρ c main_v5 (by decide +kernel)).trans <|
    (W5_of m ρ c main_v5 (by decide)).trans <|
    latent_eq m ρ c

theorem result2 : W12 m ρ c (Proc.devRef .tc main_v10) = columns (t := .f32) .bf16 nope (queryOf m c) (m ((c : Thread nD τ).loc main_arg2)) :=
  (W12_of m ρ c main_v10 (by decide +kernel)).trans <|
    (W11_of m ρ c main_v10 (by decide)).trans <|
    (W10_of m ρ c main_v10 (by decide +kernel)).trans <|
    (W9_of m ρ c main_v10 (by decide)).trans <|
    (W8_of m ρ c main_v10 (by decide +kernel)).trans <|
    (W7_of m ρ c main_v10 (by decide)).trans <|
    (W6_arr m ρ c 2).trans <| final2 (V5 m ρ) c _ _ _
      ((W5_of m ρ c main_v3 (by decide)).trans <| (W4_of m ρ c main_v3 (by decide +kernel)).trans (query_eq m ρ c)) (weight2 m ρ c)

theorem result3 : W12 m ρ c (Proc.devRef .tc main_v14) = columns (t := .f32) .f32 rope (queryOf m c) (m ((c : Thread nD τ).loc main_arg2)) :=
  (W12_of m ρ c main_v14 (by decide +kernel)).trans <|
    (W11_of m ρ c main_v14 (by decide)).trans <|
    (W10_of m ρ c main_v14 (by decide +kernel)).trans <|
    (W9_of m ρ c main_v14 (by decide)).trans <|
    (W8_arr m ρ c 2).trans <| final3 (V7 m ρ) c _ _ _
      ((W7_of m ρ c main_v3 (by decide)).trans <| (W6_of m ρ c main_v3 (by decide +kernel)).trans <|
        (W5_of m ρ c main_v3 (by decide)).trans <| (W4_of m ρ c main_v3 (by decide +kernel)).trans (query_eq m ρ c)) (weight3 m ρ c)

theorem result4 : W12 m ρ c (Proc.devRef .tc main_v17) = columns (s := .bf16) (t := .f32) .bf16 id (latentOf m c) (m ((c : Thread nD τ).loc main_arg4)) :=
  (W12_of m ρ c main_v17 (by decide +kernel)).trans <|
    (W11_of m ρ c main_v17 (by decide)).trans <|
    (W10_arr m ρ c 2).trans <| final4 (V9 m ρ) c _ _ _ (latent_in m ρ c) fun y z => by rw [weight4]; rfl

theorem result5 : W12 m ρ c (Proc.devRef .tc main_v20) = columns (t := .f32) .bf16 id (cached (m ((c : Thread nD τ).loc main_arg5))) (m ((c : Thread nD τ).loc main_arg4)) :=
  (W12_arr m ρ c 2).trans <| final5 (V11 m ρ) c _ _ _ (cached_eq m ρ c) fun y z => by rw [weight5]; rfl

end Cert.LowRank

end
-- ==== Proof.RefLowRank.lean ====
/- The reference's norms and low-rank products of the latent attention, index by index. -/
module

public import proofs.«01_k».proof.Proof.Gen.Reference5Ideal.Read
public import proofs.«01_k».proof.Proof.LowRankArray

@[expose] public section

set_option maxRecDepth 16384

noncomputable section

namespace Cert.RefLowRank

open Idealize.ShloMosaic Cert.Reference5Ideal Cert.Reference5Ideal.Gen Cert.Reference5Ideal.Read Cert.Layer Pointwise
open scoped BigOperators

variable (x0 : FVec Ideal S12288x832 .f32) (x1 : FVec Ideal S512 .f32) (x2 : FVec Ideal S512x1536 .f32) (x3 : FVec Ideal S256 .f32)
  (x4 : FVec Ideal S256x2048 .f32) (x5 : FVec Ideal S4x512x256 .f32)

/-! ## The norms -/

theorem latent_row (r : Fin 12288) (z : Fin 256) :
    val_main_v15 (F := Ideal) x0 x3 (ix2 r z)
      = rmsRow (Ideal.ofBits .f32 0x43800000#32) (fun y => val_main_v1 (F := Ideal) x0 (ix2 r y)) (fun y => x3 (ix1 y)) z := by
  unfold val_main_v15 val_main_v14 val_main_v13 val_main_v12 val_main_v11 val_main_v10 val_main_v9 val_main_v8 val_main_v7 val_main_v6 val_main_v5 val_main_v4 val_main_v3 val_main_cst val_main_cst_0 val_main_cst_1 rmsRow
  generalize val_main_v1 (F := Ideal) x0 = a
  pointwise

theorem latent : val_main_v15 (F := Ideal) x0 x3
    = rmsArray (R := 12288) (A := 12288) (B := 832) .f32 (Ideal.ofBits .f32 0x43800000#32) 0 512 (by omega) (by omega) x0 x3 := by
  funext i
  obtain ⟨r, z, rfl⟩ : ∃ (r : Fin 12288) (z : Fin 256), i = ix2 r z := ⟨i 0, i 1, by blk_ext⟩
  rw [latent_row]
  refine rmsArray_at _ _ _ _ _ _ _ _ _ _ _ _ (fun y => ?_) (fun y => rfl)
  rw [val_main_v1_apply]
  blk_ext

theorem query_row (r : Fin 12288) (z : Fin 512) :
    val_main_v28 (F := Ideal) x0 x1 (ix2 r z)
      = rmsRow (Ideal.ofBits .f32 0x44000000#32) (fun y => val_main_v0 (F := Ideal) x0 (ix2 r y)) (fun y => x1 (ix1 y)) z := by
  unfold val_main_v28 val_main_v27 val_main_v26 val_main_v25 val_main_v24 val_main_v23 val_main_v22 val_main_v21 val_main_v20 val_main_v19 val_main_v18 val_main_v17 val_main_v16 val_main_cst_2 val_main_cst_3 val_main_cst_4 rmsRow
  generalize val_main_v0 (F := Ideal) x0 = a
  pointwise

theorem query : val_main_v28 (F := Ideal) x0 x1
    = rmsArray (R := 12288) (A := 12288) (B := 832) .f32 (Ideal.ofBits .f32 0x44000000#32) 0 0 (by omega) (by omega) x0 x1 := by
  funext i
  obtain ⟨r, z, rfl⟩ : ∃ (r : Fin 12288) (z : Fin 512), i = ix2 r z := ⟨i 0, i 1, by blk_ext⟩
  rw [query_row]
  refine rmsArray_at _ _ _ _ _ _ _ _ _ _ _ _ (fun y => ?_) (fun y => rfl)
  rw [val_main_v0_apply]
  blk_ext

/-! ## The products -/

theorem result_nope : val_main_v38 (F := Ideal) x0 x1 x2 = columns .bf16 nope (rmsArray (R := 12288) (A := 12288) (B := 832) .bf16 (Ideal.ofBits .f32 0x44000000#32) 0 0 (by omega) (by omega) x0 x1) x2 := by
  funext i
  obtain ⟨r, z, rfl⟩ : ∃ (r : Fin 12288) (z : Fin 1024), i = ix2 r z := ⟨i 0, i 1, by blk_ext⟩
  rw [val_main_v38_apply]
  show val_main_v32 (F := Ideal) x0 x1 x2 (ix2 r z) = _
  rw [val_main_v32_apply, val_main_v31_apply, val_main_v30_apply, val_main_v29_apply, query]
  refine columns_at _ _ _ _ _ _ _ _ (fun y => ?_) (fun y => ?_)
  · show rmsArray (R := 12288) (A := 12288) (B := 832) .bf16 (Ideal.ofBits .f32 0x44000000#32) 0 0 (by omega) (by omega) x0 x1 _ = _
    blk_ext
  · unfold nope
    blk_ext

theorem result_rope : val_main_v34 (F := Ideal) x0 x1 x2 = columns .f32 rope (rmsArray (R := 12288) (A := 12288) (B := 832) .bf16 (Ideal.ofBits .f32 0x44000000#32) 0 0 (by omega) (by omega) x0 x1) x2 := by
  funext i
  obtain ⟨r, z, rfl⟩ : ∃ (r : Fin 12288) (z : Fin 512), i = ix2 r z := ⟨i 0, i 1, by blk_ext⟩
  rw [val_main_v34_apply, val_main_v33_apply, val_main_v30_apply, val_main_v29_apply, query]
  refine columns_at _ _ _ _ _ _ _ _ (fun y => ?_) (fun y => ?_)
  · show rmsArray (R := 12288) (A := 12288) (B := 832) .bf16 (Ideal.ofBits .f32 0x44000000#32) 0 0 (by omega) (by omega) x0 x1 _ = _
    blk_ext
  · unfold rope
    blk_ext

theorem result_kv : val_main_v39 (F := Ideal) x0 x3 x4 = columns (s := .f32) .bf16 id (rmsArray (R := 12288) (A := 12288) (B := 832) .f32 (Ideal.ofBits .f32 0x43800000#32) 0 512 (by omega) (by omega) x0 x3) x4 := by
  funext i
  obtain ⟨r, z, rfl⟩ : ∃ (r : Fin 12288) (z : Fin 2048), i = ix2 r z := ⟨i 0, i 1, by blk_ext⟩
  rw [val_main_v39_apply]
  show val_main_v35 (F := Ideal) x0 x3 x4 (ix2 r z) = _
  rw [val_main_v35_apply, latent]
  refine columns_at _ _ _ _ _ _ _ _ (fun y => ?_) (fun y => ?_)
  · blk_ext
  · unfold id
    blk_ext

theorem result_cached : val_main_v40 (F := Ideal) x4 x5 = columns .bf16 id (cached x5) x4 := by
  funext i
  obtain ⟨r, z, rfl⟩ : ∃ (r : Fin 2048) (z : Fin 2048), i = ix2 r z := ⟨i 0, i 1, by blk_ext⟩
  rw [val_main_v40_apply]
  show val_main_v37 (F := Ideal) x4 x5 (ix2 r z) = _
  rw [val_main_v37_apply, val_main_v36_apply]
  refine columns_at _ _ _ _ _ _ _ _ (fun y => ?_) (fun y => ?_)
  · unfold cached
    blk_ext
  · unfold id
    blk_ext

end Cert.RefLowRank

end
-- ==== Proof.FinalNorm.lean ====
/- The final norm of the context tokens and of the latent tokens: what the two calls leave in memory, index by index. -/
module

public import proofs.«01_k».proof.Proof.Gen.Kernel6Ideal.Frame
public import proofs.«01_k».proof.Proof.LowRankArray
public import Idealize.ShloMosaic.Lib.StableHlo.RunRead

@[expose] public section

set_option maxRecDepth 16384

noncomputable section

namespace Cert.FinalNorm

open Idealize.ShloMosaic Idealize.ShloMosaic.TcCoe Idealize.ShloMosaic.Pipeline Idealize.SL.Sem Cert.Kernel6Ideal Cert.Kernel6Ideal.Gen Cert.Layer Pointwise
open scoped BigOperators

/-! ## The bodies at an index -/

theorem norm_at0 (v0 : Vec Ideal S1024x2048 .f32) (v1 : Vec Ideal S1x2048 .f32) (r : Fin 1024) (z : Fin 2048) :
    k0_pay1 v0 v1 (ix2 r z) = rmsRow (Ideal.ofBits .f32 0x45000000#32) (fun y => v0 (ix2 r y)) (fun y => v1 (ix2 0 y)) z := by
  unfold rmsRow
  pointwise [k0_pay1]

theorem norm_at1 (v0 : Vec Ideal S1024x2048 .f32) (v1 : Vec Ideal S1x2048 .f32) (r : Fin 1024) (z : Fin 2048) :
    k1_pay1 v0 v1 (ix2 r z) = rmsRow (Ideal.ofBits .f32 0x45000000#32) (fun y => v0 (ix2 r y)) (fun y => v1 (ix2 0 y)) z := by
  unfold rmsRow
  pointwise [k1_pay1]

/-! ## The blocks -/

theorem index0 : ∀ t : Fin grid0.N, win0_0.index t = ![t.val, 0] ∧ win0_1.index t = ![0, 0] ∧ win0_2.index t = ![t.val, 0] := by decide +kernel

theorem index1 : ∀ t : Fin grid1.N, win1_0.index t = ![t.val + 4, 0] ∧ win1_1.index t = ![0, 0] ∧ win1_2.index t = ![t.val, 0] := by decide +kernel

variable (V : (c : Dev nD) → (b : Ref sig .tc) → Buf (Elt Ideal) ((c : Thread nD τ).loc b))

theorem final0 (c : Dev nD) (x : FVec Ideal S12288x2048 .f32) (g : FVec Ideal S2048 .f32)
    (hx : V c main_arg0 = x)
    (hg : ∀ y : Fin 2048, V c main_v0 (ix2 0 y) = g (ix1 y)) :
    (dat0 V c).arrAt 2 cfg0.N = rmsArray (R := 4096) .f32 (Ideal.ofBits .f32 0x45000000#32) 0 0 (by omega) (by omega) x g := by
  refine (dat0 V c).arrAt_eq_of_covers 2 _ (by decide +kernel) (fun t _ y => ?_)
  blk_simp
  rw [after0_2]
  frame_out
  obtain ⟨r, z, rfl⟩ : ∃ (r : Fin 1024) (z : Fin 2048), y = ix2 r z := ⟨y 0, y 1, by blk_ext⟩
  have e := index0 t
  have ht : t.val < 4 := t.isLt
  have hi : ((View.whole main_v1).slice (win0_2.rect t)).emb (ix2 r z) = ix2 (⟨t.val * 1024 + r.val, by omega⟩ : Fin 4096) z := by
    blk_ext [e]
  rw [hi, norm_at0]
  refine rmsArray_at _ _ _ _ _ _ _ _ _ _ _ _ (fun y => ?_) (fun y => ?_)
  · rw [← hx]
    unfold iblk0
    blk_ext [e]
  · refine Eq.trans ?_ (hg y)
    unfold iblk0
    blk_ext [e]

theorem final1 (c : Dev nD) (x : FVec Ideal S12288x2048 .f32) (g : FVec Ideal S2048 .f32)
    (hx : V c main_arg0 = x)
    (hg : ∀ y : Fin 2048, V c main_v2 (ix2 0 y) = g (ix1 y)) :
    (dat1 V c).arrAt 2 cfg1.N = rmsArray (R := 8192) .f32 (Ideal.ofBits .f32 0x45000000#32) 4096 0 (by omega) (by omega) x g := by
  refine (dat1 V c).arrAt_eq_of_covers 2 _ (by decide +kernel) (fun t _ y => ?_)
  blk_simp
  rw [after1_2]
  frame_out
  obtain ⟨r, z, rfl⟩ : ∃ (r : Fin 1024) (z : Fin 2048), y = ix2 r z := ⟨y 0, y 1, by blk_ext⟩
  have e := index1 t
  have ht : t.val < 8 := t.isLt
  have hi : ((View.whole main_v3).slice (win1_2.rect t)).emb (ix2 r z) = ix2 (⟨t.val * 1024 + r.val, by omega⟩ : Fin 8192) z := by
    blk_ext [e]
  rw [hi, norm_at1]
  refine rmsArray_at _ _ _ _ _ _ _ _ _ _ _ _ (fun y => ?_) (fun y => ?_)
  · rw [← hx]
    unfold iblk1
    blk_ext [e]
  · refine Eq.trans ?_ (hg y)
    unfold iblk1
    blk_ext [e]

/-! ## The run -/

section
open Idealize.SL Idealize.SL.RA Idealize.SL.BI Idealize.SL.BI.BIBase Idealize.SL.BI.Laws Idealize.SL.ProofMode
open scoped Idealize.SL.BI
open Idealize.ShloMosaic.Rounds

set_option backward.isDefEq.respectTransparency.types false in
/-- Every run ends, and leaves the arrays as the last boundary has them. -/
theorem run (m : (ℓ : Loc nD τ sig) → Buf (Elt Ideal) ℓ) (ρ : Dev nD → PrngReg) :
    θ_run defs (onTc (τ := τ) (main (F := Ideal))) ⟨m, fun _ => 0, ρ⟩
      (fun r => ∀ c : Dev nD, ∀ b ∈ Pipeline.ucRefs τ sig, r.2.mem ((c : Thread nD τ).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W4 m ρ c b)
    (hfin := fun c s' => by
      iintro ⟨⟨Hh, -⟩, HSI⟩
      unfold StableHlo.held
      imodintro
      iapply (pointsTo_read_all (Pipeline.ucRefs τ sig) (fun b => ((c : Thread nD τ).1, b)) (W4 m ρ c) s')
      isplitl [Hh] <;> iassumption)
    (hQ := fun _ h _ => h)

end

/-! ## The results from the arguments -/

variable (m : (ℓ : Loc nD τ sig) → Buf (Elt Ideal) ℓ) (ρ : Dev nD → PrngReg) (c : Dev nD)

theorem gain0 (y : Fin 2048) : V1 m ρ c main_v0 (ix2 0 y) = (m ((c : Thread nD τ).loc main_arg1)) (ix1 y) := by
  have e : V1 m ρ c main_v0 = shapeCast S1x2048 (m ((c : Thread nD τ).loc main_arg1)) shapeCasts_S2048_S1x2048 := by
    unfold V1 W1
    simp only [hostOps0]
    after_reads_simp <;> rfl
  rw [e]
  pointwise

theorem gain1 (y : Fin 2048) : V3 m ρ c main_v2 (ix2 0 y) = (m ((c : Thread nD τ).loc main_arg1)) (ix1 y) := by
  have e : V3 m ρ c main_v2 = shapeCast S1x2048 (m ((c : Thread nD τ).loc main_arg1)) shapeCasts_S2048_S1x2048 := by
    rw [← W2_args m ρ c main_arg1 (by decide)]
    unfold V3 W3
    simp only [hostOps1]
    after_reads_simp <;> rfl
  rw [e]
  pointwise

theorem result1 : W4 m ρ c (Proc.devRef .tc main_v1)
    = rmsArray (R := 4096) .f32 (Ideal.ofBits .f32 0x45000000#32) 0 0 (by omega) (by omega) (m ((c : Thread nD τ).loc main_arg0)) (m ((c : Thread nD τ).loc main_arg1)) :=
  (W4_of m ρ c main_v1 (by decide +kernel)).trans <| (W3_of m ρ c main_v1 (by decide)).trans <| (W2_arr m ρ c 2).trans <|
    final0 (V1 m ρ) c _ _ (W1_args m ρ c main_arg0 (by decide)) (gain0 m ρ c)

theorem result2 : W4 m ρ c (Proc.devRef .tc main_v3)
    = rmsArray (R := 8192) .f32 (Ideal.ofBits .f32 0x45000000#32) 4096 0 (by omega) (by omega) (m ((c : Thread nD τ).loc main_arg0)) (m ((c : Thread nD τ).loc main_arg1)) :=
  (W4_arr m ρ c 2).trans <| final1 (V3 m ρ) c _ _ (W3_args m ρ c main_arg0 (by decide)) (gain1 m ρ c)

end Cert.FinalNorm

end
-- ==== Proof.RefFinalNorm.lean ====
/- The reference's final norm, index by index. -/
module

public import proofs.«01_k».proof.Proof.Gen.Reference6Ideal.Read
public import proofs.«01_k».proof.Proof.LowRankArray

@[expose] public section

set_option maxRecDepth 16384

noncomputable section

namespace Cert.RefFinalNorm

open Idealize.ShloMosaic Cert.Reference6Ideal Cert.Reference6Ideal.Gen Cert.Reference6Ideal.Read Cert.Layer Pointwise
open scoped BigOperators

variable (x0 : FVec Ideal S12288x2048 .f32) (x1 : FVec Ideal S2048 .f32)

theorem result1_row (r : Fin 4096) (z : Fin 2048) :
    val_main_v13 (F := Ideal) x0 x1 (ix2 r z)
      = rmsRow (Ideal.ofBits .f32 0x45000000#32) (fun y => val_main_v0 (F := Ideal) x0 (ix2 r y)) (fun y => x1 (ix1 y)) z := by
  unfold val_main_v13 val_main_v12 val_main_v11 val_main_v10 val_main_v9 val_main_v8 val_main_v7 val_main_v6 val_main_v5 val_main_v4 val_main_v3 val_main_v2 val_main_v1 val_main_cst val_main_cst_0 val_main_cst_1 rmsRow
  generalize val_main_v0 (F := Ideal) x0 = a
  pointwise

theorem result1 : val_main_v13 (F := Ideal) x0 x1
    = rmsArray (R := 4096) (A := 12288) (B := 2048) .f32 (Ideal.ofBits .f32 0x45000000#32) 0 0 (by omega) (by omega) x0 x1 := by
  funext i
  obtain ⟨r, z, rfl⟩ : ∃ (r : Fin 4096) (z : Fin 2048), i = ix2 r z := ⟨i 0, i 1, by blk_ext⟩
  rw [result1_row]
  refine rmsArray_at _ _ _ _ _ _ _ _ _ _ _ _ (fun y => ?_) (fun y => rfl)
  rw [val_main_v0_apply]
  blk_ext

theorem result2_row (r : Fin 8192) (z : Fin 2048) :
    val_main_v27 (F := Ideal) x0 x1 (ix2 r z)
      = rmsRow (Ideal.ofBits .f32 0x45000000#32) (fun y => val_main_v14 (F := Ideal) x0 (ix2 r y)) (fun y => x1 (ix1 y)) z := by
  unfold val_main_v27 val_main_v26 val_main_v25 val_main_v24 val_main_v23 val_main_v22 val_main_v21 val_main_v20 val_main_v19 val_main_v18 val_main_v17 val_main_v16 val_main_v15 val_main_cst_2 val_main_cst_3 val_main_cst_4 rmsRow
  generalize val_main_v14 (F := Ideal) x0 = a
  pointwise

theorem result2 : val_main_v27 (F := Ideal) x0 x1
    = rmsArray (R := 8192) (A := 12288) (B := 2048) .f32 (Ideal.ofBits .f32 0x45000000#32) 4096 0 (by omega) (by omega) x0 x1 := by
  funext i
  obtain ⟨r, z, rfl⟩ : ∃ (r : Fin 8192) (z : Fin 2048), i = ix2 r z := ⟨i 0, i 1, by blk_ext⟩
  rw [result2_row]
  refine rmsArray_at _ _ _ _ _ _ _ _ _ _ _ _ (fun y => ?_) (fun y => rfl)
  rw [val_main_v14_apply]
  blk_ext

end Cert.RefFinalNorm

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Final
public import proofs.«01_k».proof.Proof.HostReads
public import proofs.«01_k».proof.Proof.Finite
public import proofs.«01_k».proof.Proof.ProjectionsRun
public import proofs.«01_k».proof.Proof.RefProjections
public import proofs.«01_k».proof.Proof.Merge
public import proofs.«01_k».proof.Proof.RefMerge
public import proofs.«01_k».proof.Proof.Experts
public import proofs.«01_k».proof.Proof.RefNorm4
public import proofs.«01_k».proof.Proof.LowRank
public import proofs.«01_k».proof.Proof.RefLowRank
public import proofs.«01_k».proof.Proof.FinalNorm
public import proofs.«01_k».proof.Proof.RefFinalNorm
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem Idealize.ShloMosaic.StableHlo

theorem frame_k : Cert.quiescent_Kernel := fun m ρ _ => Cert.Kernel.Gen.frame m ρ
theorem frame_ki : Cert.quiescent_KernelIdeal := fun m ρ _ => Cert.KernelIdeal.Gen.frame m ρ
theorem frame_ki_finite : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ri_finite : Cert.quiescent_ReferenceIdeal_pre_finite := fun m ρ _ => frame_ri m ρ trivial
theorem preserves : Cert.preserves_Kernel_KernelIdeal := trivial

/-- The kernel's result array is the reference's: the layouts of the arguments, the rotated lanes, and one softmax row each. -/
theorem algebraic : Cert.algebraic_KernelIdeal_ReferenceIdeal_pre_finite := by
  intro m ρ m' ρ' hpre hagree
  have key (c : Dev Cert.KernelIdeal.nD) : Cert.ReferenceIdeal.Read.val_main_v182 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      = Cert.Attn.attnOf m c := by
    obtain ⟨h0, h1, h2, h3, h4, h5⟩ := hpre c
    exact Cert.Attn.result_eq (Cert.Attn.reads m c) (Cert.Attn.real_bf16 _ _ h0) (Cert.Attn.real_f32 _ _ h1) (Cert.Attn.real_bf16 _ _ h2)
      (Cert.Attn.real_f32 _ _ h3) (Cert.Attn.real_bf16 _ _ h4) (Cert.Attn.real_f32 _ _ h5)
  refine ⟨fun c => Cert.Attn.attnOf m c, ?_, ?_⟩
  · exact (θ_run Cert.KernelIdeal.defs _ _).mono (fun _ h c => ⟨(h c).1.trans (Cert.Attn.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v182_eq (launchContents m' c)).trans (.trans ?_ (key c))
    obtain ⟨a0, a1, a2, a3, a4, a5⟩ := hagree c
    rw [launchContents_devRef, launchContents_devRef, launchContents_devRef, launchContents_devRef, launchContents_devRef, launchContents_devRef,
      a0, a1, a2, a3, a4, a5]

theorem frame_k2 : Cert.quiescent_Kernel2 := fun m ρ _ => Cert.Kernel2.Gen.frame m ρ
theorem frame_ki2 : Cert.quiescent_Kernel2Ideal := fun m ρ _ => Cert.Kernel2Ideal.Gen.frame m ρ
theorem frame_ri2 : Cert.quiescent_Reference2Ideal := fun m ρ _ =>
  (θ_run Cert.Reference2Ideal.defs _ _).mono (fun r h => ⟨fun c => (h c).2.2.2.2.2.2.2.2, sem_eq_zero_of_no_sems (by decide) r.2⟩)
    (Cert.Reference2Ideal.Value.run (F := Ideal) m ρ)
theorem preserves2 : Cert.preserves_Kernel2_Kernel2Ideal := trivial

theorem frame_k3 : Cert.quiescent_Kernel3 := fun m ρ _ => Cert.Kernel3.Gen.frame m ρ
theorem frame_ki3 : Cert.quiescent_Kernel3Ideal := fun m ρ _ => Cert.Kernel3Ideal.Gen.frame m ρ
theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
theorem preserves3 : Cert.preserves_Kernel3_Kernel3Ideal := trivial

theorem frame_k4 : Cert.quiescent_Kernel4 := fun m ρ _ => Cert.Kernel4.Gen.frame m ρ
theorem frame_ki4 : Cert.quiescent_Kernel4Ideal := fun m ρ _ => Cert.Kernel4Ideal.Gen.frame m ρ
theorem frame_ri4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)
theorem preserves4 : Cert.preserves_Kernel4_Kernel4Ideal := trivial

/-- The eight projections: columns of the product of the modulated norm with the input weight. -/
theorem algebraic2 : Cert.algebraic_Kernel2Ideal_Reference2Ideal := by
  intro m ρ m' ρ' _ hagree
  refine ⟨fun c => Cert.Layer.proj (R := 12288) (N := 832) .f32 0 (by omega) (by omega) (Cert.Projections.normOf m c) (m ((c.tc : Thread Cert.Kernel2Ideal.nD Cert.Kernel2Ideal.τ).loc Cert.Kernel2Ideal.main_arg3)), fun c => Cert.Layer.proj (R := 12288) (N := 3072) .bf16 832 (by omega) (by omega) (Cert.Projections.normOf m c) (m ((c.tc : Thread Cert.Kernel2Ideal.nD Cert.Kernel2Ideal.τ).loc Cert.Kernel2Ideal.main_arg3)), fun c => Cert.Layer.proj (R := 12288) (N := 1024) .bf16 3904 (by omega) (by omega) (Cert.Projections.normOf m c) (m ((c.tc : Thread Cert.Kernel2Ideal.nD Cert.Kernel2Ideal.τ).loc Cert.Kernel2Ideal.main_arg3)), fun c => Cert.Layer.proj (R := 12288) (N := 32) .f32 4928 (by omega) (by omega) (Cert.Projections.normOf m c) (m ((c.tc : Thread Cert.Kernel2Ideal.nD Cert.Kernel2Ideal.τ).loc Cert.Kernel2Ideal.main_arg3)), fun c => Cert.Layer.proj (R := 12288) (N := 3072) .bf16 4960 (by omega) (by omega) (Cert.Projections.normOf m c) (m ((c.tc : Thread Cert.Kernel2Ideal.nD Cert.Kernel2Ideal.τ).loc Cert.Kernel2Ideal.main_arg3)), fun c => Cert.Layer.proj (R := 12288) (N := 3072) .bf16 8032 (by omega) (by omega) (Cert.Projections.normOf m c) (m ((c.tc : Thread Cert.Kernel2Ideal.nD Cert.Kernel2Ideal.τ).loc Cert.Kernel2Ideal.main_arg3)), fun c => Cert.Layer.proj (R := 4096) (N := 2048) .f32 9056 (by omega) (by omega) (Cert.Projections.normOf m c) (m ((c.tc : Thread Cert.Kernel2Ideal.nD Cert.Kernel2Ideal.τ).loc Cert.Kernel2Ideal.main_arg3)), fun c => Cert.Layer.proj (R := 12288) (N := 8192) .bf16 11104 (by omega) (by omega) (Cert.Projections.normOf m c) (m ((c.tc : Thread Cert.Kernel2Ideal.nD Cert.Kernel2Ideal.τ).loc Cert.Kernel2Ideal.main_arg3)), ?_, ?_⟩
  · exact (θ_run Cert.Kernel2Ideal.defs _ _).mono (fun _ h c =>
      ⟨(h c _ (Cert.Kernel2Ideal.Gen.mem_uc Cert.Kernel2Ideal.main_v4 (by decide))).trans (Cert.Projections.result1 m ρ c),
        (h c _ (Cert.Kernel2Ideal.Gen.mem_uc Cert.Kernel2Ideal.main_v7 (by decide))).trans (Cert.Projections.result2 m ρ c),
        (h c _ (Cert.Kernel2Ideal.Gen.mem_uc Cert.Kernel2Ideal.main_v10 (by decide))).trans (Cert.Projections.result3 m ρ c),
        (h c _ (Cert.Kernel2Ideal.Gen.mem_uc Cert.Kernel2Ideal.main_v13 (by decide))).trans (Cert.Projections.result4 m ρ c),
        (h c _ (Cert.Kernel2Ideal.Gen.mem_uc Cert.Kernel2Ideal.main_v16 (by decide))).trans (Cert.Projections.result5 m ρ c),
        (h c _ (Cert.Kernel2Ideal.Gen.mem_uc Cert.Kernel2Ideal.main_v19 (by decide))).trans (Cert.Projections.result6 m ρ c),
        (h c _ (Cert.Kernel2Ideal.Gen.mem_uc Cert.Kernel2Ideal.main_v22 (by decide))).trans (Cert.Projections.result7 m ρ c),
        (h c _ (Cert.Kernel2Ideal.Gen.mem_uc Cert.Kernel2Ideal.main_v25 (by decide))).trans (Cert.Projections.result8 m ρ c),
        (h c _ (Cert.Kernel2Ideal.Gen.mem_uc Cert.Kernel2Ideal.main_arg0 (by decide))).trans (Cert.Kernel2Ideal.Gen.W18_main_arg0 m ρ c),
        (h c _ (Cert.Kernel2Ideal.Gen.mem_uc Cert.Kernel2Ideal.main_arg1 (by decide))).trans (Cert.Kernel2Ideal.Gen.W18_main_arg1 m ρ c),
        (h c _ (Cert.Kernel2Ideal.Gen.mem_uc Cert.Kernel2Ideal.main_arg2 (by decide))).trans (Cert.Kernel2Ideal.Gen.W18_main_arg2 m ρ c),
        (h c _ (Cert.Kernel2Ideal.Gen.mem_uc Cert.Kernel2Ideal.main_arg3 (by decide))).trans (Cert.Kernel2Ideal.Gen.W18_main_arg3 m ρ c)⟩)
      (Cert.Projections.run m ρ)
  · refine (θ_run Cert.Reference2Ideal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩)
      (Cert.Reference2Ideal.Value.run (F := Ideal) m' ρ')
    · obtain ⟨a0, a1, a2, a3⟩ := hagree c
      refine (Cert.Reference2Ideal.Read.val_main_v61_eq m' c).trans ?_
      rw [a0, a1, a2, a3]
      exact Cert.RefNorm2.result1 _ _ _ _
    · obtain ⟨a0, a1, a2, a3⟩ := hagree c
      refine (Cert.Reference2Ideal.Read.val_main_v68_eq m' c).trans ?_
      rw [a0, a1, a2, a3]
      exact Cert.RefNorm2.result2 _ _ _ _
    · obtain ⟨a0, a1, a2, a3⟩ := hagree c
      refine (Cert.Reference2Ideal.Read.val_main_v69_eq m' c).trans ?_
      rw [a0, a1, a2, a3]
      exact Cert.RefNorm2.result3 _ _ _ _
    · obtain ⟨a0, a1, a2, a3⟩ := hagree c
      refine (Cert.Reference2Ideal.Read.val_main_v64_eq m' c).trans ?_
      rw [a0, a1, a2, a3]
      exact Cert.RefNorm2.result4 _ _ _ _
    · obtain ⟨a0, a1, a2, a3⟩ := hagree c
      refine (Cert.Reference2Ideal.Read.val_main_v70_eq m' c).trans ?_
      rw [a0, a1, a2, a3]
      exact Cert.RefNorm2.result5 _ _ _ _
    · obtain ⟨a0, a1, a2, a3⟩ := hagree c
      refine (Cert.Reference2Ideal.Read.val_main_v71_eq m' c).trans ?_
      rw [a0, a1, a2, a3]
      exact Cert.RefNorm2.result6 _ _ _ _
    · obtain ⟨a0, a1, a2, a3⟩ := hagree c
      refine (Cert.Reference2Ideal.Read.val_main_v72_eq m' c).trans ?_
      rw [a0, a1, a2, a3]
      exact Cert.RefNorm2.result7 _ _ _ _
    · obtain ⟨a0, a1, a2, a3⟩ := hagree c
      refine (Cert.Reference2Ideal.Read.val_main_v73_eq m' c).trans ?_
      rw [a0, a1, a2, a3]
      exact Cert.RefNorm2.result8 _ _ _ _

/-- The gated sum of the four branches, its product with the output weight, and the residual. -/
theorem algebraic3 : Cert.algebraic_Kernel3Ideal_Reference3Ideal := by
  intro m ρ m' ρ' _ hagree
  refine ⟨fun c => Cert.Layer.resid (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))
      (Cert.Layer.mergedArray (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)))
      (m ((c.tc : Thread Cert.Kernel3Ideal.nD Cert.Kernel3Ideal.τ).loc Cert.Kernel3Ideal.main_arg10)), ?_, ?_⟩
  · exact (θ_run Cert.Kernel3Ideal.defs _ _).mono (fun _ h c =>
      ⟨(h c _ (Cert.Kernel3Ideal.Gen.mem_uc Cert.Kernel3Ideal.main_v3 (by decide))).trans (Cert.Merge.result m ρ c),
        (h c _ (Cert.Kernel3Ideal.Gen.mem_uc Cert.Kernel3Ideal.main_arg0 (by decide))).trans (Cert.Kernel3Ideal.Gen.W4_main_arg0 m ρ c),
        (h c _ (Cert.Kernel3Ideal.Gen.mem_uc Cert.Kernel3Ideal.main_arg1 (by decide))).trans (Cert.Kernel3Ideal.Gen.W4_main_arg1 m ρ c),
        (h c _ (Cert.Kernel3Ideal.Gen.mem_uc Cert.Kernel3Ideal.main_arg2 (by decide))).trans (Cert.Kernel3Ideal.Gen.W4_main_arg2 m ρ c),
        (h c _ (Cert.Kernel3Ideal.Gen.mem_uc Cert.Kernel3Ideal.main_arg3 (by decide))).trans (Cert.Kernel3Ideal.Gen.W4_main_arg3 m ρ c),
        (h c _ (Cert.Kernel3Ideal.Gen.mem_uc Cert.Kernel3Ideal.main_arg4 (by decide))).trans (Cert.Kernel3Ideal.Gen.W4_main_arg4 m ρ c),
        (h c _ (Cert.Kernel3Ideal.Gen.mem_uc Cert.Kernel3Ideal.main_arg5 (by decide))).trans (Cert.Kernel3Ideal.Gen.W4_main_arg5 m ρ c),
        (h c _ (Cert.Kernel3Ideal.Gen.mem_uc Cert.Kernel3Ideal.main_arg6 (by decide))).trans (Cert.Kernel3Ideal.Gen.W4_main_arg6 m ρ c),
        (h c _ (Cert.Kernel3Ideal.Gen.mem_uc Cert.Kernel3Ideal.main_arg7 (by decide))).trans (Cert.Kernel3Ideal.Gen.W4_main_arg7 m ρ c),
        (h c _ (Cert.Kernel3Ideal.Gen.mem_uc Cert.Kernel3Ideal.main_arg8 (by decide))).trans (Cert.Kernel3Ideal.Gen.W4_main_arg8 m ρ c),
        (h c _ (Cert.Kernel3Ideal.Gen.mem_uc Cert.Kernel3Ideal.main_arg9 (by decide))).trans (Cert.Kernel3Ideal.Gen.W4_main_arg9 m ρ c),
        (h c _ (Cert.Kernel3Ideal.Gen.mem_uc Cert.Kernel3Ideal.main_arg10 (by decide))).trans (Cert.Kernel3Ideal.Gen.W4_main_arg10 m ρ c),
        (h c _ (Cert.Kernel3Ideal.Gen.mem_uc Cert.Kernel3Ideal.main_arg11 (by decide))).trans (Cert.Kernel3Ideal.Gen.W4_main_arg11 m ρ c),
        (h c _ (Cert.Kernel3Ideal.Gen.mem_uc Cert.Kernel3Ideal.main_arg12 (by decide))).trans (Cert.Kernel3Ideal.Gen.W4_main_arg12 m ρ c)⟩)
      (Cert.Merge.run m ρ)
  · refine (θ_run Cert.Reference3Ideal.defs _ _).mono (fun _ h c => ⟨(h c).1.trans ?_, (h c).2⟩)
      (Cert.Reference3Ideal.Value.run (F := Ideal) m' ρ')
    obtain ⟨a0, a1, a2, a3, a4, a5, a6, a7, a8, a9, a10, a11, a12⟩ := hagree c
    refine (Cert.Reference3Ideal.Read.val_main_v70_eq m' c).trans ?_
    rw [a0, a1, a2, a3, a4, a5, a6, a7, a8, a9, a10, a11, a12]
    exact Cert.RefMerge.result _ _ _ _ _ _ _ _ _ _ _ _ _

/-- The product of the second modulated norm with the experts' query weight. -/
theorem algebraic4 : Cert.algebraic_Kernel4Ideal_Reference4Ideal := by
  intro m ρ m' ρ' _ hagree
  refine ⟨fun c => Cert.Layer.product (s := .bf16) (t := .f32) .f32 (Cert.Layer.normArray (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) 3 4)
      (m ((c.tc : Thread Cert.Kernel4Ideal.nD Cert.Kernel4Ideal.τ).loc Cert.Kernel4Ideal.main_arg3)), ?_, ?_⟩
  · exact (θ_run Cert.Kernel4Ideal.defs _ _).mono (fun _ h c =>
      ⟨(h c _ (Cert.Kernel4Ideal.Gen.mem_uc Cert.Kernel4Ideal.main_v3 (by decide))).trans (Cert.Experts.result m ρ c),
        (h c _ (Cert.Kernel4Ideal.Gen.mem_uc Cert.Kernel4Ideal.main_arg0 (by decide))).trans (Cert.Kernel4Ideal.Gen.W4_main_arg0 m ρ c),
        (h c _ (Cert.Kernel4Ideal.Gen.mem_uc Cert.Kernel4Ideal.main_arg1 (by decide))).trans (Cert.Kernel4Ideal.Gen.W4_main_arg1 m ρ c),
        (h c _ (Cert.Kernel4Ideal.Gen.mem_uc Cert.Kernel4Ideal.main_arg2 (by decide))).trans (Cert.Kernel4Ideal.Gen.W4_main_arg2 m ρ c),
        (h c _ (Cert.Kernel4Ideal.Gen.mem_uc Cert.Kernel4Ideal.main_arg3 (by decide))).trans (Cert.Kernel4Ideal.Gen.W4_main_arg3 m ρ c)⟩)
      (Cert.Experts.run m ρ)
  · refine (θ_run Cert.Reference4Ideal.defs _ _).mono (fun _ h c => ⟨(h c).1.trans ?_, (h c).2⟩)
      (Cert.Reference4Ideal.Value.run (F := Ideal) m' ρ')
    obtain ⟨a0, a1, a2, a3⟩ := hagree c
    refine (Cert.Reference4Ideal.Read.val_main_v60_eq m' c).trans ?_
    rw [a0, a1, a2, a3]
    exact Cert.RefNorm4.result _ _ _ _

theorem frame_k5 : Cert.quiescent_Kernel5 := fun m ρ _ => Cert.Kernel5.Gen.frame m ρ
theorem frame_ki5 : Cert.quiescent_Kernel5Ideal := fun m ρ _ => Cert.Kernel5Ideal.Gen.frame m ρ
theorem frame_ri5 : Cert.quiescent_Reference5Ideal := fun m ρ _ =>
  (θ_run Cert.Reference5Ideal.defs _ _).mono (fun r h => ⟨fun c => (h c).2.2.2.2.2, sem_eq_zero_of_no_sems (by decide) r.2⟩)
    (Cert.Reference5Ideal.Value.run (F := Ideal) m ρ)
theorem preserves5 : Cert.preserves_Kernel5_Kernel5Ideal := trivial

theorem frame_k6 : Cert.quiescent_Kernel6 := fun m ρ _ => Cert.Kernel6.Gen.frame m ρ
theorem frame_ki6 : Cert.quiescent_Kernel6Ideal := fun m ρ _ => Cert.Kernel6Ideal.Gen.frame m ρ
theorem frame_ri6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)
theorem preserves6 : Cert.preserves_Kernel6_Kernel6Ideal := trivial

/-- The norms and the low-rank products of the latent attention. -/
theorem algebraic5 : Cert.algebraic_Kernel5Ideal_Reference5Ideal := by
  intro m ρ m' ρ' _ hagree
  refine ⟨fun c => Cert.LowRank.latentOf m c, fun c => Cert.Layer.columns (t := .f32) .bf16 Cert.Layer.nope (Cert.LowRank.queryOf m c) (m ((c.tc : Thread Cert.Kernel5Ideal.nD Cert.Kernel5Ideal.τ).loc Cert.Kernel5Ideal.main_arg2)), fun c => Cert.Layer.columns (t := .f32) .f32 Cert.Layer.rope (Cert.LowRank.queryOf m c) (m ((c.tc : Thread Cert.Kernel5Ideal.nD Cert.Kernel5Ideal.τ).loc Cert.Kernel5Ideal.main_arg2)), fun c => Cert.Layer.columns (s := .bf16) (t := .f32) .bf16 id (Cert.LowRank.latentOf m c) (m ((c.tc : Thread Cert.Kernel5Ideal.nD Cert.Kernel5Ideal.τ).loc Cert.Kernel5Ideal.main_arg4)), fun c => Cert.Layer.columns (t := .f32) .bf16 id (Cert.Layer.cached (m ((c.tc : Thread Cert.Kernel5Ideal.nD Cert.Kernel5Ideal.τ).loc Cert.Kernel5Ideal.main_arg5))) (m ((c.tc : Thread Cert.Kernel5Ideal.nD Cert.Kernel5Ideal.τ).loc Cert.Kernel5Ideal.main_arg4)), ?_, ?_⟩
  · exact (θ_run Cert.Kernel5Ideal.defs _ _).mono (fun _ h c =>
      ⟨(h c _ (Cert.Kernel5Ideal.Gen.mem_uc Cert.Kernel5Ideal.main_v5 (by decide))).trans (Cert.LowRank.result1 m ρ c),
        (h c _ (Cert.Kernel5Ideal.Gen.mem_uc Cert.Kernel5Ideal.main_v10 (by decide))).trans (Cert.LowRank.result2 m ρ c),
        (h c _ (Cert.Kernel5Ideal.Gen.mem_uc Cert.Kernel5Ideal.main_v14 (by decide))).trans (Cert.LowRank.result3 m ρ c),
        (h c _ (Cert.Kernel5Ideal.Gen.mem_uc Cert.Kernel5Ideal.main_v17 (by decide))).trans (Cert.LowRank.result4 m ρ c),
        (h c _ (Cert.Kernel5Ideal.Gen.mem_uc Cert.Kernel5Ideal.main_v20 (by decide))).trans (Cert.LowRank.result5 m ρ c),
        (h c _ (Cert.Kernel5Ideal.Gen.mem_uc Cert.Kernel5Ideal.main_arg0 (by decide))).trans (Cert.Kernel5Ideal.Gen.W12_main_arg0 m ρ c),
        (h c _ (Cert.Kernel5Ideal.Gen.mem_uc Cert.Kernel5Ideal.main_arg1 (by decide))).trans (Cert.Kernel5Ideal.Gen.W12_main_arg1 m ρ c),
        (h c _ (Cert.Kernel5Ideal.Gen.mem_uc Cert.Kernel5Ideal.main_arg2 (by decide))).trans (Cert.Kernel5Ideal.Gen.W12_main_arg2 m ρ c),
        (h c _ (Cert.Kernel5Ideal.Gen.mem_uc Cert.Kernel5Ideal.main_arg3 (by decide))).trans (Cert.Kernel5Ideal.Gen.W12_main_arg3 m ρ c),
        (h c _ (Cert.Kernel5Ideal.Gen.mem_uc Cert.Kernel5Ideal.main_arg4 (by decide))).trans (Cert.Kernel5Ideal.Gen.W12_main_arg4 m ρ c),
        (h c _ (Cert.Kernel5Ideal.Gen.mem_uc Cert.Kernel5Ideal.main_arg5 (by decide))).trans (Cert.Kernel5Ideal.Gen.W12_main_arg5 m ρ c)⟩)
      (Cert.LowRank.run m ρ)
  · refine (θ_run Cert.Reference5Ideal.defs _ _).mono (fun _ h c => ⟨(h c).1.trans ?_, (h c).2.1.trans ?_, (h c).2.2.1.trans ?_, (h c).2.2.2.1.trans ?_, (h c).2.2.2.2.1.trans ?_, (h c).2.2.2.2.2⟩)
      (Cert.Reference5Ideal.Value.run (F := Ideal) m' ρ')
    · obtain ⟨a0, a1, a2, a3, a4, a5⟩ := hagree c
      refine (Cert.Reference5Ideal.Read.val_main_v15_eq _ _).trans ?_
      rw [a0, a3]
      exact Cert.RefLowRank.latent _ _
    · obtain ⟨a0, a1, a2, a3, a4, a5⟩ := hagree c
      refine (Cert.Reference5Ideal.Read.val_main_v38_eq _ _ _).trans ?_
      rw [a0, a1, a2]
      exact Cert.RefLowRank.result_nope _ _ _
    · obtain ⟨a0, a1, a2, a3, a4, a5⟩ := hagree c
      refine (Cert.Reference5Ideal.Read.val_main_v34_eq _ _ _).trans ?_
      rw [a0, a1, a2]
      exact Cert.RefLowRank.result_rope _ _ _
    · obtain ⟨a0, a1, a2, a3, a4, a5⟩ := hagree c
      refine (Cert.Reference5Ideal.Read.val_main_v39_eq _ _ _).trans ?_
      rw [a0, a3, a4]
      exact Cert.RefLowRank.result_kv _ _ _
    · obtain ⟨a0, a1, a2, a3, a4, a5⟩ := hagree c
      refine (Cert.Reference5Ideal.Read.val_main_v40_eq _ _).trans ?_
      rw [a4, a5]
      exact Cert.RefLowRank.result_cached _ _

/-- The final norm of the context tokens and of the latent tokens. -/
theorem algebraic6 : Cert.algebraic_Kernel6Ideal_Reference6Ideal := by
  intro m ρ m' ρ' _ hagree
  refine ⟨fun c => Cert.Layer.rmsArray (R := 4096) .f32 (Ideal.ofBits .f32 0x45000000#32) 0 0 (by omega) (by omega) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), fun c => Cert.Layer.rmsArray (R := 8192) .f32 (Ideal.ofBits .f32 0x45000000#32) 4096 0 (by omega) (by omega) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), ?_, ?_⟩
  · exact (θ_run Cert.Kernel6Ideal.defs _ _).mono (fun _ h c =>
      ⟨(h c _ (Cert.Kernel6Ideal.Gen.mem_uc Cert.Kernel6Ideal.main_v1 (by decide))).trans (Cert.FinalNorm.result1 m ρ c),
        (h c _ (Cert.Kernel6Ideal.Gen.mem_uc Cert.Kernel6Ideal.main_v3 (by decide))).trans (Cert.FinalNorm.result2 m ρ c),
        (h c _ (Cert.Kernel6Ideal.Gen.mem_uc Cert.Kernel6Ideal.main_arg0 (by decide))).trans (Cert.Kernel6Ideal.Gen.W4_main_arg0 m ρ c),
        (h c _ (Cert.Kernel6Ideal.Gen.mem_uc Cert.Kernel6Ideal.main_arg1 (by decide))).trans (Cert.Kernel6Ideal.Gen.W4_main_arg1 m ρ c)⟩)
      (Cert.FinalNorm.run m ρ)
  · refine (θ_run Cert.Reference6Ideal.defs _ _).mono (fun _ h c => ⟨(h c).1.trans ?_, (h c).2.1.trans ?_, (h c).2.2⟩)
      (Cert.Reference6Ideal.Value.run (F := Ideal) m' ρ')
    · obtain ⟨a0, a1⟩ := hagree c
      refine (Cert.Reference6Ideal.Read.val_main_v13_eq _ _).trans ?_
      rw [a0, a1]
      exact Cert.RefFinalNorm.result1 _ _
    · obtain ⟨a0, a1⟩ := hagree c
      refine (Cert.Reference6Ideal.Read.val_main_v27_eq _ _).trans ?_
      rw [a0, a1]
      exact Cert.RefFinalNorm.result2 _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Attn.finite_facts,
  frame_k, frame_ki, frame_ki_finite, frame_ri, frame_ri_finite, frame_k2, frame_ki2, frame_ri2, frame_k3, frame_ki3, frame_ri3,
  frame_k4, frame_ki4, frame_ri4, frame_k5, frame_ki5, frame_ri5, frame_k6, frame_ki6, frame_ri6,
  preserves, algebraic, preserves2, algebraic2, preserves3, algebraic3, preserves4, algebraic4,
  preserves5, algebraic5, preserves6, algebraic6⟩

end Cert.Proof

end
